-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1x1024x1024 .bf16) (main_arg1 : FVec F S1024x1024 .bf16) (main_arg2 : FVec F S1x1024x64x128 .bf16) (main_arg3 : FVec F S1x1024x64x128 .bf16) (main_arg4 : FVec F S1024x1024 .bf16) : IVec S_ 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_c : IVec S_ 1 := constantI S_ 1 1#1
  let main_v4 : IVec S_ 1 := (fun x v => Host.reduce IntOp.andi x v reducesTo_S1x1024x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x1024x64x128 .f32 := (extf .f32 · bitsLt_bf16_f32) main_arg2
  let main_v12 : FVec F S1x1024x64x128 .f32 := Host.absf main_v11
  let main_cst_2 : FVec F S_ .f32 := constant S_ .f32 0x7F800000#32
  let main_v13 : FVec F S1x1024x64x128 .f32 := broadcastInDim S1x1024x64x128 ![] bcast_S_S1x1024x64x128 main_cst_2
  let main_v14 : IVec S1x1024x64x128 1 := cmpf .olt main_v12 main_v13
  let main_c_3 : IVec S_ 1 := constantI S_ 1 1#1
  let main_v15 : IVec S_ 1 := (fun x v => Host.reduce IntOp.andi x v reducesTo_S1x1024x64x128_S_d0_1_2_3 h_S_) main_v14 main_c_3
  let main_v16 : IVec S_ 1 := andi main_v10 main_v15
  main_v16
-- ==== Pre_finite_ReferenceIdeal.lean ====
abbrev S1x1024x1024 : Shape := ⟨3, ![1, 1024, 1024]⟩
abbrev S1024x8192 : Shape := ⟨2, ![1024, 8192]⟩
abbrev S1x8192x64x128 : Shape := ⟨4, ![1, 8192, 64, 128]⟩
abbrev S8192x1024 : Shape := ⟨2, ![8192, 1024]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x8192x64x128 : S_.BroadcastsInDim S1x8192x64x128 (![] : Fin 0 → Fin S1x8192x64x128.rank)
  reducesTo_S1x8192x64x128_S_d0_1_2_3 : S1x8192x64x128.ReducesTo [0, 1, 2, 3] S_

variable [Facts]

def fn {F : FTy → Type} [FloatOps F] (main_arg0 : FVec F S1x1024x1024 .bf16) (main_arg1 : FVec F S1024x8192 .bf16) (main_arg2 : FVec F S1x8192x64x128 .bf16) (main_arg3 : FVec F S1x8192x64x128 .bf16) (main_arg4 : FVec F S8192x1024 .bf16) : IVec S_ 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_c : IVec S_ 1 := constantI S_ 1 1#1
  let main_v4 : IVec S_ 1 := (fun x v => Host.reduce IntOp.andi x v reducesTo_S1x1024x1024_S_d0_1_2 h_S_) main_v3 main_c
  let main_v5 : FVec F S1024x8192 .f32 := (extf .f32 · bitsLt_bf16_f32) main_arg1
  let main_v6 : FVec F S1024x8192 .f32 := Host.absf main_v5
  let main_cst_0 : FVec F S_ .f32 := constant S_ .f32 0x7F800000#32
  let main_v7 : FVec F S1024x8192 .f32 := broadcastInDim S1024x8192 ![] bcast_S_S1024x8192 main_cst_0
  let main_v8 : IVec S1024x8192 1 := cmpf .olt main_v6 main_v7
  let main_c_1 : IVec S_ 1 := constantI S_ 1 1#1
  let main_v9 : IVec S_ 1 := (fun x v => Host.reduce IntOp.andi x v reducesTo_S1024x8192_S_d0_1 h_S_) main_v8 main_c_1
  let main_v10 : IVec S_ 1 := andi main_v4 main_v9
  let main_v11 : FVec F S1x8192x64x128 .f32 := (extf .f32 · bitsLt_bf16_f32) main_arg2
  let main_v12 : FVec F S1x8192x64x128 .f32 := Host.absf main_v11
  let main_cst_2 : FVec F S_ .f32 := constant S_ .f32 0x7F800000#32
  let main_v13 : FVec F S1x8192x64x128 .f32 := broadcastInDim S1x8192x64x128 ![] bcast_S_S1x8192x64x128 main_cst_2
  let main_v14 : IVec S1x8192x64x128 1 := cmpf .olt main_v12 main_v13
  let main_c_3 : IVec S_ 1 := constantI S_ 1 1#1
  let main_v15 : IVec S_ 1 := (fun x v => Host.reduce IntOp.andi x v reducesTo_S1x8192x64x128_S_d0_1_2_3 h_S_) main_v14 main_c_3
  let main_v16 : IVec S_ 1 := andi main_v10 main_v15
  main_v16
-- ==== Kernel.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S1024x64x128 : Shape := ⟨3, ![1024, 64, 128]⟩
abbrev S64x1024x128 : Shape := ⟨3, ![64, 1024, 128]⟩
abbrev S8x8x1024x128 : Shape := ⟨4, ![8, 8, 1024, 128]⟩
abbrev S8x1024x128 : Shape := ⟨3, ![8, 1024, 128]⟩
abbrev S8x4x2x128x1 : Shape := ⟨5, ![8, 4, 2, 128, 1]⟩
abbrev S7 : Shape := ⟨1, ![7]⟩
abbrev S8 : Shape := ⟨1, ![8]⟩
abbrev S_ : Shape := ⟨0, ![]⟩
abbrev S1 : Shape := ⟨1, ![1]⟩
abbrev S8x1x1024x128 : Shape := ⟨4, ![8, 1, 1024, 128]⟩
abbrev S1024x128 : Shape := ⟨2, ![1024, 128]⟩
abbrev S1x1024x128 : Shape := ⟨3, ![1, 1024, 128]⟩
abbrev S256x1024 : Shape := ⟨2, ![256, 1024]⟩
abbrev S1x256x128 : Shape := ⟨3, ![1, 256, 128]⟩
abbrev S256x128 : Shape := ⟨2, ![256, 128]⟩
abbrev S1x1x1024x128 : Shape := ⟨4, ![1, 1, 1024, 128]⟩
abbrev S2x128x1024 : Shape := ⟨3, ![2, 128, 1024]⟩
abbrev S2x128 : Shape := ⟨2, ![2, 128]⟩
abbrev S2x128x1 : Shape := ⟨3, ![2, 128, 1]⟩
abbrev S1x1x2x128x1 : Shape := ⟨5, ![1, 1, 2, 128, 1]⟩
abbrev S4x2x128x128 : Shape := ⟨4, ![4, 2, 128, 128]⟩
abbrev S1x4x2x128x1 : Shape := ⟨5, ![1, 4, 2, 128, 1]⟩
abbrev S4x2x128x1 : Shape := ⟨4, ![4, 2, 128, 1]⟩
abbrev S128x1024 : Shape := ⟨2, ![128, 1024]⟩
abbrev S1x8x1024x128 : Shape := ⟨4, ![1, 8, 1024, 128]⟩

abbrev nBuf : Space → Nat
  | .hbm => 10
  | .vmem => 10
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x64x128, .bf16⟩
  | .hbm, ⟨3, _⟩ => ⟨S1x1024x64x128, .bf16⟩
  | .hbm, ⟨4, _⟩ => ⟨S1024x1024, .bf16⟩
  | .hbm, ⟨5, _⟩ => ⟨S1024x64x128, .bf16⟩
  | .hbm, ⟨6, _⟩ => ⟨S64x1024x128, .bf16⟩
  | .hbm, ⟨7, _⟩ => ⟨S1024x64x128, .bf16⟩
  | .hbm, ⟨8, _⟩ => ⟨S64x1024x128, .bf16⟩
  | .hbm, ⟨9, _⟩ => ⟨S1x1024x1024, .f32⟩
  | .local _ .vmem, ⟨0, _⟩ => ⟨S1x1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024x1024, .f32⟩
  | .local _ .vmem, ⟨4, _⟩ => ⟨S8x8x1024x128, .bf16⟩
  | .local _ .vmem, ⟨5, _⟩ => ⟨S8x8x1024x128, .bf16⟩
  | .local _ .vmem, ⟨6, _⟩ => ⟨S8x1024x128, .bf16⟩
  | .local _ .vmem, ⟨7, _⟩ => ⟨S8x1024x128, .bf16⟩
  | .local _ .vmem, ⟨8, _⟩ => ⟨S8x1024x128, .f32⟩
  | .local _ .vmem, ⟨9, _⟩ => ⟨S8x4x2x128x1, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => true
  | ⟨1, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 2 34 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 4 → Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_37 : BitVec 32 := 0#32
  let c0_i32_38 : BitVec 32 := 0#32
  ![0, v2.toNat, 0, 0]
def k0_off2 (d0 : Dev nD) (c1_i32_29 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_29
  let c8_i32_30 : BitVec 32 := 8#32
  let v33 : BitVec 32 := Scalar.remsi v32 c8_i32_30
  let c8_i32_31 : BitVec 32 := 8#32
  let v34 : BitVec 32 := Scalar.muli v33 c8_i32_31
  let c0_i32_39 : BitVec 32 := 0#32
  let c0_i32_40 : BitVec 32 := 0#32
  ![v34.toNat, 0, 0]
def k0_dev8 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let c8_i32_30 : BitVec 32 := 8#32
  let v33 : BitVec 32 := Scalar.remsi v32 c8_i32_30
  let c1_i32_34 : BitVec 32 := 1#32
  let v35 : BitVec 32 := Scalar.muli v33 c1_i32_34
  let v36 : BitVec 32 := Scalar.addi c0_i32_35 v35
  v36.toNat
def k0_dev9 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let c8_i32_30 : BitVec 32 := 8#32
  let v33 : BitVec 32 := Scalar.remsi v32 c8_i32_30
  let c1_i32_44 : BitVec 32 := 1#32
  let v45 : BitVec 32 := Scalar.muli v33 c1_i32_44
  let v46 : BitVec 32 := Scalar.addi c0_i32_45 v45
  v46.toNat
def k0_dev10 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_51 : BitVec 32 := 2#32
  let v54 : BitVec 32 := Scalar.addi v2 c2_i32_51
  let c8_i32_52 : BitVec 32 := 8#32
  let v55 : BitVec 32 := Scalar.remsi v54 c8_i32_52
  let c1_i32_56 : BitVec 32 := 1#32
  let v57 : BitVec 32 := Scalar.muli v55 c1_i32_56
  let v58 : BitVec 32 := Scalar.addi c0_i32_57 v57
  v58.toNat
def k0_dev11 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_51 : BitVec 32 := 2#32
  let v54 : BitVec 32 := Scalar.addi v2 c2_i32_51
  let c8_i32_52 : BitVec 32 := 8#32
  let v55 : BitVec 32 := Scalar.remsi v54 c8_i32_52
  let c1_i32_66 : BitVec 32 := 1#32
  let v67 : BitVec 32 := Scalar.muli v55 c1_i32_66
  let v68 : BitVec 32 := Scalar.addi c0_i32_67 v67
  v68.toNat
def k0_dev12 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_73 : BitVec 32 := 3#32
  let v76 : BitVec 32 := Scalar.addi v2 c3_i32_73
  let c8_i32_74 : BitVec 32 := 8#32
  let v77 : BitVec 32 := Scalar.remsi v76 c8_i32_74
  let c1_i32_78 : BitVec 32 := 1#32
  let v79 : BitVec 32 := Scalar.muli v77 c1_i32_78
  let v80 : BitVec 32 := Scalar.addi c0_i32_79 v79
  v80.toNat
def k0_dev13 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_73 : BitVec 32 := 3#32
  let v76 : BitVec 32 := Scalar.addi v2 c3_i32_73
  let c8_i32_74 : BitVec 32 := 8#32
  let v77 : BitVec 32 := Scalar.remsi v76 c8_i32_74
  let c1_i32_88 : BitVec 32 := 1#32
  let v89 : BitVec 32 := Scalar.muli v77 c1_i32_88
  let v90 : BitVec 32 := Scalar.addi c0_i32_89 v89
  v90.toNat
def k0_dev14 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_95 : BitVec 32 := 4#32
  let v98 : BitVec 32 := Scalar.addi v2 c4_i32_95
  let c8_i32_96 : BitVec 32 := 8#32
  let v99 : BitVec 32 := Scalar.remsi v98 c8_i32_96
  let c1_i32_100 : BitVec 32 := 1#32
  let v101 : BitVec 32 := Scalar.muli v99 c1_i32_100
  let v102 : BitVec 32 := Scalar.addi c0_i32_101 v101
  v102.toNat
def k0_dev15 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_95 : BitVec 32 := 4#32
  let v98 : BitVec 32 := Scalar.addi v2 c4_i32_95
  let c8_i32_96 : BitVec 32 := 8#32
  let v99 : BitVec 32 := Scalar.remsi v98 c8_i32_96
  let c1_i32_110 : BitVec 32 := 1#32
  let v111 : BitVec 32 := Scalar.muli v99 c1_i32_110
  let v112 : BitVec 32 := Scalar.addi c0_i32_111 v111
  v112.toNat
def k0_dev16 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_117 : BitVec 32 := 5#32
  let v120 : BitVec 32 := Scalar.addi v2 c5_i32_117
  let c8_i32_118 : BitVec 32 := 8#32
  let v121 : BitVec 32 := Scalar.remsi v120 c8_i32_118
  let c1_i32_122 : BitVec 32 := 1#32
  let v123 : BitVec 32 := Scalar.muli v121 c1_i32_122
  let v124 : BitVec 32 := Scalar.addi c0_i32_123 v123
  v124.toNat
def k0_dev17 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_117 : BitVec 32 := 5#32
  let v120 : BitVec 32 := Scalar.addi v2 c5_i32_117
  let c8_i32_118 : BitVec 32 := 8#32
  let v121 : BitVec 32 := Scalar.remsi v120 c8_i32_118
  let c1_i32_132 : BitVec 32 := 1#32
  let v133 : BitVec 32 := Scalar.muli v121 c1_i32_132
  let v134 : BitVec 32 := Scalar.addi c0_i32_133 v133
  v134.toNat
def k0_dev18 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_139 : BitVec 32 := 6#32
  let v142 : BitVec 32 := Scalar.addi v2 c6_i32_139
  let c8_i32_140 : BitVec 32 := 8#32
  let v143 : BitVec 32 := Scalar.remsi v142 c8_i32_140
  let c1_i32_144 : BitVec 32 := 1#32
  let v145 : BitVec 32 := Scalar.muli v143 c1_i32_144
  let v146 : BitVec 32 := Scalar.addi c0_i32_145 v145
  v146.toNat
def k0_dev19 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_139 : BitVec 32 := 6#32
  let v142 : BitVec 32 := Scalar.addi v2 c6_i32_139
  let c8_i32_140 : BitVec 32 := 8#32
  let v143 : BitVec 32 := Scalar.remsi v142 c8_i32_140
  let c1_i32_154 : BitVec 32 := 1#32
  let v155 : BitVec 32 := Scalar.muli v143 c1_i32_154
  let v156 : BitVec 32 := Scalar.addi c0_i32_155 v155
  v156.toNat
def k0_dev20 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_161 : BitVec 32 := 7#32
  let v164 : BitVec 32 := Scalar.addi v2 c7_i32_161
  let c8_i32_162 : BitVec 32 := 8#32
  let v165 : BitVec 32 := Scalar.remsi v164 c8_i32_162
  let c1_i32_166 : BitVec 32 := 1#32
  let v167 : BitVec 32 := Scalar.muli v165 c1_i32_166
  let v168 : BitVec 32 := Scalar.addi c0_i32_167 v167
  v168.toNat
def k0_dev21 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_161 : BitVec 32 := 7#32
  let v164 : BitVec 32 := Scalar.addi v2 c7_i32_161
  let c8_i32_162 : BitVec 32 := 8#32
  let v165 : BitVec 32 := Scalar.remsi v164 c8_i32_162
  let c1_i32_176 : BitVec 32 := 1#32
  let v177 : BitVec 32 := Scalar.muli v165 c1_i32_176
  let v178 : BitVec 32 := Scalar.addi c0_i32_177 v177
  v178.toNat
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_183 : BitVec 32 := 8#32
  let v186 : BitVec 32 := Scalar.muli v2 c8_i32_183
  let c0_i32_188 : BitVec 32 := 0#32
  let c0_i32_189 : BitVec 32 := 0#32
  ![v186.toNat, 0, 0]
@[reducible] def k0_t1_loop : Scf.Loop 32 :=
  let c0_i32_275 : BitVec 32 := 0#32
  let c8_i32_276 : BitVec 32 := 8#32
  let v288 : BitVec 32 := Scalar.addi c0_i32_275 c8_i32_276
  let c1_i32_277 : BitVec 32 := 1#32
  ⟨c0_i32_275, v288, c1_i32_277⟩
def k0_cond1 (k0_t1 : Fin k0_t1_loop.trips) : BitVec 1 :=
  let c0_i32_275 : BitVec 32 := 0#32
  let c1_i32_277 : BitVec 32 := 1#32
  let arg17 : BitVec 32 := Scf.iv c0_i32_275 c1_i32_277 k0_t1
  let c0_i32_620 : BitVec 32 := 0#32
  let v545 : BitVec 1 := Scalar.cmpi .sgt arg17 c0_i32_620
  let v546 : BitVec 32 := Scalar.extui v545
  let c0_i32_621 : BitVec 32 := 0#32
  let v547 : BitVec 1 := Scalar.cmpi .ne v546 c0_i32_621
  v547

def k0_off4 (k0_t1 : Fin k0_t1_loop.trips) : Fin 1 → Nat :=
  let c0_i32_275 : BitVec 32 := 0#32
  let c1_i32_277 : BitVec 32 := 1#32
  let arg17 : BitVec 32 := Scf.iv c0_i32_275 c1_i32_277 k0_t1
  let c1_i32_627 : BitVec 32 := 1#32
  let v550 : BitVec 32 := Scalar.subi arg17 c1_i32_627
  ![v550.toNat]
def k0_off5 (d0 : Dev nD) : Fin 4 → Nat :=
  let c0_i32_630 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_631 : BitVec 32 := 0#32
  let c0_i32_632 : BitVec 32 := 0#32
  ![0, v2.toNat, 0, 0]
@[reducible] def k0_t2_loop : Scf.Loop 32 :=
  let c0_i32_622 : BitVec 32 := 0#32
  let c4_i32_623 : BitVec 32 := 4#32
  let v548 : BitVec 32 := Scalar.addi c0_i32_622 c4_i32_623
  let c1_i32_624 : BitVec 32 := 1#32
  ⟨c0_i32_622, v548, c1_i32_624⟩
@[reducible] def k0_t3_loop : Scf.Loop 32 :=
  let c0_i32_644 : BitVec 32 := 0#32
  let c8_i32_645 : BitVec 32 := 8#32
  let v618 : BitVec 32 := Scalar.addi c0_i32_644 c8_i32_645
  let c1_i32_646 : BitVec 32 := 1#32
  ⟨c0_i32_644, v618, c1_i32_646⟩
def k0_off6 (k0_t2 : Fin k0_t2_loop.trips) (k0_t3 : Fin k0_t3_loop.trips) : Fin 3 → Nat :=
  let c0_i32_644 : BitVec 32 := 0#32
  let c1_i32_646 : BitVec 32 := 1#32
  let arg19 : BitVec 32 := Scf.iv c0_i32_644 c1_i32_646 k0_t3
  let v620 : Index := Scalar.indexCast arg19
  let c0_i32_622 : BitVec 32 := 0#32
  let c1_i32_624 : BitVec 32 := 1#32
  let arg18 : BitVec 32 := Scf.iv c0_i32_622 c1_i32_624 k0_t2
  let c256_i32_648 : BitVec 32 := 256#32
  let v619 : BitVec 32 := Scalar.muli arg18 c256_i32_648
  let v621 : Index := Scalar.indexCast v619
  let c0_649 : Index := 0#32
  ![v620.toNat, v621.toNat, 0]
def k0_off7 (d0 : Dev nD) (k0_t1 : Fin k0_t1_loop.trips) (k0_t3 : Fin k0_t3_loop.trips) : Fin 4 → Nat :=
  let c0_i32_644 : BitVec 32 := 0#32
  let c1_i32_646 : BitVec 32 := 1#32
  let arg19 : BitVec 32 := Scf.iv c0_i32_644 c1_i32_646 k0_t3
  let v624 : Index := Scalar.indexCast arg19
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_275 : BitVec 32 := 0#32
  let c1_i32_277 : BitVec 32 := 1#32
  let arg17 : BitVec 32 := Scf.iv c0_i32_275 c1_i32_277 k0_t1
  let v542 : BitVec 32 := Scalar.subi v2 arg17
  let c8_i32_618 : BitVec 32 := 8#32
  let v543 : BitVec 32 := Scalar.addi v542 c8_i32_618
  let c8_i32_619 : BitVec 32 := 8#32
  let v544 : BitVec 32 := Scalar.remsi v543 c8_i32_619
  let v625 : Index := Scalar.indexCast v544
  let c0_650 : Index := 0#32
  let c0_651 : Index := 0#32
  ![v624.toNat, v625.toNat, 0, 0]
def k0_off8 (k0_t2 : Fin k0_t2_loop.trips) (k0_t3 : Fin k0_t3_loop.trips) : Fin 5 → Nat :=
  let c0_i32_644 : BitVec 32 := 0#32
  let c1_i32_646 : BitVec 32 := 1#32
  let arg19 : BitVec 32 := Scf.iv c0_i32_644 c1_i32_646 k0_t3
  let v654 : Index := Scalar.indexCast arg19
  let c0_i32_622 : BitVec 32 := 0#32
  let c1_i32_624 : BitVec 32 := 1#32
  let arg18 : BitVec 32 := Scf.iv c0_i32_622 c1_i32_624 k0_t2
  let v655 : Index := Scalar.indexCast arg18
  let c0_662 : Index := 0#32
  let c0_663 : Index := 0#32
  let c0_664 : Index := 0#32
  ![v654.toNat, v655.toNat, 0, 0, 0]
@[reducible] def k0_t4_loop : Scf.Loop 32 :=
  let c0_i32_392 : BitVec 32 := 0#32
  let c8_i32_393 : BitVec 32 := 8#32
  let v360 : BitVec 32 := Scalar.addi c0_i32_392 c8_i32_393
  let c1_i32_394 : BitVec 32 := 1#32
  ⟨c0_i32_392, v360, c1_i32_394⟩
def k0_off9 (k0_t4 : Fin k0_t4_loop.trips) : Fin 3 → Nat :=
  let c0_i32_392 : BitVec 32 := 0#32
  let c1_i32_394 : BitVec 32 := 1#32
  let arg17 : BitVec 32 := Scf.iv c0_i32_392 c1_i32_394 k0_t4
  let v542 : Index := Scalar.indexCast arg17
  let c0_618 : Index := 0#32
  let c0_619 : Index := 0#32
  ![v542.toNat, 0, 0]
def k0_off10 (k0_t4 : Fin k0_t4_loop.trips) : Fin 5 → Nat :=
  let c0_i32_392 : BitVec 32 := 0#32
  let c1_i32_394 : BitVec 32 := 1#32
  let arg17 : BitVec 32 := Scf.iv c0_i32_392 c1_i32_394 k0_t4
  let v546 : Index := Scalar.indexCast arg17
  let c0_620 : Index := 0#32
  let c0_621 : Index := 0#32
  let c0_622 : Index := 0#32
  let c0_623 : Index := 0#32
  ![v546.toNat, 0, 0, 0, 0]
def k0_off11 (k0_t4 : Fin k0_t4_loop.trips) : Fin 2 → Nat :=
  let c0_i32_392 : BitVec 32 := 0#32
  let c1_i32_394 : BitVec 32 := 1#32
  let arg17 : BitVec 32 := Scf.iv c0_i32_392 c1_i32_394 k0_t4
  let c128_i32 : BitVec 32 := 128#32
  let v554 : BitVec 32 := Scalar.muli arg17 c128_i32
  let v555 : Index := Scalar.indexCast v554
  let c0_624 : Index := 0#32
  ![v555.toNat, 0]
def k0_dev22 (d0 : Dev nD) : Nat :=
  let c0_i32_403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_399 : BitVec 32 := 1#32
  let v367 : BitVec 32 := Scalar.addi v2 c1_i32_399
  let c8_i32_400 : BitVec 32 := 8#32
  let v368 : BitVec 32 := Scalar.remsi v367 c8_i32_400
  let c1_i32_402 : BitVec 32 := 1#32
  let v369 : BitVec 32 := Scalar.muli v368 c1_i32_402
  let v370 : BitVec 32 := Scalar.addi c0_i32_403 v369
  v370.toNat
def k0_dev23 (d0 : Dev nD) : Nat :=
  let c0_i32_408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_404 : BitVec 32 := 2#32
  let v371 : BitVec 32 := Scalar.addi v2 c2_i32_404
  let c8_i32_405 : BitVec 32 := 8#32
  let v372 : BitVec 32 := Scalar.remsi v371 c8_i32_405
  let c1_i32_407 : BitVec 32 := 1#32
  let v373 : BitVec 32 := Scalar.muli v372 c1_i32_407
  let v374 : BitVec 32 := Scalar.addi c0_i32_408 v373
  v374.toNat
def k0_dev24 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_409 : BitVec 32 := 3#32
  let v375 : BitVec 32 := Scalar.addi v2 c3_i32_409
  let c8_i32_410 : BitVec 32 := 8#32
  let v376 : BitVec 32 := Scalar.remsi v375 c8_i32_410
  let c1_i32_412 : BitVec 32 := 1#32
  let v377 : BitVec 32 := Scalar.muli v376 c1_i32_412
  let v378 : BitVec 32 := Scalar.addi c0_i32_413 v377
  v378.toNat
def k0_dev25 (d0 : Dev nD) : Nat :=
  let c0_i32_418 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_414 : BitVec 32 := 4#32
  let v379 : BitVec 32 := Scalar.addi v2 c4_i32_414
  let c8_i32_415 : BitVec 32 := 8#32
  let v380 : BitVec 32 := Scalar.remsi v379 c8_i32_415
  let c1_i32_417 : BitVec 32 := 1#32
  let v381 : BitVec 32 := Scalar.muli v380 c1_i32_417
  let v382 : BitVec 32 := Scalar.addi c0_i32_418 v381
  v382.toNat
def k0_dev26 (d0 : Dev nD) : Nat :=
  let c0_i32_423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_419 : BitVec 32 := 5#32
  let v383 : BitVec 32 := Scalar.addi v2 c5_i32_419
  let c8_i32_420 : BitVec 32 := 8#32
  let v384 : BitVec 32 := Scalar.remsi v383 c8_i32_420
  let c1_i32_422 : BitVec 32 := 1#32
  let v385 : BitVec 32 := Scalar.muli v384 c1_i32_422
  let v386 : BitVec 32 := Scalar.addi c0_i32_423 v385
  v386.toNat
def k0_dev27 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_424 : BitVec 32 := 6#32
  let v387 : BitVec 32 := Scalar.addi v2 c6_i32_424
  let c8_i32_425 : BitVec 32 := 8#32
  let v388 : BitVec 32 := Scalar.remsi v387 c8_i32_425
  let c1_i32_427 : BitVec 32 := 1#32
  let v389 : BitVec 32 := Scalar.muli v388 c1_i32_427
  let v390 : BitVec 32 := Scalar.addi c0_i32_428 v389
  v390.toNat
def k0_dev28 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_429 : BitVec 32 := 7#32
  let v391 : BitVec 32 := Scalar.addi v2 c7_i32_429
  let c8_i32_430 : BitVec 32 := 8#32
  let v392 : BitVec 32 := Scalar.remsi v391 c8_i32_430
  let c1_i32_432 : BitVec 32 := 1#32
  let v393 : BitVec 32 := Scalar.muli v392 c1_i32_432
  let v394 : BitVec 32 := Scalar.addi c0_i32_433 v393
  v394.toNat
def k0_dev29 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_436 : BitVec 32 := 1#32
  let v395 : BitVec 32 := Scalar.addi v2 c1_i32_436
  let c8_i32_437 : BitVec 32 := 8#32
  let v396 : BitVec 32 := Scalar.remsi v395 c8_i32_437
  let c1_i32_441 : BitVec 32 := 1#32
  let v397 : BitVec 32 := Scalar.muli v396 c1_i32_441
  let v398 : BitVec 32 := Scalar.addi c0_i32_442 v397
  v398.toNat
def k0_dev30 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_446 : BitVec 32 := 2#32
  let v405 : BitVec 32 := Scalar.addi v2 c2_i32_446
  let c8_i32_447 : BitVec 32 := 8#32
  let v406 : BitVec 32 := Scalar.remsi v405 c8_i32_447
  let c1_i32_451 : BitVec 32 := 1#32
  let v407 : BitVec 32 := Scalar.muli v406 c1_i32_451
  let v408 : BitVec 32 := Scalar.addi c0_i32_452 v407
  v408.toNat
def k0_dev31 (d0 : Dev nD) : Nat :=
  let c0_i32_462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_456 : BitVec 32 := 3#32
  let v415 : BitVec 32 := Scalar.addi v2 c3_i32_456
  let c8_i32_457 : BitVec 32 := 8#32
  let v416 : BitVec 32 := Scalar.remsi v415 c8_i32_457
  let c1_i32_461 : BitVec 32 := 1#32
  let v417 : BitVec 32 := Scalar.muli v416 c1_i32_461
  let v418 : BitVec 32 := Scalar.addi c0_i32_462 v417
  v418.toNat
def k0_dev32 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_466 : BitVec 32 := 4#32
  let v425 : BitVec 32 := Scalar.addi v2 c4_i32_466
  let c8_i32_467 : BitVec 32 := 8#32
  let v426 : BitVec 32 := Scalar.remsi v425 c8_i32_467
  let c1_i32_471 : BitVec 32 := 1#32
  let v427 : BitVec 32 := Scalar.muli v426 c1_i32_471
  let v428 : BitVec 32 := Scalar.addi c0_i32_472 v427
  v428.toNat
def k0_dev33 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_476 : BitVec 32 := 5#32
  let v435 : BitVec 32 := Scalar.addi v2 c5_i32_476
  let c8_i32_477 : BitVec 32 := 8#32
  let v436 : BitVec 32 := Scalar.remsi v435 c8_i32_477
  let c1_i32_481 : BitVec 32 := 1#32
  let v437 : BitVec 32 := Scalar.muli v436 c1_i32_481
  let v438 : BitVec 32 := Scalar.addi c0_i32_482 v437
  v438.toNat
def k0_dev34 (d0 : Dev nD) : Nat :=
  let c0_i32_492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_486 : BitVec 32 := 6#32
  let v445 : BitVec 32 := Scalar.addi v2 c6_i32_486
  let c8_i32_487 : BitVec 32 := 8#32
  let v446 : BitVec 32 := Scalar.remsi v445 c8_i32_487
  let c1_i32_491 : BitVec 32 := 1#32
  let v447 : BitVec 32 := Scalar.muli v446 c1_i32_491
  let v448 : BitVec 32 := Scalar.addi c0_i32_492 v447
  v448.toNat
def k0_dev35 (d0 : Dev nD) : Nat :=
  let c0_i32_502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_496 : BitVec 32 := 7#32
  let v455 : BitVec 32 := Scalar.addi v2 c7_i32_496
  let c8_i32_497 : BitVec 32 := 8#32
  let v456 : BitVec 32 := Scalar.remsi v455 c8_i32_497
  let c1_i32_501 : BitVec 32 := 1#32
  let v457 : BitVec 32 := Scalar.muli v456 c1_i32_501
  let v458 : BitVec 32 := Scalar.addi c0_i32_502 v457
  v458.toNat
@[reducible] def k0_t5_loop : Scf.Loop 32 :=
  let c0_i32_611 : BitVec 32 := 0#32
  let c7_i32_612 : BitVec 32 := 7#32
  let v536 : BitVec 32 := Scalar.addi c0_i32_611 c7_i32_612
  let c1_i32_613 : BitVec 32 := 1#32
  ⟨c0_i32_611, v536, c1_i32_613⟩
def k0_off12 (k0_t5 : Fin k0_t5_loop.trips) : Fin 4 → Nat :=
  let c0_i32_611 : BitVec 32 := 0#32
  let c1_i32_613 : BitVec 32 := 1#32
  let arg17 : BitVec 32 := Scf.iv c0_i32_611 c1_i32_613 k0_t5
  let v542 : Index := Scalar.indexCast arg17
  let c0_618 : Index := 0#32
  let c0_619 : Index := 0#32
  let c0_620 : Index := 0#32
  ![v542.toNat, 0, 0, 0]
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x8192 : Shape := ⟨2, ![1024, 8192]⟩
abbrev S1x8192x64x128 : Shape := ⟨4, ![1, 8192, 64, 128]⟩
abbrev S8192x1024 : Shape := ⟨2, ![8192, 1024]⟩
abbrev S1x1024x8192 : Shape := ⟨3, ![1, 1024, 8192]⟩
abbrev S1x1024x64x128 : Shape := ⟨4, ![1, 1024, 64, 128]⟩
abbrev S1024 : Shape := ⟨1, ![1024]⟩
abbrev S_ : Shape := ⟨0, ![]⟩
abbrev S1024x1 : Shape := ⟨2, ![1024, 1]⟩
abbrev S8192 : Shape := ⟨1, ![8192]⟩
abbrev S1x8192 : Shape := ⟨2, ![1, 8192]⟩
abbrev S1x64x1024x8192 : Shape := ⟨4, ![1, 64, 1024, 8192]⟩
abbrev S1x1x1024x8192 : Shape := ⟨4, ![1, 1, 1024, 8192]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 128
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x8192, .bf16⟩
  | .hbm, ⟨2, _⟩ => ⟨S1x8192x64x128, .bf16⟩
  | .hbm, ⟨3, _⟩ => ⟨S1x8192x64x128, .bf16⟩
  | .hbm, ⟨4, _⟩ => ⟨S8192x1024, .bf16⟩
  | .hbm, ⟨5, _⟩ => ⟨S1x1024x1024, .f32⟩
  | .hbm, ⟨6, _⟩ => ⟨S1024x8192, .f32⟩
  | .hbm, ⟨7, _⟩ => ⟨S1x8192x64x128, .f32⟩
  | .hbm, ⟨8, _⟩ => ⟨S1x8192x64x128, .f32⟩
  | .hbm, ⟨9, _⟩ => ⟨S8192x1024, .f32⟩
  | .hbm, ⟨10, _⟩ => ⟨S1x1024x8192, .f32⟩
  | .hbm, ⟨11, _⟩ => ⟨S1x1024x64x128, .f32⟩
  | .hbm, ⟨12, _⟩ => ⟨S1024, .i32⟩
  | .hbm, ⟨13, _⟩ => ⟨S_, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S8192, .i32⟩
  | .hbm, ⟨33, _⟩ => ⟨S_, .i32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S8192, .i32⟩
  | .hbm, ⟨42, _⟩ => ⟨S8192, .i32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S8192, .i1⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S8192, .i32⟩
  | .hbm, ⟨51, _⟩ => ⟨S1x8192, .i32⟩
  | .hbm, ⟨52, _⟩ => ⟨S1024x8192, .i32⟩
  | .hbm, ⟨53, _⟩ => ⟨S1024x8192, .i32⟩
  | .hbm, ⟨54, _⟩ => ⟨S1024x8192, .i1⟩
  | .hbm, ⟨55, _⟩ => ⟨S_, .i32⟩
  | .hbm, ⟨56, _⟩ => ⟨S1x8192, .i32⟩
  | .hbm, ⟨57, _⟩ => ⟨S1x8192, .i1⟩
  | .hbm, ⟨58, _⟩ => ⟨S1024x8192, .i1⟩
  | .hbm, ⟨59, _⟩ => ⟨S1024x8192, .i1⟩
  | .hbm, ⟨60, _⟩ => ⟨S1024x8192, .i32⟩
  | .hbm, ⟨61, _⟩ => ⟨S1024x8192, .i32⟩
  | .hbm, ⟨62, _⟩ => ⟨S1024x8192, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S1024x8192, .i32⟩
  | .hbm, ⟨70, _⟩ => ⟨S1024x8192, .i32⟩
  | .hbm, ⟨71, _⟩ => ⟨S_, .i32⟩
  | .hbm, ⟨72, _⟩ => ⟨S1024x8192, .i32⟩
  | .hbm, ⟨73, _⟩ => ⟨S1024x8192, .i1⟩
  | .hbm, ⟨74, _⟩ => ⟨S_, .i32⟩
  | .hbm, ⟨75, _⟩ => ⟨S1024x8192, .i32⟩
  | .hbm, ⟨76, _⟩ => ⟨S1024x8192, .i1⟩
  | .hbm, ⟨77, _⟩ => ⟨S_, .i32⟩
  | .hbm, ⟨78, _⟩ => ⟨S_, .i1⟩
  | .hbm, ⟨79, _⟩ => ⟨S1024x8192, .i1⟩
  | .hbm, ⟨80, _⟩ => ⟨S1024x8192, .i1⟩
  | .hbm, ⟨81, _⟩ => ⟨S1024x8192, .i1⟩
  | .hbm, ⟨82, _⟩ => ⟨S1024x8192, .i32⟩
  | .hbm, ⟨83, _⟩ => ⟨S1024x8192, .i32⟩
  | .hbm, ⟨84, _⟩ => ⟨S1024x8192, .i32⟩
  | .hbm, ⟨85, _⟩ => ⟨S_, .i32⟩
  | .hbm, ⟨86, _⟩ => ⟨S1024x8192, .i32⟩
  | .hbm, ⟨87, _⟩ => ⟨S1024x8192, .i1⟩
  | .hbm, ⟨88, _⟩ => ⟨S1024x8192, .i1⟩
  | .hbm, ⟨89, _⟩ => ⟨S1x64x1024x8192, .f32⟩
  | .hbm, ⟨90, _⟩ => ⟨S_, .f32⟩
  | .hbm, ⟨91, _⟩ => ⟨S1x64x1024x8192, .f32⟩
  | .hbm, ⟨92, _⟩ => ⟨S1x64x1024x8192, .f32⟩
  | .hbm, ⟨93, _⟩ => ⟨S1x1x1024x8192, .i1⟩
  | .hbm, ⟨94, _⟩ => ⟨S_, .f32⟩
  | .hbm, ⟨95, _⟩ => ⟨S_, .f32⟩
  | .hbm, ⟨96, _⟩ => ⟨S1x64x1024x8192, .i1⟩
  | .hbm, ⟨97, _⟩ => ⟨S1x64x1024x8192, .f32⟩
  | .hbm, ⟨98, _⟩ => ⟨S1x64x1024x8192, .f32⟩
  | .hbm, ⟨99, _⟩ => ⟨S_, .f32⟩
  | .hbm, ⟨100, _⟩ => ⟨S1x64x1024, .f32⟩
  | .hbm, ⟨101, _⟩ => ⟨S1x64x1024x1, .f32⟩
  | .hbm, ⟨102, _⟩ => ⟨S1x64x1024x8192, .f32⟩
  | .hbm, ⟨103, _⟩ => ⟨S1x64x1024x8192, .f32⟩
  | .hbm, ⟨104, _⟩ => ⟨S1x64x1024x8192, .f32⟩
  | .hbm, ⟨105, _⟩ => ⟨S_, .i1⟩
  | .hbm, ⟨106, _⟩ => ⟨S1024, .i1⟩
  | .hbm, ⟨107, _⟩ => ⟨S1x1x1024x1, .i1⟩
  | .hbm, ⟨108, _⟩ => ⟨S_, .f32⟩
  | .hbm, ⟨109, _⟩ => ⟨S1x64x1024, .f32⟩
  | .hbm, ⟨110, _⟩ => ⟨S1x64x1024x1, .f32⟩
  | .hbm, ⟨111, _⟩ => ⟨S_, .f32⟩
  | .hbm, ⟨112, _⟩ => ⟨S_, .f32⟩
  | .hbm, ⟨113, _⟩ => ⟨S1x64x1024x1, .i1⟩
  | .hbm, ⟨114, _⟩ => ⟨S1x64x1024x1, .f32⟩
  | .hbm, ⟨115, _⟩ => ⟨S1x64x1024x1, .f32⟩
  | .hbm, ⟨116, _⟩ => ⟨S1x64x1024x8192, .f32⟩
  | .hbm, ⟨117, _⟩ => ⟨S1x64x1024x8192, .f32⟩
  | .hbm, ⟨118, _⟩ => ⟨S1x1x1024x1, .i1⟩
  | .hbm, ⟨119, _⟩ => ⟨S_, .f32⟩
  | .hbm, ⟨120, _⟩ => ⟨S_, .f32⟩
  | .hbm, ⟨121, _⟩ => ⟨S1x64x1024x8192, .i1⟩
  | .hbm, ⟨122, _⟩ => ⟨S1x64x1024x8192, .f32⟩
  | .hbm, ⟨123, _⟩ => ⟨S1x64x1024x8192, .f32⟩
  | .hbm, ⟨124, _⟩ => ⟨S1x64x128x1024, .f32⟩
  | .hbm, ⟨125, _⟩ => ⟨S1x1024x64x128, .f32⟩
  | .hbm, ⟨126, _⟩ => ⟨S1x1024x8192, .f32⟩
  | .hbm, ⟨127, _⟩ => ⟨S1x1024x1024, .f32⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Geometry.lean ====
/- Where the slots, blocks and slabs of the kernel's buffers lie, and what a transfer into one of them leaves there. -/
module

public import proofs.«01_k».proof.Proof.Gen.KernelIdeal
public import Idealize.ShloMosaic.Lib.Memref
public import Idealize.ShloMosaic.Lib.Rounds
public import Idealize.ShloMosaic.Lib.Transfers

@[expose] public section

noncomputable section

namespace Cert.Proof.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type}

/-! ## The ring of devices -/

/-- The device `k + 1` places after `c`. -/
def peer (c : Dev nD) (k : Fin 7) : Dev nD := ⟨(c.val + k.val + 1) % 8, Nat.mod_lt _ (by decide)⟩

/-- The device that has `c` as its `k`-th peer is `c`'s `k.rev`-th. -/
theorem peer_rev : ∀ (c : Dev nD) (k : Fin 7), peer (peer c k.rev) k = c := by decide
theorem peer_rev' : ∀ (c : Dev nD) (k : Fin 7), peer (peer c k) k.rev = c := by decide
theorem peer_ne : ∀ (c : Dev nD) (k : Fin 7), peer c k ≠ c := by decide
theorem peer_inj : ∀ (c : Dev nD) (k k' : Fin 7), peer c k = peer c k' → k = k' := by decide
theorem peer_surj : ∀ (c d : Dev nD), d ≠ c → ∃ k, peer c k = d := by decide

/-- The `k`-th peer map, a permutation of the devices. -/
def turn (k : Fin 7) : Dev nD ≃ Dev nD := ⟨fun c => peer c k, fun c => peer c k.rev, fun c => peer_rev' c k, fun c => peer_rev c k⟩

/-! ## Multi-indices by coordinates -/

/-- An index of an [8, 1024, 128] array. -/
def ix3 (a : Fin 8) (b : Fin 1024) (d : Fin 128) : S8x1024x128.Idx := fun
  | ⟨0, _⟩ => a
  | ⟨1, _⟩ => b
  | ⟨2, _⟩ => d

/-- An index of an [8, 8, 1024, 128] array. -/
def ix4 (a j : Fin 8) (b : Fin 1024) (d : Fin 128) : S8x8x1024x128.Idx := fun
  | ⟨0, _⟩ => a
  | ⟨1, _⟩ => j
  | ⟨2, _⟩ => b
  | ⟨3, _⟩ => d

/-- Row `a` of block `t` of a [64, 1024, 128] array. -/
def ixB (t a : Fin 8) (b : Fin 1024) (d : Fin 128) : S64x1024x128.Idx := fun
  | ⟨0, _⟩ => ⟨8 * t.val + a.val, by have := t.isLt; have := a.isLt; show _ < 64; omega⟩
  | ⟨1, _⟩ => b
  | ⟨2, _⟩ => d

/-! ## The element sets -/

/-- Slot `j` of a gathered buffer: every head, second coordinate `j`. -/
def slotSet (j : Fin 8) : Finset S8x8x1024x128.Idx := Finset.univ.filter fun i => (i 1).val = j.val
/-- Slab `j` of it: first coordinate `j`. -/
def slabSet (j : Fin 8) : Finset S8x8x1024x128.Idx := Finset.univ.filter fun i => (i 0).val = j.val
/-- Block `j` of eight heads of a [64, 1024, 128] array. -/
def blockSet (j : Fin 8) : Finset S64x1024x128.Idx := Finset.univ.filter fun i => (i 0).val / 8 = j.val

theorem mem_slotSet {j : Fin 8} {i : S8x8x1024x128.Idx} : i ∈ slotSet j ↔ (i 1).val = j.val := by simp [slotSet]
theorem mem_slabSet {j : Fin 8} {i : S8x8x1024x128.Idx} : i ∈ slabSet j ↔ (i 0).val = j.val := by simp [slabSet]
theorem mem_blockSet {j : Fin 8} {i : S64x1024x128.Idx} : i ∈ blockSet j ↔ (i 0).val / 8 = j.val := by simp [blockSet]

theorem slot_disjoint {j j' : Fin 8} (h : j ≠ j') : Disjoint (slotSet j) (slotSet j') :=
  Finset.disjoint_left.mpr fun _ hi hi' => h (Fin.ext ((mem_slotSet.mp hi).symm.trans (mem_slotSet.mp hi')))
theorem slab_disjoint {j j' : Fin 8} (h : j ≠ j') : Disjoint (slabSet j) (slabSet j') :=
  Finset.disjoint_left.mpr fun _ hi hi' => h (Fin.ext ((mem_slabSet.mp hi).symm.trans (mem_slabSet.mp hi')))
theorem block_disjoint {j j' : Fin 8} (h : j ≠ j') : Disjoint (blockSet j) (blockSet j') :=
  Finset.disjoint_left.mpr fun _ hi hi' => h (Fin.ext ((mem_blockSet.mp hi).symm.trans (mem_blockSet.mp hi')))

theorem slot_cover : (Finset.univ : Finset (Fin 8)).biUnion slotSet = Finset.univ := by
  ext i; simp only [Finset.mem_biUnion, Finset.mem_univ, true_and, iff_true]
  exact ⟨⟨(i 1).val, (i 1).isLt⟩, mem_slotSet.mpr rfl⟩
theorem slab_cover : (Finset.univ : Finset (Fin 8)).biUnion slabSet = Finset.univ := by
  ext i; simp only [Finset.mem_biUnion, Finset.mem_univ, true_and, iff_true]
  exact ⟨⟨(i 0).val, (i 0).isLt⟩, mem_slabSet.mpr rfl⟩
theorem block_cover : (Finset.univ : Finset (Fin 8)).biUnion blockSet = Finset.univ := by
  ext i; simp only [Finset.mem_biUnion, Finset.mem_univ, true_and, iff_true]
  have h : (i 0).val < 64 := (i 0).isLt
  exact ⟨⟨(i 0).val / 8, by omega⟩, mem_blockSet.mpr rfl⟩

/-! ## The rectangles the transfers name -/

theorem slotRect_set {off : Fin 4 → ℕ} {j : Fin 8} (h : off = ![0, j.val, 0, 0])
    (inb : ∀ a, off a + S8x1x1024x128.size a ≤ S8x8x1024x128.size a) :
    (Rect.unit (s := S8x8x1024x128) off S8x1x1024x128.size inb).set = slotSet j := by
  subst h
  ext i
  rw [Rect.mem_set_unit, mem_slotSet]
  have h0 : (i 0).val < 8 := (i 0).isLt
  have h2 : (i 2).val < 1024 := (i 2).isLt
  have h3 : (i 3).val < 128 := (i 3).isLt
  constructor
  · intro h; have := h 1; simp at this; omega
  · intro h a; fin_cases a <;> simp <;> omega

theorem slabRect_set {off : Fin 4 → ℕ} {j : Fin 8} (h : off = ![j.val, 0, 0, 0])
    (inb : ∀ a, off a + S1x8x1024x128.size a ≤ S8x8x1024x128.size a) :
    (Rect.unit (s := S8x8x1024x128) off S1x8x1024x128.size inb).set = slabSet j := by
  subst h
  ext i
  rw [Rect.mem_set_unit, mem_slabSet]
  have h1 : (i 1).val < 8 := (i 1).isLt
  have h2 : (i 2).val < 1024 := (i 2).isLt
  have h3 : (i 3).val < 128 := (i 3).isLt
  constructor
  · intro h; have := h 0; simp at this; omega
  · intro h a; fin_cases a <;> simp <;> omega

theorem blockRect_set {off : Fin 3 → ℕ} {j : Fin 8} (h : off = ![8 * j.val, 0, 0])
    (inb : ∀ a, off a + S8x1024x128.size a ≤ S64x1024x128.size a) :
    (Rect.unit (s := S64x1024x128) off S8x1024x128.size inb).set = blockSet j := by
  subst h
  ext i
  rw [Rect.mem_set_unit, mem_blockSet]
  have h1 : (i 1).val < 1024 := (i 1).isLt
  have h2 : (i 2).val < 128 := (i 2).isLt
  constructor
  · intro h; have := h 0; simp at this; omega
  · intro h a; fin_cases a <;> simp <;> omega

/-- Dropping the slot axis of an [8, 1, 1024, 128] index. -/
theorem reshape_slot (hn : S8x1024x128.numel = S8x1x1024x128.numel) (x : S8x1024x128.Idx) (a : Fin 4) :
    (Shape.reshapeEquiv hn x a).val = ![(x 0).val, 0, (x 1).val, (x 2).val] a := by
  let y : S8x1x1024x128.Idx := fun
    | ⟨0, _⟩ => x 0
    | ⟨1, _⟩ => ⟨0, Nat.one_pos⟩
    | ⟨2, _⟩ => x 1
    | ⟨3, _⟩ => x 2
  have e : Shape.reshapeEquiv hn x = y := Shape.reshapeEquiv_eq_of_rowMajor hn (by
    rw [Shape.rowMajor_val_four, Shape.rowMajor_val_three]
    show (((x 0).val * 1 + 0) * 1024 + (x 1).val) * 128 + (x 2).val = ((x 0).val * 1024 + (x 1).val) * 128 + (x 2).val
    omega)
  rw [e]; fin_cases a <;> rfl

/-- Dropping the slab axis of a [1, 8, 1024, 128] index. -/
theorem reshape_slab (hn : S8x1024x128.numel = S1x8x1024x128.numel) (x : S8x1024x128.Idx) (a : Fin 4) :
    (Shape.reshapeEquiv hn x a).val = ![0, (x 0).val, (x 1).val, (x 2).val] a := by
  let y : S1x8x1024x128.Idx := fun
    | ⟨0, _⟩ => ⟨0, Nat.one_pos⟩
    | ⟨1, _⟩ => x 0
    | ⟨2, _⟩ => x 1
    | ⟨3, _⟩ => x 2
  have e : Shape.reshapeEquiv hn x = y := Shape.reshapeEquiv_eq_of_rowMajor hn (by
    rw [Shape.rowMajor_val_four, Shape.rowMajor_val_three]
    show ((0 * 8 + (x 0).val) * 1024 + (x 1).val) * 128 + (x 2).val = ((x 0).val * 1024 + (x 1).val) * 128 + (x 2).val
    omega)
  rw [e]; fin_cases a <;> rfl

/-! ## What a device's gathered buffers hold -/

/-- An array of [64, 1024, 128] halfwords, one of [8, 8, 1024, 128], one of [8, 1024, 128]. -/
abbrev Seq (F : FTy → Type) : Type := S64x1024x128.Idx → Elt F .bf16
abbrev Gat (F : FTy → Type) : Type := S8x8x1024x128.Idx → Elt F .bf16
abbrev Par (F : FTy → Type) : Type := S8x1024x128.Idx → Elt F .bf16

/-- Device `c`'s gathered buffer once every slot has landed: slot `j` is block `c` of device `j`'s array. -/
def gathered (X : Dev nD → Seq F) (c : Dev nD) : Gat F := fun i =>
  X (⟨(i 1).val, (i 1).isLt⟩) (ixB c (i 0) (i 2) (i 3))

/-- A slab holding the array `P`, whatever the slab. -/
def slabOf (P : Par F) : Gat F := fun i => P (ix3 (i 1) (i 2) (i 3))

/-! ## The views the transfers name, and what they leave -/

section Views

variable {sp sp' : Space}

/-- The slot view of a gathered buffer at offsets `off`, as the kernel spells it. -/
abbrev slotView (b : Memref sig .tc .vmem S8x8x1024x128 .bf16) (off : Fin 4 → ℕ) (inb : ∀ a, off a + S8x1x1024x128.size a ≤ S8x8x1024x128.size a) :
    Memref sig .tc .vmem S8x1024x128 .bf16 :=
  (b.slice (Rect.unit (s := S8x8x1024x128) off S8x1x1024x128.size inb) (fun _ => rfl)).squeeze S8x1024x128 squeezes_S8x1x1024x128_S8x1024x128
/-- The slab view. -/
abbrev slabView (b : Memref sig .tc .vmem S8x8x1024x128 .bf16) (off : Fin 4 → ℕ) (inb : ∀ a, off a + S1x8x1024x128.size a ≤ S8x8x1024x128.size a) :
    Memref sig .tc .vmem S8x1024x128 .bf16 :=
  (b.slice (Rect.unit (s := S8x8x1024x128) off S1x8x1024x128.size inb) (fun _ => rfl)).squeeze S8x1024x128 squeezes_S1x8x1024x128_S8x1024x128
/-- The block view of a [64, 1024, 128] array. -/
abbrev blockView (b : Memref sig .tc .hbm S64x1024x128 .bf16) (off : Fin 3 → ℕ) (inb : ∀ a, off a + S8x1024x128.size a ≤ S64x1024x128.size a) :
    Memref sig .tc .hbm S8x1024x128 .bf16 :=
  b.slice (Rect.unit (s := S64x1024x128) off S8x1024x128.size inb) (fun _ => rfl)

abbrev kgM : Memref sig .tc .vmem S8x8x1024x128 .bf16 := Memref.whole cc0_scratch0
abbrev vgM : Memref sig .tc .vmem S8x8x1024x128 .bf16 := Memref.whole cc0_scratch1
abbrev khM : Memref sig .tc .hbm S64x1024x128 .bf16 := Memref.whole main_v2
abbrev vhM : Memref sig .tc .hbm S64x1024x128 .bf16 := Memref.whole main_v4
abbrev psM : Memref sig .tc .vmem S8x1024x128 .bf16 := Memref.whole cc0_scratch3

variable {off : Fin 4 → ℕ} {off₂ : Fin 3 → ℕ} {j b : Fin 8}

theorem kg_slot_set (h : off = ![0, j.val, 0, 0]) (inb) : (slotView kgM off inb).view.set = slotSet j :=
  (View.set_reshape _ _).trans ((View.set_slice_whole _ _).trans (slotRect_set h inb))
theorem vg_slot_set (h : off = ![0, j.val, 0, 0]) (inb) : (slotView vgM off inb).view.set = slotSet j :=
  (View.set_reshape _ _).trans ((View.set_slice_whole _ _).trans (slotRect_set h inb))
theorem vg_slab_set (h : off = ![j.val, 0, 0, 0]) (inb) : (slabView vgM off inb).view.set = slabSet j :=
  (View.set_reshape _ _).trans ((View.set_slice_whole _ _).trans (slabRect_set h inb))
theorem kh_block_set (h : off₂ = ![8 * j.val, 0, 0]) (inb) : (blockView khM off₂ inb).view.set = blockSet j :=
  (View.set_slice_whole _ _).trans (blockRect_set h inb)
theorem vh_block_set (h : off₂ = ![8 * j.val, 0, 0]) (inb) : (blockView vhM off₂ inb).view.set = blockSet j :=
  (View.set_slice_whole _ _).trans (blockRect_set h inb)

/-- Where index `x` of a slot view sits. -/
theorem slot_emb (h : off = ![0, j.val, 0, 0]) (inb : ∀ a, off a + S8x1x1024x128.size a ≤ S8x8x1024x128.size a)
    (hn : S8x1024x128.numel = S8x1x1024x128.numel) (x : S8x1024x128.Idx) :
    (Rect.unit (s := S8x8x1024x128) off S8x1x1024x128.size inb).emb (Shape.reshapeEquiv hn x) = ix4 (x 0) j (x 1) (x 2) := by
  subst h
  funext a
  apply Fin.ext
  rw [Rect.emb_apply]
  show ![0, j.val, 0, 0] a + 1 * (Shape.reshapeEquiv hn x a).val = _
  rw [reshape_slot hn x a]
  fin_cases a <;> simp [ix4]

theorem slab_emb (h : off = ![j.val, 0, 0, 0]) (inb : ∀ a, off a + S1x8x1024x128.size a ≤ S8x8x1024x128.size a)
    (hn : S8x1024x128.numel = S1x8x1024x128.numel) (x : S8x1024x128.Idx) :
    (Rect.unit (s := S8x8x1024x128) off S1x8x1024x128.size inb).emb (Shape.reshapeEquiv hn x) = ix4 j (x 0) (x 1) (x 2) := by
  subst h
  funext a
  apply Fin.ext
  rw [Rect.emb_apply]
  show ![j.val, 0, 0, 0] a + 1 * (Shape.reshapeEquiv hn x a).val = _
  rw [reshape_slab hn x a]
  fin_cases a <;> simp [ix4]

theorem block_emb (h : off₂ = ![8 * b.val, 0, 0]) (inb : ∀ a, off₂ a + S8x1024x128.size a ≤ S64x1024x128.size a)
    (x : S8x1024x128.Idx) :
    (Rect.unit (s := S64x1024x128) off₂ S8x1024x128.size inb).emb x = ixB b (x 0) (x 1) (x 2) := by
  subst h
  funext a
  apply Fin.ext
  rw [Rect.emb_apply]
  show ![8 * b.val, 0, 0] a + 1 * (x a).val = _
  fin_cases a <;> simp [ixB]

theorem ix4_eta (i : S8x8x1024x128.Idx) : ix4 (i 0) (i 1) (i 2) (i 3) = i := by
  funext a; fin_cases a <;> rfl

/-- A transfer of block `b` of `X` into slot `j` of the gathered keys leaves that block there. -/
theorem kg_landed (h : off = ![0, j.val, 0, 0]) (inb) (h₂ : off₂ = ![8 * b.val, 0, 0]) (inb₂) (fd : Gat F) (X : Seq F)
    (i : S8x8x1024x128.Idx) (hi : i ∈ slotSet j) :
    (slotView kgM off inb).view.write (Elt F) fd ((blockView khM off₂ inb₂).view.read (Elt F) X) Finset.univ i
      = X (ixB b (i 0) (i 2) (i 3)) := by
  have e : (slotView kgM off inb).view.emb (ix3 (i 0) (i 2) (i 3)) = i := by
    refine (slot_emb h inb squeezes_S8x1x1024x128_S8x1024x128.numel_eq (ix3 (i 0) (i 2) (i 3))).trans ?_
    have : j = i 1 := Fin.ext (mem_slotSet.mp hi).symm
    rw [this]; exact ix4_eta i
  rw [← e]
  refine (View.write_emb_of_mem (Val := Elt F) (v := (slotView kgM off inb).view) fd _ (Finset.mem_univ _)).trans ?_
  rw [e]
  exact congrArg X (block_emb h₂ inb₂ (ix3 (i 0) (i 2) (i 3)))

/-- The same into the gathered values. -/
theorem vg_landed (h : off = ![0, j.val, 0, 0]) (inb) (h₂ : off₂ = ![8 * b.val, 0, 0]) (inb₂) (fd : Gat F) (X : Seq F)
    (i : S8x8x1024x128.Idx) (hi : i ∈ slotSet j) :
    (slotView vgM off inb).view.write (Elt F) fd ((blockView vhM off₂ inb₂).view.read (Elt F) X) Finset.univ i
      = X (ixB b (i 0) (i 2) (i 3)) := by
  have e : (slotView vgM off inb).view.emb (ix3 (i 0) (i 2) (i 3)) = i := by
    refine (slot_emb h inb squeezes_S8x1x1024x128_S8x1024x128.numel_eq (ix3 (i 0) (i 2) (i 3))).trans ?_
    have : j = i 1 := Fin.ext (mem_slotSet.mp hi).symm
    rw [this]; exact ix4_eta i
  rw [← e]
  refine (View.write_emb_of_mem (Val := Elt F) (v := (slotView vgM off inb).view) fd _ (Finset.mem_univ _)).trans ?_
  rw [e]
  exact congrArg X (block_emb h₂ inb₂ (ix3 (i 0) (i 2) (i 3)))

/-- A transfer of a whole partial product into slab `j` leaves it there. -/
theorem slab_landed (h : off = ![j.val, 0, 0, 0]) (inb) (fd : Gat F) (P : Par F) (i : S8x8x1024x128.Idx) (hi : i ∈ slabSet j) :
    (slabView vgM off inb).view.write (Elt F) fd (psM.view.read (Elt F) P) Finset.univ i = slabOf P i := by
  have e : (slabView vgM off inb).view.emb (ix3 (i 1) (i 2) (i 3)) = i := by
    refine (slab_emb h inb squeezes_S1x8x1024x128_S8x1024x128.numel_eq (ix3 (i 1) (i 2) (i 3))).trans ?_
    have : j = i 0 := Fin.ext (mem_slabSet.mp hi).symm
    rw [this]; exact ix4_eta i
  rw [← e]
  refine (View.write_emb_of_mem (Val := Elt F) (v := (slabView vgM off inb).view) fd _ (Finset.mem_univ _)).trans ?_
  rw [e]; rfl

end Views

/-! ## The credit of one transfer -/

/-- What one transfer of an [8, 1024, 128] array of halfwords credits. -/
@[irreducible] def N : ℕ := psM.view.dmaCredit
theorem N_pos : 0 < N := by unfold N; exact View.dmaCredit_pos _ (by decide)
theorem kg_credit (off inb) : (slotView kgM off inb).view.dmaCredit = N := by unfold N; rfl
theorem vg_credit (off inb) : (slotView vgM off inb).view.dmaCredit = N := by unfold N; rfl
theorem vs_credit (off inb) : (slabView vgM off inb).view.dmaCredit = N := by unfold N; rfl
theorem kh_credit (off inb) : (blockView khM off inb).view.dmaCredit = N := by unfold N; rfl
theorem vh_credit (off inb) : (blockView vhM off inb).view.dmaCredit = N := by unfold N; rfl

/-! ## The semaphores -/

abbrev barS : Sem sig := (SemArray.scalar (sig.barrier 0 rfl) : Sems sig S_).sem
abbrev credS : Sem sig := cc0_scratch10.sem
def ksS (k : Fin 7) : DmaSem sig := ⟨4 + k.val, by have := k.isLt; show _ < 34; omega⟩
def krS (k : Fin 8) : DmaSem sig := ⟨11 + k.val, by have := k.isLt; show _ < 34; omega⟩
def vsS (k : Fin 7) : DmaSem sig := ⟨19 + k.val, by have := k.isLt; show _ < 34; omega⟩
def vrS (k : Fin 8) : DmaSem sig := ⟨26 + k.val, by have := k.isLt; show _ < 34; omega⟩

section Sems

/-- Member `off` of an array of seven semaphores, or of eight, as the kernel spells it. -/
abbrev sem7 (a : DmaSems sig S7) (off : Fin 1 → ℕ) (inb : ∀ b, off b + S1.size b ≤ S7.size b) : DmaSem sig :=
  ((a.slice (Rect.unit (s := S7) off S1.size inb)).squeeze S_ squeezes_S1_S_).sem
abbrev sem8 (a : DmaSems sig S8) (off : Fin 1 → ℕ) (inb : ∀ b, off b + S1.size b ≤ S8.size b) : DmaSem sig :=
  ((a.slice (Rect.unit (s := S8) off S1.size inb)).squeeze S_ squeezes_S1_S_).sem

theorem ks_sem (k : Fin 7) (inb) : sem7 cc0_scratch6 ![k.val] inb = ksS k := by revert inb; revert k; decide
theorem vs_sem (k : Fin 7) (inb) : sem7 cc0_scratch8 ![k.val] inb = vsS k := by revert inb; revert k; decide
theorem kr_sem (k : Fin 8) (inb) : sem8 cc0_scratch7 ![k.val] inb = krS k := by revert inb; revert k; decide
theorem vr_sem (k : Fin 8) (inb) : sem8 cc0_scratch9 ![k.val] inb = vrS k := by revert inb; revert k; decide
theorem barS_eq : barS = ⟨1, by decide⟩ := by decide
theorem credS_eq : credS = ⟨0, by decide⟩ := by decide

end Sems

end Cert.Proof.Attn
end
-- ==== Proof.Protocol.lean ====
/- The protocol of the exchange: every semaphore cell's rounds, what each landing hands over with its contents, what
   every device owes, and in what order its waits may come.

   Device `c`'s cells, with `peer c k` the device `k + 1` places on:
   - the barrier: one unit from every other device, which hands over its gathered slots `c`;
   - key and value send cells `k`: block `peer c k` of the own array comes back when it has been read;
   - key and value receive cells `k`: slot `peer c k.rev` of the gathered buffer, filled; cell 7 is the local copy;
   - the credit cell: one unit from every other device, which hands over the slab the partial product goes to;
   - round 1 of the value send and receive cells: the exchange of partial products. -/
module

public import proofs.«01_k».proof.Proof.Geometry
public import Idealize.ShloMosaic.Lib.Rounds.Family
public import Idealize.ShloMosaic.Lib.Pipeline.Regions
public import Idealize.ShloMosaic.Lib.Pipeline.Kit
public import Idealize.ShloMosaic.Lib.Pipeline.RegionTalk
public import Idealize.ShloMosaic.Lib.Tactic

@[expose] public section

noncomputable section

namespace Cert.Proof.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## Resources -/

/-- A wait is either for a first use of its cell (index 0) or for the second round of the value receive cells (index 1). -/
abbrev Ix : Type := Fin 2
/-- The staging copies' rounds and the exchange's. -/
abbrev UU : Type := UR sig nD τ × URounds (GSem nD τ sig) (Fin 7)

local notation "𝕄" => MT nD τ sig Ix (Elt F) ℕ UU ℕ

abbrev EP : Emb (UR sig nD τ) (MT nD τ sig Ix (Elt F) ℕ UU ℕ) := embL
abbrev ER : Emb (URounds (GSem nD τ sig) (Fin 7)) (MT nD τ sig Ix (Elt F) ℕ UU ℕ) := embR

abbrev 𝒱₀ : Variants := Variants.none

/-! ## Cells -/

abbrev barC (c : Dev nD) : GSem nD τ sig := ((c : Thread nD τ), .reg barS)
abbrev credC (c : Dev nD) : GSem nD τ sig := ((c : Thread nD τ), .reg credS)
abbrev ksC (c : Dev nD) (k : Fin 7) : GSem nD τ sig := ((c : Thread nD τ), .dma (ksS k))
abbrev krC (c : Dev nD) (k : Fin 8) : GSem nD τ sig := ((c : Thread nD τ), .dma (krS k))
abbrev vsC (c : Dev nD) (k : Fin 7) : GSem nD τ sig := ((c : Thread nD τ), .dma (vsS k))
abbrev vrC (c : Dev nD) (k : Fin 8) : GSem nD τ sig := ((c : Thread nD τ), .dma (vrS k))

/-! ## The contents, and what each duty hands over -/

variable (XK XV : Dev nD → Seq F) (P : Dev nD → Par F)

/-- Part `I` of a buffer of device `c`, at contents `f`. -/
abbrev kgPt (c : Dev nD) (I : Finset S8x8x1024x128.Idx) (f : Gat F) : sProp 𝕄 := kgM.view.loc (c : Thread nD τ) ↦[I]{fullShare} f
abbrev vgPt (c : Dev nD) (I : Finset S8x8x1024x128.Idx) (f : Gat F) : sProp 𝕄 := vgM.view.loc (c : Thread nD τ) ↦[I]{fullShare} f
abbrev khPt (c : Dev nD) (I : Finset S64x1024x128.Idx) (f : Seq F) : sProp 𝕄 := khM.view.loc (c : Thread nD τ) ↦[I]{fullShare} f
abbrev vhPt (c : Dev nD) (I : Finset S64x1024x128.Idx) (f : Seq F) : sProp 𝕄 := vhM.view.loc (c : Thread nD τ) ↦[I]{fullShare} f
abbrev psPt (c : Dev nD) (q : PosShare TreeShare) (f : Par F) : sProp 𝕄 := psM.view.loc (c : Thread nD τ) ↦[Finset.univ]{q} f

/-- A slot of device `d` for device `c` to write into, keys and values, with the word that `d`'s receive cells for it and
    `d`'s credit cell are in their first round. -/
def slotsFor (d c : Dev nD) (k : Fin 7) : sProp 𝕄 :=
  iprop((∃ f, kgPt (F := F) d (slotSet c) f) ∗ (∃ f, vgPt (F := F) d (slotSet c) f)
    ∗ reached ER (krC d k.castSucc) 0 ∗ reached ER (vrC d k.castSucc) 0 ∗ reached ER (credC d) 0)
/-- Slab `k` of device `d`, with the word that its receive cell is in its second round. -/
def slabFor (d : Dev nD) (k : Fin 7) : sProp 𝕄 :=
  iprop((∃ f, vgPt (F := F) d (slabSet k.castSucc) f) ∗ reached ER (vrC d k.castSucc) 1)

def barPay (c : Dev nD) (k : Fin 7) : sProp 𝕄 := slotsFor (F := F) (peer c k.rev) c k.rev
def credPay (c : Dev nD) (k : Fin 7) : sProp 𝕄 := slabFor (F := F) (peer c k.rev) k.rev
def ksPay (c : Dev nD) (k : Fin 7) : sProp 𝕄 := khPt c (blockSet (peer c k)) (XK c)
def vsPay (c : Dev nD) (k : Fin 7) : sProp 𝕄 := vhPt c (blockSet (peer c k)) (XV c)
def psPay (c : Dev nD) (k : Fin 7) : sProp 𝕄 := psPt c (shareTok fullShare 7 k) (P c)
def krPay (c : Dev nD) (k : Fin 8) : sProp 𝕄 :=
  if h : k.val < 7 then kgPt c (slotSet (peer c (⟨k.val, h⟩ : Fin 7).rev)) (gathered XK c)
  else iprop(kgPt c (slotSet c) (gathered XK c) ∗ khPt c (blockSet c) (XK c))
def vrPay (c : Dev nD) (k : Fin 8) : sProp 𝕄 :=
  if h : k.val < 7 then vgPt c (slotSet (peer c (⟨k.val, h⟩ : Fin 7).rev)) (gathered XV c)
  else iprop(vgPt c (slotSet c) (gathered XV c) ∗ vhPt c (blockSet c) (XV c))
def prPay (c : Dev nD) (k : Fin 8) : sProp 𝕄 :=
  if h : k.val < 7 then vgPt c (slabSet k) (slabOf (P (peer c (⟨k.val, h⟩ : Fin 7).rev))) else iprop(emp)

/-- What duty `d` of round `r` of a cell of device `c` hands over. -/
def pay (c : Dev nD) (sm : SemLoc sig) (r : ℕ) (d : Fin 7) : sProp 𝕄 :=
  match sm with
  | .reg i => if i.val = 1 then barPay c d else credPay c d
  | .dma i =>
    if i.val < 11 then (if h : 4 ≤ i.val ∧ i.val - 4 < 7 then ksPay XK c ⟨i.val - 4, h.2⟩ else iprop(emp))
    else if i.val < 19 then (if h : i.val - 11 < 8 then krPay XK c ⟨i.val - 11, h⟩ else iprop(emp))
    else if i.val < 26 then
      (if h : i.val - 19 < 7 then (if r = 0 then vsPay XV c ⟨i.val - 19, h⟩ else psPay P c ⟨i.val - 19, h⟩) else iprop(emp))
    else (if h : i.val - 26 < 8 then (if r = 0 then vrPay XV c ⟨i.val - 26, h⟩ else prPay P c ⟨i.val - 26, h⟩) else iprop(emp))

/-- The duties of round `r` of semaphore `sm`: seven on the barrier and the credit cell, one on a copy's cell; value cells
    have a second round. -/
def dut (sm : SemLoc sig) (r : ℕ) : Finset (Fin 7) :=
  match sm with
  | .reg _ => if r = 0 then Finset.univ else ∅
  | .dma i => if 4 ≤ i.val ∧ r = 0 then {0} else if 19 ≤ i.val ∧ i.val < 33 ∧ r = 1 then {0} else ∅

def amt (sm : SemLoc sig) : ℕ := match sm with | .reg _ => 1 | .dma _ => N

def Rd : Rounds.Schedule (GSem nD τ sig) (Fin 7) 𝕄 where
  duties g r := if g.1.2 = .tc then dut g.2 r else ∅
  unitless _ := False
  amount g _ _ := amt g.2
  payload g r d := pay XK XV P g.1.1 g.2 r d
  amount_pos g _ _ _ := by
    unfold amt; split
    · exact Nat.one_pos
    · exact N_pos

instance Rd_storable (g : GSem nD τ sig) (r : ℕ) (d : Fin 7) :
    BI.Storable (upEmb : UEmb _ 𝕄) ((Rd XK XV P).payload g r d) := by
  show BI.Storable upEmb (pay XK XV P g.1.1 g.2 r d)
  unfold pay barPay credPay slotsFor slabFor ksPay vsPay psPay krPay vrPay prPay
  split
  · split <;> infer_instance
  · (repeat' split) <;> infer_instance

/-! ### The tables -/

section Tables

variable (c : Dev nD)

theorem duties_bar : (Rd XK XV P).duties (barC c) 0 = Finset.univ := rfl
theorem duties_cred : (Rd XK XV P).duties (credC c) 0 = Finset.univ := rfl
theorem duties_ks (k : Fin 7) : (Rd XK XV P).duties (ksC c k) 0 = {0} :=
  if_pos (⟨by show 4 ≤ 4 + k.val; omega, rfl⟩ : 4 ≤ (ksS k).val ∧ 0 = 0)
theorem duties_kr (k : Fin 8) : (Rd XK XV P).duties (krC c k) 0 = {0} :=
  if_pos (⟨by show 4 ≤ 11 + k.val; omega, rfl⟩ : 4 ≤ (krS k).val ∧ 0 = 0)
theorem duties_vs (k : Fin 7) : (Rd XK XV P).duties (vsC c k) 0 = {0} :=
  if_pos (⟨by show 4 ≤ 19 + k.val; omega, rfl⟩ : 4 ≤ (vsS k).val ∧ 0 = 0)
theorem duties_vr (k : Fin 8) : (Rd XK XV P).duties (vrC c k) 0 = {0} :=
  if_pos (⟨by show 4 ≤ 26 + k.val; omega, rfl⟩ : 4 ≤ (vrS k).val ∧ 0 = 0)
theorem duties_vs1 (k : Fin 7) : (Rd XK XV P).duties (vsC c k) 1 = {0} :=
  (if_neg (fun h : 4 ≤ (vsS k).val ∧ 1 = 0 => Nat.one_ne_zero h.2)).trans
    (if_pos (⟨by show 19 ≤ 19 + k.val; omega, by have := k.isLt; show 19 + k.val < 33; omega, rfl⟩ : 19 ≤ (vsS k).val ∧ (vsS k).val < 33 ∧ 1 = 1))
theorem duties_vr1 (k : Fin 7) : (Rd XK XV P).duties (vrC c k.castSucc) 1 = {0} :=
  (if_neg (fun h : 4 ≤ (vrS k.castSucc).val ∧ 1 = 0 => Nat.one_ne_zero h.2)).trans
    (if_pos (⟨by show 19 ≤ 26 + k.val; omega, by have := k.isLt; show 26 + k.val < 33; omega, rfl⟩ : 19 ≤ (vrS k.castSucc).val ∧ (vrS k.castSucc).val < 33 ∧ 1 = 1))

/-- From round 2 on no cell has a duty; -/
theorem duties_two (g : GSem nD τ sig) (r : ℕ) (h : 2 ≤ r) : (Rd XK XV P).duties g r = ∅ := by
  show (if g.1.2 = .tc then dut g.2 r else ∅) = ∅
  unfold dut
  split
  · split
    · exact if_neg (by omega)
    · rw [if_neg (by omega), if_neg (by omega)]
  · rfl
/-- from round 1 on no barrier or credit cell, -/
theorem duties_reg (c : Dev nD) (i : Sem sig) (r : ℕ) (h : 1 ≤ r) : (Rd XK XV P).duties ((c : Thread nD τ), .reg i) r = ∅ :=
  if_neg (by omega)
/-- no key cell, nor the value cell of the local copy. -/
theorem duties_one (c : Dev nD) (i : DmaSem sig) (hi : i.val < 19 ∨ 33 ≤ i.val) (r : ℕ) (h : 1 ≤ r) :
    (Rd XK XV P).duties ((c : Thread nD τ), .dma i) r = ∅ :=
  (if_neg (by omega)).trans (if_neg (by omega))

theorem payload_bar (d : Fin 7) : (Rd XK XV P).payload (barC c) 0 d = barPay c d := rfl
theorem payload_cred (d : Fin 7) : (Rd XK XV P).payload (credC c) 0 d = credPay c d := rfl
theorem payload_ks (k d : Fin 7) : (Rd XK XV P).payload (ksC c k) 0 d = ksPay XK c k := by
  have hk := k.isLt
  refine (if_pos (show 4 + k.val < 11 by omega)).trans ((dif_pos (show 4 ≤ 4 + k.val ∧ 4 + k.val - 4 < 7 by omega)).trans ?_)
  exact congrArg (ksPay XK c) (Fin.ext (show 4 + k.val - 4 = k.val by omega))
theorem payload_kr (k : Fin 8) (d : Fin 7) : (Rd XK XV P).payload (krC c k) 0 d = krPay XK c k := by
  have hk := k.isLt
  refine (if_neg (show ¬ 11 + k.val < 11 by omega)).trans ((if_pos (show 11 + k.val < 19 by omega)).trans
    ((dif_pos (show 11 + k.val - 11 < 8 by omega)).trans ?_))
  exact congrArg (krPay XK c) (Fin.ext (show 11 + k.val - 11 = k.val by omega))
theorem payload_vs (k d : Fin 7) : (Rd XK XV P).payload (vsC c k) 0 d = vsPay XV c k := by
  have hk := k.isLt
  refine (if_neg (show ¬ 19 + k.val < 11 by omega)).trans ((if_neg (show ¬ 19 + k.val < 19 by omega)).trans
    ((if_pos (show 19 + k.val < 26 by omega)).trans ((dif_pos (show 19 + k.val - 19 < 7 by omega)).trans ((if_pos rfl).trans ?_))))
  exact congrArg (vsPay XV c) (Fin.ext (show 19 + k.val - 19 = k.val by omega))
theorem payload_vs1 (k d : Fin 7) : (Rd XK XV P).payload (vsC c k) 1 d = psPay P c k := by
  have hk := k.isLt
  refine (if_neg (show ¬ 19 + k.val < 11 by omega)).trans ((if_neg (show ¬ 19 + k.val < 19 by omega)).trans
    ((if_pos (show 19 + k.val < 26 by omega)).trans ((dif_pos (show 19 + k.val - 19 < 7 by omega)).trans ((if_neg Nat.one_ne_zero).trans ?_))))
  exact congrArg (psPay P c) (Fin.ext (show 19 + k.val - 19 = k.val by omega))
theorem payload_vr (k : Fin 8) (d : Fin 7) : (Rd XK XV P).payload (vrC c k) 0 d = vrPay XV c k := by
  have hk := k.isLt
  refine (if_neg (show ¬ 26 + k.val < 11 by omega)).trans ((if_neg (show ¬ 26 + k.val < 19 by omega)).trans
    ((if_neg (show ¬ 26 + k.val < 26 by omega)).trans ((dif_pos (show 26 + k.val - 26 < 8 by omega)).trans ((if_pos rfl).trans ?_))))
  exact congrArg (vrPay XV c) (Fin.ext (show 26 + k.val - 26 = k.val by omega))
theorem payload_vr1 (k : Fin 8) (d : Fin 7) : (Rd XK XV P).payload (vrC c k) 1 d = prPay P c k := by
  have hk := k.isLt
  refine (if_neg (show ¬ 26 + k.val < 11 by omega)).trans ((if_neg (show ¬ 26 + k.val < 19 by omega)).trans
    ((if_neg (show ¬ 26 + k.val < 26 by omega)).trans ((dif_pos (show 26 + k.val - 26 < 8 by omega)).trans ((if_neg Nat.one_ne_zero).trans ?_))))
  exact congrArg (prPay P c) (Fin.ext (show 26 + k.val - 26 = k.val by omega))

theorem expect_of_single {g : GSem nD τ sig} {r : ℕ} (h : (Rd XK XV P).duties g r = {0}) : (Rd XK XV P).expect g r = amt g.2 := by
  unfold Schedule.expect Schedule.amountOf; rw [h, Finset.sum_singleton]; rfl
theorem expect_bar : (Rd XK XV P).expect (barC c) 0 = 7 := by
  unfold Schedule.expect Schedule.amountOf; rw [duties_bar]; rfl
theorem expect_cred : (Rd XK XV P).expect (credC c) 0 = 7 := by
  unfold Schedule.expect Schedule.amountOf; rw [duties_cred]; rfl

theorem rest_of_single {g : GSem nD τ sig} {r : ℕ} {X : sProp 𝕄} (h : (Rd XK XV P).duties g r = {0}) (hp : ∀ d, (Rd XK XV P).payload g r d = X) :
    bigSep ((Rd XK XV P).duties g r \ ∅) (fun d => (Rd XK XV P).payload g r d) = X := by
  rw [Finset.sdiff_empty, h, bigSep_singleton, hp]

end Tables

/-! ## Counting through a family of seven -/

section Count

/-- The members of a family from `n` on, and those before `n`. -/
def more (n : ℕ) (Φ : Fin 7 → sProp 𝕄) : sProp 𝕄 := bigSep (Finset.univ.filter fun k : Fin 7 => n ≤ k.val) Φ
def done (n : ℕ) (Φ : Fin 7 → sProp 𝕄) : sProp 𝕄 := bigSep (Finset.univ.filter fun k : Fin 7 => k.val < n) Φ

theorem from_step : ∀ k : Fin 7, (Finset.univ.filter fun i : Fin 7 => k.val ≤ i.val) = insert k (Finset.univ.filter fun i : Fin 7 => k.val + 1 ≤ i.val) := by decide
theorem from_notin : ∀ k : Fin 7, k ∉ (Finset.univ.filter fun i : Fin 7 => k.val + 1 ≤ i.val) := by decide
theorem upto_step : ∀ k : Fin 7, (Finset.univ.filter fun i : Fin 7 => i.val < k.val + 1) = insert k (Finset.univ.filter fun i : Fin 7 => i.val < k.val) := by decide
theorem upto_notin : ∀ k : Fin 7, k ∉ (Finset.univ.filter fun i : Fin 7 => i.val < k.val) := by decide

theorem more_step (k : Fin 7) (Φ : Fin 7 → sProp 𝕄) : more k.val Φ = iprop(Φ k ∗ more (k.val + 1) Φ) := by
  unfold more; rw [from_step k, bigSep_insert (from_notin k)]; rfl
theorem done_step (k : Fin 7) (Φ : Fin 7 → sProp 𝕄) : done (k.val + 1) Φ = iprop(Φ k ∗ done k.val Φ) := by
  unfold done; rw [upto_step k, bigSep_insert (upto_notin k)]; rfl
theorem more_zero (Φ : Fin 7 → sProp 𝕄) : more 0 Φ = bigSep Finset.univ Φ := by
  unfold more; rw [show (Finset.univ.filter fun k : Fin 7 => 0 ≤ k.val) = Finset.univ by decide]
theorem more_end (Φ : Fin 7 → sProp 𝕄) : more 7 Φ = (BI.emp : sProp 𝕄) := by
  unfold more; rw [show (Finset.univ.filter fun k : Fin 7 => 7 ≤ k.val) = ∅ by decide, bigSep_empty]
theorem done_zero (Φ : Fin 7 → sProp 𝕄) : done 0 Φ = (BI.emp : sProp 𝕄) := by
  unfold done; rw [show (Finset.univ.filter fun k : Fin 7 => k.val < 0) = ∅ by decide, bigSep_empty]
theorem done_end (Φ : Fin 7 → sProp 𝕄) : done 7 Φ = bigSep Finset.univ Φ := by
  unfold done; rw [show (Finset.univ.filter fun k : Fin 7 => k.val < 7) = Finset.univ by decide]

end Count

/-! ## What a device owes, and the levels -/

def oB (c : Dev nD) (k : Fin 7) : CellTallies nD τ sig Ix := tallyAt (barC (peer c k)) 0 1
def oK (c : Dev nD) (k : Fin 7) : CellTallies nD τ sig Ix := tallyAt (krC (peer c k) k.castSucc) 0 N
def oV (c : Dev nD) (k : Fin 7) : CellTallies nD τ sig Ix := tallyAt (vrC (peer c k) k.castSucc) 0 N
def oC (c : Dev nD) (k : Fin 7) : CellTallies nD τ sig Ix := tallyAt (credC (peer c k)) 0 1
def oP (c : Dev nD) (k : Fin 7) : CellTallies nD τ sig Ix := tallyAt (vrC (peer c k) k.castSucc) 1 N

def rest (f : Fin 7 → CellTallies nD τ sig Ix) (n : ℕ) : CellTallies nD τ sig Ix := ∑ k ∈ Finset.univ.filter (fun k : Fin 7 => n ≤ k.val), f k

theorem rest_step (f : Fin 7 → CellTallies nD τ sig Ix) (k : Fin 7) : rest f k.val = rest f (k.val + 1) + f k := by
  unfold rest; rw [from_step k, Finset.sum_insert (from_notin k), add_comm]
theorem rest_end (f : Fin 7 → CellTallies nD τ sig Ix) : rest f 7 = 0 := by
  unfold rest; rw [show (Finset.univ.filter fun k : Fin 7 => 7 ≤ k.val) = ∅ by decide, Finset.sum_empty]
theorem rest_apply (f : Fin 7 → CellTallies nD τ sig Ix) (n : ℕ) (g : GSem nD τ sig) (i : Ix) :
    rest f n g i = ∑ k ∈ Finset.univ.filter (fun k : Fin 7 => n ≤ k.val), f k g i := by
  unfold rest; rw [Finset.sum_apply, Finsupp.finset_sum_apply]
theorem rest_pos {f : Fin 7 → CellTallies nD τ sig Ix} {n : ℕ} {g : GSem nD τ sig} {i : Ix} (h : 0 < rest f n g i) :
    ∃ k : Fin 7, n ≤ k.val ∧ 0 < f k g i := by
  rw [rest_apply] at h
  obtain ⟨k, hk, h⟩ := Finset.exists_ne_zero_of_sum_ne_zero h.ne'
  exact ⟨k, (Finset.mem_filter.mp hk).2, Nat.pos_of_ne_zero h⟩

/-- What device `c` still owes after `b` barrier signals, `k` key and `v` value sends, `r` credit signals and `p` sends of
    partial products. -/
def due (c : Dev nD) (b k v r p : ℕ) : CellTallies nD τ sig Ix := rest (oB c) b + rest (oK c) k + rest (oV c) v + rest (oC c) r + rest (oP c) p

theorem due_b (c : Dev nD) (n : Fin 7) (k v r p : ℕ) : due c n.val k v r p = due c (n.val + 1) k v r p + oB c n := by
  unfold due; rw [rest_step]; abel
theorem due_k (c : Dev nD) (n : Fin 7) (b v r p : ℕ) : due c b n.val v r p = due c b (n.val + 1) v r p + oK c n := by
  unfold due; rw [rest_step]; abel
theorem due_v (c : Dev nD) (n : Fin 7) (b k r p : ℕ) : due c b k n.val r p = due c b k (n.val + 1) r p + oV c n := by
  unfold due; rw [rest_step (oV c)]; abel
theorem due_r (c : Dev nD) (n : Fin 7) (b k v p : ℕ) : due c b k v n.val p = due c b k v (n.val + 1) p + oC c n := by
  unfold due; rw [rest_step (oC c)]; abel
theorem due_p (c : Dev nD) (n : Fin 7) (b k v r : ℕ) : due c b k v r n.val = due c b k v r (n.val + 1) + oP c n := by
  unfold due; rw [rest_step (oP c)]; abel
theorem due_end (c : Dev nD) : due c 7 7 7 7 7 = 0 := by unfold due; simp only [rest_end, add_zero]

def L (g : GSem nD τ sig) : Finset Ix := if g.1.2 = .tc then Finset.univ else ∅
/-- Barrier 1; keys and values 2; credit 3; partial products 4; send cells and everything else 0. -/
def lv (g : GSem nD τ sig) (i : Ix) : ℕ := match g.2 with
  | .reg j => if j.val = 1 then 1 else 3
  | .dma j => if j.val < 11 then 0 else if j.val < 19 then 2 else if j.val < 26 then 0 else if i = 0 then 2 else 4

theorem L_of_ne (g : GSem nD τ sig) (h : g.1.2 ≠ .tc) : L g = ∅ := if_neg h
theorem L_tc (c : Dev nD) (sm : SemLoc sig) : L ((c : Thread nD τ), sm) = Finset.univ := if_pos rfl

theorem lv_bar (c : Dev nD) (i : Ix) : lv (barC c) i = 1 := rfl
theorem lv_cred (c : Dev nD) (i : Ix) : lv (credC c) i = 3 := rfl
theorem lv_ks (c : Dev nD) (k : Fin 7) (i : Ix) : lv (ksC c k) i = 0 := if_pos (show 4 + k.val < 11 by omega)
theorem lv_kr (c : Dev nD) (k : Fin 8) (i : Ix) : lv (krC c k) i = 2 :=
  (if_neg (show ¬ 11 + k.val < 11 by omega)).trans (if_pos (show 11 + k.val < 19 by omega))
theorem lv_vs (c : Dev nD) (k : Fin 7) (i : Ix) : lv (vsC c k) i = 0 :=
  (if_neg (show ¬ 19 + k.val < 11 by omega)).trans ((if_neg (show ¬ 19 + k.val < 19 by omega)).trans (if_pos (show 19 + k.val < 26 by omega)))
theorem lv_vr (c : Dev nD) (k : Fin 8) (i : Ix) : lv (vrC c k) i = if i = 0 then 2 else 4 :=
  (if_neg (show ¬ 26 + k.val < 11 by omega)).trans ((if_neg (show ¬ 26 + k.val < 19 by omega)).trans (if_neg (show ¬ 26 + k.val < 26 by omega)))

theorem tally_pos {g g' : GSem nD τ sig} {i i' : Ix} {n : ℕ} (h : 0 < (tallyAt g i n : CellTallies nD τ sig Ix) g' i') : g' = g ∧ i' = i := by
  rw [tallyAt_apply] at h
  by_contra hc; rw [if_neg hc] at h; exact absurd h (Nat.lt_irrefl 0)

/-- Everything owed sits on a core's own cells, at a level that grows as the device goes on. -/
theorem due_pos {c : Dev nD} {b k v r p : ℕ} {g : GSem nD τ sig} {i : Ix} (h : 0 < due c b k v r p g i) :
    i ∈ L g ∧ (lv g i = 1 ∧ b < 7 ∨ lv g i = 2 ∧ (k < 7 ∨ v < 7) ∨ lv g i = 3 ∧ r < 7 ∨ lv g i = 4 ∧ p < 7) := by
  unfold due at h
  simp only [Pi.add_apply, Finsupp.add_apply] at h
  have key : 0 < rest (oB c) b g i ∨ 0 < rest (oK c) k g i ∨ 0 < rest (oV c) v g i ∨ 0 < rest (oC c) r g i ∨ 0 < rest (oP c) p g i := by omega
  rcases key with h | h | h | h | h <;> obtain ⟨n, hn, h⟩ := rest_pos h <;> obtain ⟨rfl, rfl⟩ := tally_pos h <;> have := n.isLt
  · exact ⟨by rw [L_tc]; exact Finset.mem_univ _, .inl ⟨lv_bar _ _, by omega⟩⟩
  · exact ⟨by rw [L_tc]; exact Finset.mem_univ _, .inr (.inl ⟨lv_kr _ _ _, by omega⟩)⟩
  · exact ⟨by rw [L_tc]; exact Finset.mem_univ _, .inr (.inl ⟨(lv_vr _ _ _).trans (if_pos rfl), by omega⟩)⟩
  · exact ⟨by rw [L_tc]; exact Finset.mem_univ _, .inr (.inr (.inl ⟨lv_cred _ _, by omega⟩))⟩
  · exact ⟨by rw [L_tc]; exact Finset.mem_univ _, .inr (.inr (.inr ⟨(lv_vr _ _ _).trans (if_neg (by decide)), by omega⟩))⟩

/-- A wait is allowed where its cell's level is below that of everything still owed. -/
theorem mayWait (c : Dev nD) (sm : SemLoc sig) (i : Ix) {b k v r p : ℕ}
    (h1 : b < 7 → lv ((c : Thread nD τ), sm) i < 1) (h2 : k < 7 ∨ v < 7 → lv ((c : Thread nD τ), sm) i < 2)
    (h3 : r < 7 → lv ((c : Thread nD τ), sm) i < 3) (h4 : p < 7 → lv ((c : Thread nD τ), sm) i < 4) :
    (levAts L lv : sProp 𝕄) ⊢ MayWait (c : Thread nD τ) sm i (due c b k v r p) :=
  MayOwe.of_cut (L := L) (lev := lv) (lv ((c : Thread nD τ), sm) i)
    (fun q hq => by rw [Finset.mem_singleton.mp hq, L_tc]; exact Finset.mem_univ _)
    (fun g u hg => (due_pos hg).1)
    (fun q hq => by rw [Finset.mem_singleton.mp hq])
    (fun g u hg => by
      obtain ⟨-, h | h | h | h⟩ := due_pos hg
      · rw [h.1]; exact h1 h.2
      · rw [h.1]; exact h2 h.2
      · rw [h.1]; exact h3 h.2
      · rw [h.1]; exact h4 h.2)

/-- What a device owes, whatever it has waited for so far. -/
def Ow (c : Dev nD) (O : CellTallies nD τ sig Ix) : sProp 𝕄 := iprop(∃ W, owes (c : Thread nD τ) O W)

/-! ## The funded cells -/

/-- The kernel's own semaphores: every one declared in its scope. -/
def osem (i : Fin 31) : SemLoc sig := if h : i.val < 30 then .dma ⟨4 + i.val, by show _ < 34; omega⟩ else .reg credS

theorem osem_inj : Function.Injective osem := by decide
theorem osem_ne_bar : ∀ k : Fin 31, osem k ≠ .reg barS := by decide

def barEmb : Dev nD ↪ GSem nD τ sig := ⟨fun c => barC c, fun _ _ h => congrArg (fun g : GSem nD τ sig => g.1.1) h⟩
def ownEmb : Dev nD × Fin 31 ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

theorem bar_mem (c : Dev nD) : barC c ∈ (barCells ∪ ownCells : Finset (GSem nD τ sig)) :=
  Finset.mem_union_left _ (Finset.mem_map_of_mem barEmb (Finset.mem_univ c))
theorem own_mem (c : Dev nD) (i : Fin 31) : ((c : Thread nD τ), osem i) ∈ (barCells ∪ ownCells : Finset (GSem nD τ sig)) :=
  Finset.mem_union_right _ (Finset.mem_map_of_mem ownEmb (Finset.mem_univ (c, i)))
theorem dma_mem (c : Dev nD) (j : DmaSem sig) (h : 4 ≤ j.val) : ((c : Thread nD τ), .dma j) ∈ (barCells ∪ ownCells : Finset (GSem nD τ sig)) := by
  have hj : j.val < 34 := j.isLt
  have e : osem ⟨j.val - 4, by omega⟩ = .dma j := by
    unfold osem
    rw [dif_pos (show j.val - 4 < 30 by omega)]
    exact congrArg SemLoc.dma (Fin.ext (show 4 + (j.val - 4) = j.val by omega))
  rw [← e]; exact own_mem c _
theorem cred_mem (c : Dev nD) : credC c ∈ (barCells ∪ ownCells : Finset (GSem nD τ sig)) := own_mem c 30
theorem ks_mem (c : Dev nD) (k : Fin 7) : ksC c k ∈ (barCells ∪ ownCells : Finset (GSem nD τ sig)) := dma_mem c _ (show 4 ≤ 4 + k.val by omega)
theorem kr_mem (c : Dev nD) (k : Fin 8) : krC c k ∈ (barCells ∪ ownCells : Finset (GSem nD τ sig)) := dma_mem c _ (show 4 ≤ 11 + k.val by omega)
theorem vs_mem (c : Dev nD) (k : Fin 7) : vsC c k ∈ (barCells ∪ ownCells : Finset (GSem nD τ sig)) := dma_mem c _ (show 4 ≤ 19 + k.val by omega)
theorem vr_mem (c : Dev nD) (k : Fin 8) : vrC c k ∈ (barCells ∪ ownCells : Finset (GSem nD τ sig)) := dma_mem c _ (show 4 ≤ 26 + k.val by omega)

/-- The records every device may consult: each cell's invariant at its name, and the levels. -/
def Inv (κ : GSem nD τ sig → ℕ) : sProp 𝕄 :=
  iprop((bigSep (barCells ∪ ownCells) fun g => cellInv ER (Rd XK XV P) (κ g) g) ∗ levAts L lv)

instance Inv_persistent (κ : GSem nD τ sig → ℕ) : BI.Persistent (Inv XK XV P κ : sProp 𝕄) := by unfold Inv; infer_instance

theorem Inv_at (κ : GSem nD τ sig → ℕ) {g : GSem nD τ sig} (hg : g ∈ (barCells ∪ ownCells : Finset (GSem nD τ sig))) :
    (Inv XK XV P κ : sProp 𝕄) ⊢ cellInv ER (Rd XK XV P) (κ g) g := by
  unfold Inv
  iintro ⟨H, -⟩
  iapply (show (bigSep (barCells ∪ ownCells) (fun g => cellInv ER (Rd XK XV P) (κ g) g) : sProp 𝕄) ⊢ cellInv ER (Rd XK XV P) (κ g) g from
    bigSep_elim (Φ := fun g => (cellInv ER (Rd XK XV P) (κ g) g : sProp 𝕄)) hg) $$ H
theorem Inv_lev (κ : GSem nD τ sig → ℕ) : (Inv XK XV P κ : sProp 𝕄) ⊢ levAts L lv := by
  unfold Inv
  iintro ⟨-, H⟩; iexact H

end Cert.Proof.Attn
end
-- ==== Proof.Steps.lean ====
/- One lemma for each kind of statement that touches a semaphore: a signal of the barrier or of the credit cell, a send of
   keys, of values or of a partial product, a local copy, and a wait. Each is stated once at any device and any place in
   its family of seven, so that the kernel's straight-line parts are chains of them. -/
module

public import proofs.«01_k».proof.Proof.Protocol

@[expose] public section

noncomputable section

namespace Cert.Proof.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F] [Named F]

local notation "𝕄" => MT nD τ sig Ix (Elt F) ℕ UU ℕ

/-- A piece of the kernel on device `c`'s core, to be continued as `Q` says. -/
abbrev Wp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Chain

/-- A piece, then the rest from what the piece leaves. -/
theorem seq {α β : Type} {c : Dev nD} {I A : sProp 𝕄} [BI.Persistent I] {p : Prog (TpuEff nD τ sig (Elt F) Λ₀ .tc) α} {k : α → Prog (TpuEff nD τ sig (Elt F) Λ₀ .tc) β} {B : α → sProp 𝕄} {Q : β → sProp 𝕄} (h : iprop(I ∗ A) ⊢ Wp c p B) (h' : ∀ v, iprop(I ∗ B v) ⊢ Wp c (k v) Q) :
    iprop(I ∗ A) ⊢ Wp c (p >>= k) Q := by
  unfold Wp; rw [wp_bind]
  iintro ⟨#HI, HA⟩
  iapply (wp_wand frame (wpE (defs₀ (F := F)) 𝒱₀ (c : Thread nD τ) none) Set.univ (p := p) (Q := B)) $$ [HA]
  · iapply h; isplitr; · iexact HI
    iexact HA
  iintro %v HB
  iapply (h' v); isplitr; · iexact HI
  iexact HB

/-- The same, with `R` set aside for the rest. -/
theorem seqR {α β : Type} {c : Dev nD} {I A : sProp 𝕄} [BI.Persistent I] {R : sProp 𝕄} {p : Prog (TpuEff nD τ sig (Elt F) Λ₀ .tc) α} {k : α → Prog (TpuEff nD τ sig (Elt F) Λ₀ .tc) β} {B : α → sProp 𝕄} {Q : β → sProp 𝕄} (h : iprop(I ∗ A) ⊢ Wp c p B) (h' : ∀ v, iprop(I ∗ (B v ∗ R)) ⊢ Wp c (k v) Q) :
    iprop(I ∗ (A ∗ R)) ⊢ Wp c (p >>= k) Q := by
  refine seq (B := fun v => iprop(B v ∗ R)) ?_ h'
  refine BIBase.Entails.trans ?_ (wp_frame_r frame (wpE (defs₀ (F := F)) 𝒱₀ (c : Thread nD τ) none) Set.univ)
  iintro ⟨#HI, HA, HR⟩
  isplitr [HR]
  · iapply h; isplitr; · iexact HI
    iexact HA
  iexact HR

/-- A piece with `R` set aside. -/
theorem aside {α : Type} {c : Dev nD} {I A : sProp 𝕄} [BI.Persistent I] {R : sProp 𝕄} {p : Prog (TpuEff nD τ sig (Elt F) Λ₀ .tc) α} {B : α → sProp 𝕄} (h : iprop(I ∗ A) ⊢ Wp c p B) : iprop(I ∗ (A ∗ R)) ⊢ Wp c p (fun v => iprop(B v ∗ R)) := by
  refine BIBase.Entails.trans ?_ (wp_frame_r frame (wpE (defs₀ (F := F)) 𝒱₀ (c : Thread nD τ) none) Set.univ)
  iintro ⟨#HI, HA, HR⟩
  isplitr [HR]
  · iapply h; isplitr; · iexact HI
    iexact HA
  iexact HR

/-- What a piece is given may be rearranged first, -/
theorem before {α : Type} {c : Dev nD} {I A : sProp 𝕄} [BI.Persistent I] {S : sProp 𝕄} {p : Prog (TpuEff nD τ sig (Elt F) Λ₀ .tc) α} {Q : α → sProp 𝕄} (h : BIBase.Entails A S) (h' : BIBase.Entails iprop(I ∗ S) (Wp c p Q)) : BIBase.Entails iprop(I ∗ A) (Wp c p Q) := by
  iintro ⟨#HI, HA⟩
  iapply h'; isplitr; · iexact HI
  iapply h; iexact HA
/-- and what it leaves afterwards. -/
theorem after {α : Type} {c : Dev nD} {I A : sProp 𝕄} [BI.Persistent I] {p : Prog (TpuEff nD τ sig (Elt F) Λ₀ .tc) α} {B Q : α → sProp 𝕄} (h' : BIBase.Entails iprop(I ∗ A) (Wp c p B)) (h : ∀ v, BIBase.Entails (B v) (Q v)) : BIBase.Entails iprop(I ∗ A) (Wp c p Q) :=
  BI.Entails.trans h' (wp_mono frame (wpE (defs₀ (F := F)) 𝒱₀ (c : Thread nD τ) none) Set.univ h)
/-- The end. -/
theorem stop {α : Type} {c : Dev nD} {I A : sProp 𝕄} [BI.Persistent I] {a : α} {Q : α → sProp 𝕄} (h : BIBase.Entails A (Q a)) : BIBase.Entails iprop(I ∗ A) (Wp c (pure a) Q) := by
  iintro ⟨-, HA⟩
  iapply (le_wp_ret frame (wpE (defs₀ (F := F)) 𝒱₀ (c : Thread nD τ) none) Set.univ a Q)
  iapply h; iexact HA

/-- A family of seven: those from `n` on still at `Φ`, those before at `Ψ`. -/
def Fam (n : ℕ) (Φ Ψ : Fin 7 → sProp 𝕄) : sProp 𝕄 := iprop(more n Φ ∗ done n Ψ)

/-- A piece that serves member `k`. -/
theorem serve {α : Type} {c : Dev nD} {I : sProp 𝕄} [BI.Persistent I] {p : Prog (TpuEff nD τ sig (Elt F) Λ₀ .tc) α} {O O' : sProp 𝕄} (k : Fin 7) {Φ Ψ : Fin 7 → sProp 𝕄} (h : iprop(I ∗ (O ∗ Φ k)) ⊢ Wp c p (fun _ => iprop(O' ∗ Ψ k))) :
    iprop(I ∗ (O ∗ Fam k.val Φ Ψ)) ⊢ Wp c p (fun _ => iprop(O' ∗ Fam (k.val + 1) Φ Ψ)) := by
  have e : iprop(O ∗ Fam k.val Φ Ψ) ⊢ iprop((O ∗ Φ k) ∗ (more (k.val + 1) Φ ∗ done k.val Ψ)) := by
    unfold Fam; rw [more_step]
    iintro ⟨HO, ⟨HP, HM⟩, HD⟩
    isplitl [HO HP]
    · isplitl [HO] <;> iassumption
    isplitl [HM] <;> iassumption
  refine before e (after (aside h) fun _ => ?_)
  unfold Fam; rw [done_step]
  iintro ⟨⟨HO, HP⟩, HM, HD⟩
  isplitl [HO]; · iexact HO
  isplitl [HM]; · iexact HM
  isplitl [HP] <;> iassumption

theorem Fam_start (Φ Ψ : Fin 7 → sProp 𝕄) : bigSep Finset.univ Φ = Fam 0 Φ Ψ := by
  unfold Fam; rw [more_zero, done_zero]; exact (equiv_iff.mp sep_emp).symm
theorem Fam_end (Φ Ψ : Fin 7 → sProp 𝕄) : Fam 7 Φ Ψ = bigSep Finset.univ Ψ := by
  unfold Fam; rw [more_end, done_end]; exact equiv_iff.mp emp_sep

end Chain

variable (XK XV : Dev nD → Seq F) (P : Dev nD → Par F) (κ : GSem nD τ sig → ℕ)

/-! ## Signals -/

/-- What a barrier signal to `peer c k` takes, and a credit signal. -/
def sigItem (c : Dev nD) (k : Fin 7) : sProp 𝕄 :=
  iprop(dutyTok ER (barC (peer c k)) 0 k ∗ reached ER (barC (peer c k)) 0 ∗ slotsFor (F := F) c (peer c k) k.rev)
def credItem (c : Dev nD) (k : Fin 7) : sProp 𝕄 :=
  iprop(dutyTok ER (credC (peer c k)) 0 k ∗ reached ER (credC (peer c k)) 0 ∗ slabFor (F := F) c k.rev)

theorem signal_bar (c d : Dev nD) (k : Fin 7) (hd : d = peer c k) {s : Sem sig} (hs : s = barS) {b v r p : ℕ} :
    iprop((Inv XK XV P κ) ∗ (Ow c (due c k.val b v r p) ∗ sigItem c k)) ⊢ Wp c (semSignalWord d s 1#32) (fun _ => iprop(Ow c (due c (k.val + 1) b v r p) ∗ emp)) := by
  subst hd hs
  unfold Ow sigItem
  iintro ⟨#HI, ⟨%W, HO⟩, Ht, Hr, Hs⟩
  iapply (Rounds.wp_signal 𝒱₀ ER (Rd XK XV P) (c : Thread nD τ) none (dst := (peer c k : Thread nD τ)) (sem := barS) (r := 0) (d := k)
      (κ := κ (barC (peer c k))) (by rw [duties_bar]; exact Finset.mem_univ _) rfl 0 (due c (k.val + 1) b v r p) (due_b c k b v r p) (W := W)) $$ [HO Ht Hr Hs]
  · isplitr; · iapply (Inv_at XK XV P κ (bar_mem (peer c k))); iexact HI
    isplitl [HO]; · iexact HO
    isplitl [Ht]; · iexact Ht
    isplitl [Hs]
    · rw [payload_bar]; unfold barPay; rw [peer_rev']; iexact Hs
    iexact Hr
  iintro HO
  iapply (le_wp_ret frame (wpE (defs₀ (F := F)) 𝒱₀ (c : Thread nD τ) none) Set.univ)
  isplitl [HO]
  · iexists W; iexact HO
  iempintro

theorem signal_cred (c d : Dev nD) (k : Fin 7) (hd : d = peer c k) {s : Sem sig} (hs : s = credS) {a b v p : ℕ} :
    iprop((Inv XK XV P κ) ∗ (Ow c (due c a b v k.val p) ∗ credItem c k)) ⊢ Wp c (semSignalWord d s 1#32) (fun _ => iprop(Ow c (due c a b v (k.val + 1) p) ∗ emp)) := by
  subst hd hs
  unfold Ow credItem
  iintro ⟨#HI, ⟨%W, HO⟩, Ht, Hr, Hs⟩
  iapply (Rounds.wp_signal 𝒱₀ ER (Rd XK XV P) (c : Thread nD τ) none (dst := (peer c k : Thread nD τ)) (sem := credS) (r := 0) (d := k)
      (κ := κ (credC (peer c k))) (by rw [duties_cred]; exact Finset.mem_univ _) rfl 0 (due c a b v (k.val + 1) p) (due_r c k a b v p) (W := W)) $$ [HO Ht Hr Hs]
  · isplitr; · iapply (Inv_at XK XV P κ (cred_mem (peer c k))); iexact HI
    isplitl [HO]; · iexact HO
    isplitl [Ht]; · iexact Ht
    isplitl [Hs]
    · rw [payload_cred]; unfold credPay; rw [peer_rev']; iexact Hs
    iexact Hr
  iintro HO
  iapply (le_wp_ret frame (wpE (defs₀ (F := F)) 𝒱₀ (c : Thread nD τ) none) Set.univ)
  isplitl [HO]
  · iexists W; iexact HO
  iempintro

/-! ## Waits -/

/-- A wait for all seven units of a cell that the seven other devices signal. -/
theorem wait_reg (c : Dev nD) {s : Sem sig} {X : Fin 7 → sProp 𝕄} (hm : ((c : Thread nD τ), SemLoc.reg s) ∈ (barCells ∪ ownCells : Finset (GSem nD τ sig)))
    (he : (Rd XK XV P).expect ((c : Thread nD τ), .reg s) 0 = 7)
    (hd : (Rd XK XV P).duties ((c : Thread nD τ), .reg s) 0 = Finset.univ)
    (hX : ∀ d, (Rd XK XV P).payload ((c : Thread nD τ), .reg s) 0 d = X d) {O : CellTallies nD τ sig Ix}
    (hw : (levAts L lv : sProp 𝕄) ⊢ MayWait (c : Thread nD τ) (.reg s) 0 O) :
    iprop((Inv XK XV P κ) ∗ (Ow c O ∗ (cred (tallyAt ((c : Thread nD τ), SemLoc.reg s) 0 7) ∗ atPos ER ((c : Thread nD τ), SemLoc.reg s) 0 ∅ 0)))
      ⊢ Wp c (semWaitWord s 7#32) (fun _ => iprop(Ow c O ∗ (atPos ER ((c : Thread nD τ), SemLoc.reg s) 1 ∅ 0 ∗ bigSep Finset.univ X))) := by
  unfold Ow
  iintro ⟨#HI, ⟨%W, HO⟩, Hc, Ha⟩
  iapply (Rounds.wp_wait_rest_token 𝒱₀ ER (Rd XK XV P) (c : Thread nD τ) none (κ := κ ((c : Thread nD τ), .reg s))
      (wpE_semWait_eq 𝒱₀ (c : Thread nD τ) none Set.univ) (Set.mem_univ _) (0 : Ix) (O := O) (W := W) (R := 0) (m := 0) (T := ∅)
      ((Nat.zero_add 7).trans he.symm)) $$ [HO Hc Ha]
  · isplitr; · iapply (Inv_at XK XV P κ hm); iexact HI
    isplitl [Hc]; · iexact Hc
    isplitl [HO]; · iexact HO
    isplitr; · iapply hw; iapply (Inv_lev XK XV P κ); iexact HI
    iexact Ha
  iintro ⟨HO, Ha, -, Hp⟩
  iapply (le_wp_ret frame (wpE (defs₀ (F := F)) 𝒱₀ (c : Thread nD τ) none) Set.univ)
  isplitl [HO]
  · iexists _; iexact HO
  isplitl [Ha]; · iexact Ha
  rw [Finset.sdiff_empty, hd, show (fun d => (Rd XK XV P).payload ((c : Thread nD τ), .reg s) 0 d) = X from funext hX]
  iexact Hp

/-- Before and after a wait for the one transfer of round `r` of a cell. -/
def toWait (g : GSem nD τ sig) (r : ℕ) (i : Ix) : sProp 𝕄 := iprop(cred (tallyAt g i N) ∗ atPos ER g r ∅ 0)
def waited (g : GSem nD τ sig) (r : ℕ) : sProp 𝕄 := iprop(atPos ER g (r + 1) ∅ 0 ∗ reached ER g (r + 1))

theorem wait_dma (c : Dev nD) {s s' : DmaSem sig} (hs : s' = s) {r : ℕ} (i : Ix) {X : sProp 𝕄}
    (hm : ((c : Thread nD τ), SemLoc.dma s) ∈ (barCells ∪ ownCells : Finset (GSem nD τ sig)))
    (hd : (Rd XK XV P).duties ((c : Thread nD τ), .dma s) r = {0})
    (hX : ∀ d, (Rd XK XV P).payload ((c : Thread nD τ), .dma s) r d = X) {O : CellTallies nD τ sig Ix}
    (hw : (levAts L lv : sProp 𝕄) ⊢ MayWait (c : Thread nD τ) (.dma s) i O)
    {sp sp' : Space} {t t' : Shape} {e e' : EltTy} {src : Memref sig .tc sp' t' e'} {dst : Memref sig .tc sp t e}
    {hsrc : src.view.WordExact} {hdst : dst.view.WordExact} (hN : dst.view.dmaCredit = N) :
    iprop((Inv XK XV P κ) ∗ (Ow c O ∗ toWait ((c : Thread nD τ), SemLoc.dma s) r i))
      ⊢ Wp c (Prog.lift (.waitDma2 s' src dst hsrc hdst))
          (fun _ => iprop(Ow c O ∗ (waited ((c : Thread nD τ), SemLoc.dma s) r ∗ X))) := by
  subst hs
  unfold Ow toWait waited
  iintro ⟨#HI, ⟨%W, HO⟩, Hc, Ha⟩
  iapply (Rounds.wp_wait_rest_token 𝒱₀ ER (Rd XK XV P) (c : Thread nD τ) none (κ := κ ((c : Thread nD τ), .dma s'))
      (wpE_waitDma2_eq (src := src) (dst := dst) (hsrc := hsrc) (hdst := hdst) 𝒱₀ (c : Thread nD τ) none Set.univ) (Set.mem_univ _) i (O := O) (W := W) (R := r) (m := 0) (T := ∅)
      ((Nat.zero_add _).trans (hN.trans (expect_of_single XK XV P hd).symm))) $$ [HO Hc Ha]
  · isplitr; · iapply (Inv_at XK XV P κ hm); iexact HI
    isplitl [Hc]; · rw [hN]; iexact Hc
    isplitl [HO]; · iexact HO
    isplitr; · iapply hw; iapply (Inv_lev XK XV P κ); iexact HI
    iexact Ha
  iintro ⟨HO, Ha, Hr, Hp⟩
  iapply (le_wp_ret frame (wpE (defs₀ (F := F)) 𝒱₀ (c : Thread nD τ) none) Set.univ)
  isplitl [HO]
  · iexists _; iexact HO
  isplitl [Ha Hr]
  · isplitl [Ha] <;> iassumption
  iapply (Entails.of_eq (rest_of_single XK XV P hd hX)); iexact Hp

/-! ## Sends -/

/-- What a send of keys to `peer c k` takes; of values; of a partial product. -/
def kItem (c : Dev nD) (k : Fin 7) : sProp 𝕄 :=
  iprop((khPt c (blockSet (peer c k)) (XK c) ∗ dutyTok ER (ksC c k) 0 0 ∗ reached ER (ksC c k) 0 ∗ dutyTok ER (krC (peer c k) k.castSucc) 0 0)
    ∗ (∃ f, kgPt (F := F) (peer c k) (slotSet c) f) ∗ reached ER (krC (peer c k) k.castSucc) 0)
def vItem (c : Dev nD) (k : Fin 7) : sProp 𝕄 :=
  iprop((vhPt c (blockSet (peer c k)) (XV c) ∗ dutyTok ER (vsC c k) 0 0 ∗ reached ER (vsC c k) 0 ∗ dutyTok ER (vrC (peer c k) k.castSucc) 0 0)
    ∗ (∃ f, vgPt (F := F) (peer c k) (slotSet c) f) ∗ reached ER (vrC (peer c k) k.castSucc) 0)
def pItem (c : Dev nD) (k : Fin 7) : sProp 𝕄 :=
  iprop((psPt c (shareTok fullShare 7 k) (P c) ∗ dutyTok ER (vsC c k) 1 0 ∗ reached ER (vsC c k) 1 ∗ dutyTok ER (vrC (peer c k) k.castSucc) 1 0)
    ∗ slabFor (F := F) (peer c k) k)
def ksTok (c : Dev nD) (k : Fin 7) : sProp 𝕄 := cred (tallyAt (ksC c k) 0 N)
def vsTok (c : Dev nD) (k : Fin 7) : sProp 𝕄 := cred (tallyAt (vsC c k) 0 N)

section Landing

variable (c d : Dev nD) {off : Fin 4 → ℕ} {off₂ : Fin 3 → ℕ}

/-- Block `d` of device `c`'s keys in slot `c` of device `d` is what device `d`'s gathered keys hold there. -/
theorem kg_pay (h : off = ![0, c.val, 0, 0]) (inb) (h₂ : off₂ = ![8 * d.val, 0, 0]) (inb₂) (fd : Gat F) :
    ((slotView kgM off inb).view.loc (d : Thread nD τ) ↦[(slotView kgM off inb).view.set]{fullShare}
        ((slotView kgM off inb).view.write (Elt F) fd ((blockView khM off₂ inb₂).view.read (Elt F) (XK c)) Finset.univ) : sProp 𝕄)
      = kgPt d (slotSet c) (gathered XK d) := by
  rw [kg_slot_set (j := c) h inb]
  refine pointsTo_congr fun i hi => ?_
  refine (kg_landed (j := c) (b := d) h inb h₂ inb₂ fd (XK c) i hi).trans ?_
  exact congrArg (fun e => XK e (ixB d (i 0) (i 2) (i 3))) (Fin.ext (mem_slotSet.mp hi).symm : c = ⟨(i 1).val, (i 1).isLt⟩)

theorem vg_pay (h : off = ![0, c.val, 0, 0]) (inb) (h₂ : off₂ = ![8 * d.val, 0, 0]) (inb₂) (fd : Gat F) :
    ((slotView vgM off inb).view.loc (d : Thread nD τ) ↦[(slotView vgM off inb).view.set]{fullShare}
        ((slotView vgM off inb).view.write (Elt F) fd ((blockView vhM off₂ inb₂).view.read (Elt F) (XV c)) Finset.univ) : sProp 𝕄)
      = vgPt d (slotSet c) (gathered XV d) := by
  rw [vg_slot_set (j := c) h inb]
  refine pointsTo_congr fun i hi => ?_
  refine (vg_landed (j := c) (b := d) h inb h₂ inb₂ fd (XV c) i hi).trans ?_
  exact congrArg (fun e => XV e (ixB d (i 0) (i 2) (i 3))) (Fin.ext (mem_slotSet.mp hi).symm : c = ⟨(i 1).val, (i 1).isLt⟩)

theorem krPay_peer (k : Fin 7) : krPay XK (peer c k) k.castSucc = kgPt (peer c k) (slotSet c) (gathered XK (peer c k)) := by
  unfold krPay
  rw [dif_pos (show k.castSucc.val < 7 from k.isLt)]
  show kgPt _ (slotSet (peer (peer c k) k.rev)) _ = _
  rw [peer_rev']
theorem vrPay_peer (k : Fin 7) : vrPay XV (peer c k) k.castSucc = vgPt (peer c k) (slotSet c) (gathered XV (peer c k)) := by
  unfold vrPay
  rw [dif_pos (show k.castSucc.val < 7 from k.isLt)]
  show vgPt _ (slotSet (peer (peer c k) k.rev)) _ = _
  rw [peer_rev']
theorem prPay_peer (k : Fin 7) : prPay P (peer c k) k.castSucc = vgPt (peer c k) (slabSet k.castSucc) (slabOf (P c)) := by
  unfold prPay
  rw [dif_pos (show k.castSucc.val < 7 from k.isLt)]
  show vgPt _ _ (slabOf (P (peer (peer c k) k.rev))) = _
  rw [peer_rev']
theorem krPay_self : krPay XK c 7 = iprop(kgPt c (slotSet c) (gathered XK c) ∗ khPt c (blockSet c) (XK c)) := by
  unfold krPay; exact dif_neg (by decide)
theorem vrPay_self : vrPay XV c 7 = iprop(vgPt c (slotSet c) (gathered XV c) ∗ vhPt c (blockSet c) (XV c)) := by
  unfold vrPay; exact dif_neg (by decide)

end Landing

section Sends

variable (c d : Dev nD) {off : Fin 4 → ℕ} {off₂ : Fin 3 → ℕ}

theorem send_k (k : Fin 7) (hd : d = peer c k) (h : off = ![0, c.val, 0, 0]) {inb} (h₂ : off₂ = ![8 * (peer c k).val, 0, 0]) {inb₂}
    {sS sR : DmaSem sig} (hS : sS = ksS k) (hR : sR = krS k.castSucc) {a v r p : ℕ}
    {hsc hsrc hdst hsem} :
    iprop((Inv XK XV P κ) ∗ (Ow c (due c a k.val v r p) ∗ kItem XK c k))
      ⊢ Wp c (Prog.lift (.enqueueDma (blockView khM off₂ inb₂) (.remote (Dev.tc d) (slotView kgM off inb) (.dma sS) hsc) (.dma sR) hsrc hdst hsem))
          (fun _ => iprop(Ow c (due c a (k.val + 1) v r p) ∗ ksTok c k)) := by
  subst hd hS hR
  unfold Ow kItem ksTok
  iintro ⟨#HI, ⟨%W, HO⟩, ⟨Hh, Ht, Hr, Ht'⟩, ⟨%fd, Hg⟩, Hr'⟩
  iapply (Rounds.wp_send_pointsTo 𝒱₀ ER (Rd XK XV P) (c : Thread nD τ) none (c' := (peer c k : Thread nD τ)) (src := blockView khM off₂ inb₂) (dst := slotView kgM off inb)
      (sS := .dma (ksS k)) (sem := .dma (krS k.castSucc)) (q := fullShare) (fs := XK c) (κ₁ := κ (ksC c k)) (κ₂ := κ (krC (peer c k) k.castSucc))
      (r₁ := 0) (r₂ := 0) (d₁ := 0) (d₂ := 0) (fd := fd)
      (by rw [duties_ks]; exact Finset.mem_singleton_self _) (by rw [duties_kr]; exact Finset.mem_singleton_self _)
      (0 : Ix) (0 : Ix) N (kg_credit off inb) rfl rfl (due c a (k.val + 1) v r p) (due_k c k a v r p) (W := W)
      (by rw [payload_ks]; unfold ksPay; rw [kh_block_set (j := peer c k) h₂ inb₂])
      (by rw [payload_kr, krPay_peer, ← kg_pay XK c (peer c k) h inb h₂ inb₂ fd])) $$ [HO Hh Ht Hr Ht' Hg Hr']
  · isplitr; · iapply (Inv_at XK XV P κ (ks_mem c k)); iexact HI
    isplitr; · iapply (Inv_at XK XV P κ (kr_mem (peer c k) k.castSucc)); iexact HI
    isplitl [Hh]; · rw [kh_block_set (j := peer c k) h₂ inb₂]; iexact Hh
    isplitl [Hg]; · rw [kg_slot_set (j := c) h inb]; iexact Hg
    isplitl [HO]; · iexact HO
    isplitl [Ht]; · iexact Ht
    isplitl [Hr]; · iexact Hr
    isplitl [Ht']; · iexact Ht'
    iexact Hr'
  iintro ⟨Hc, HO⟩
  iapply (le_wp_ret frame (wpE (defs₀ (F := F)) 𝒱₀ (c : Thread nD τ) none) Set.univ)
  isplitl [HO]
  · iexists W; iexact HO
  iexact Hc

theorem send_v (k : Fin 7) (hd : d = peer c k) (h : off = ![0, c.val, 0, 0]) {inb} (h₂ : off₂ = ![8 * (peer c k).val, 0, 0]) {inb₂}
    {sS sR : DmaSem sig} (hS : sS = vsS k) (hR : sR = vrS k.castSucc) {a b r p : ℕ}
    {hsc hsrc hdst hsem} :
    iprop((Inv XK XV P κ) ∗ (Ow c (due c a b k.val r p) ∗ vItem XV c k))
      ⊢ Wp c (Prog.lift (.enqueueDma (blockView vhM off₂ inb₂) (.remote (Dev.tc d) (slotView vgM off inb) (.dma sS) hsc) (.dma sR) hsrc hdst hsem))
          (fun _ => iprop(Ow c (due c a b (k.val + 1) r p) ∗ vsTok c k)) := by
  subst hd hS hR
  unfold Ow vItem vsTok
  iintro ⟨#HI, ⟨%W, HO⟩, ⟨Hh, Ht, Hr, Ht'⟩, ⟨%fd, Hg⟩, Hr'⟩
  iapply (Rounds.wp_send_pointsTo 𝒱₀ ER (Rd XK XV P) (c : Thread nD τ) none (c' := (peer c k : Thread nD τ)) (src := blockView vhM off₂ inb₂) (dst := slotView vgM off inb)
      (sS := .dma (vsS k)) (sem := .dma (vrS k.castSucc)) (q := fullShare) (fs := XV c) (κ₁ := κ (vsC c k)) (κ₂ := κ (vrC (peer c k) k.castSucc))
      (r₁ := 0) (r₂ := 0) (d₁ := 0) (d₂ := 0) (fd := fd)
      (by rw [duties_vs]; exact Finset.mem_singleton_self _) (by rw [duties_vr]; exact Finset.mem_singleton_self _)
      (0 : Ix) (0 : Ix) N (vg_credit off inb) rfl rfl (due c a b (k.val + 1) r p) (due_v c k a b r p) (W := W)
      (by rw [payload_vs]; unfold vsPay; rw [vh_block_set (j := peer c k) h₂ inb₂])
      (by rw [payload_vr, vrPay_peer, ← vg_pay XV c (peer c k) h inb h₂ inb₂ fd])) $$ [HO Hh Ht Hr Ht' Hg Hr']
  · isplitr; · iapply (Inv_at XK XV P κ (vs_mem c k)); iexact HI
    isplitr; · iapply (Inv_at XK XV P κ (vr_mem (peer c k) k.castSucc)); iexact HI
    isplitl [Hh]; · rw [vh_block_set (j := peer c k) h₂ inb₂]; iexact Hh
    isplitl [Hg]; · rw [vg_slot_set (j := c) h inb]; iexact Hg
    isplitl [HO]; · iexact HO
    isplitl [Ht]; · iexact Ht
    isplitl [Hr]; · iexact Hr
    isplitl [Ht']; · iexact Ht'
    iexact Hr'
  iintro ⟨Hc, HO⟩
  iapply (le_wp_ret frame (wpE (defs₀ (F := F)) 𝒱₀ (c : Thread nD τ) none) Set.univ)
  isplitl [HO]
  · iexists W; iexact HO
  iexact Hc

/-- What a send of a partial product leaves to wait with. -/
def psTok (c : Dev nD) (k : Fin 7) : sProp 𝕄 := cred (tallyAt (vsC c k) 0 N)

theorem send_p (k : Fin 7) (hd : d = peer c k) (h : off = ![k.val, 0, 0, 0]) {inb}
    {sS sR : DmaSem sig} (hS : sS = vsS k) (hR : sR = vrS k.castSucc) {a b v r : ℕ}
    {hsc hsrc hdst hsem} :
    iprop((Inv XK XV P κ) ∗ (Ow c (due c a b v r k.val) ∗ pItem P c k))
      ⊢ Wp c (Prog.lift (.enqueueDma psM (.remote (Dev.tc d) (slabView vgM off inb) (.dma sS) hsc) (.dma sR) hsrc hdst hsem))
          (fun _ => iprop(Ow c (due c a b v r (k.val + 1)) ∗ psTok c k)) := by
  subst hd hS hR
  unfold Ow pItem psTok slabFor
  iintro ⟨#HI, ⟨%W, HO⟩, ⟨Hh, Ht, Hr, Ht'⟩, ⟨%fd, Hg⟩, Hr'⟩
  have hset : (slabView vgM off inb).view.set = slabSet k.castSucc := vg_slab_set (j := k.castSucc) h inb
  have hps : psM.view.set = Finset.univ := View.set_whole _
  iapply (Rounds.wp_send_pointsTo 𝒱₀ ER (Rd XK XV P) (c : Thread nD τ) none (c' := (peer c k : Thread nD τ)) (src := psM) (dst := slabView vgM off inb)
      (sS := .dma (vsS k)) (sem := .dma (vrS k.castSucc)) (q := shareTok fullShare 7 k) (fs := P c) (κ₁ := κ (vsC c k)) (κ₂ := κ (vrC (peer c k) k.castSucc))
      (r₁ := 1) (r₂ := 1) (d₁ := 0) (d₂ := 0) (fd := fd)
      (by rw [duties_vs1]; exact Finset.mem_singleton_self _) (by rw [duties_vr1]; exact Finset.mem_singleton_self _)
      (1 : Ix) (0 : Ix) N (vs_credit off inb) rfl rfl (due c a b v r (k.val + 1)) (due_p c k a b v r) (W := W)
      (by rw [payload_vs1, hps]; exact BI.Entails.refl _)
      (by
        rw [payload_vr1, prPay_peer, hset]
        exact Entails.of_eq (pointsTo_congr fun i hi => slab_landed (j := k.castSucc) h inb fd (P c) i hi))) $$ [HO Hh Ht Hr Ht' Hg Hr']
  · isplitr; · iapply (Inv_at XK XV P κ (vs_mem c k)); iexact HI
    isplitr; · iapply (Inv_at XK XV P κ (vr_mem (peer c k) k.castSucc)); iexact HI
    isplitl [Hh]; · rw [hps]; iexact Hh
    isplitl [Hg]; · rw [hset]; iexact Hg
    isplitl [HO]; · iexact HO
    isplitl [Ht]; · iexact Ht
    isplitl [Hr]; · iexact Hr
    isplitl [Ht']; · iexact Ht'
    iexact Hr'
  iintro ⟨Hc, HO⟩
  iapply (le_wp_ret frame (wpE (defs₀ (F := F)) 𝒱₀ (c : Thread nD τ) none) Set.univ)
  isplitl [HO]
  · iexists W; iexact HO
  iexact Hc

/-! ## Local copies -/

def kLoc (c : Dev nD) : sProp 𝕄 :=
  iprop(khPt c (blockSet c) (XK c) ∗ (∃ f, kgPt (F := F) c (slotSet c) f) ∗ dutyTok ER (krC c 7) 0 0 ∗ reached ER (krC c 7) 0)
def vLoc (c : Dev nD) : sProp 𝕄 :=
  iprop(vhPt c (blockSet c) (XV c) ∗ (∃ f, vgPt (F := F) c (slotSet c) f) ∗ dutyTok ER (vrC c 7) 0 0 ∗ reached ER (vrC c 7) 0)

theorem copy_k (h : off = ![0, c.val, 0, 0]) {inb} (h₂ : off₂ = ![8 * c.val, 0, 0]) {inb₂} {sR : DmaSem sig} (hR : sR = krS 7)
    {hsrc hdst hsem} :
    iprop((Inv XK XV P κ) ∗ kLoc XK c)
      ⊢ Wp c (Prog.lift (.enqueueDma (blockView khM off₂ inb₂) (.here (slotView kgM off inb)) (.dma sR) hsrc hdst hsem))
          (fun _ => cred (tallyAt (krC c 7) 0 N)) := by
  subst hR
  unfold kLoc
  iintro ⟨#HI, Hh, ⟨%fd, Hg⟩, Ht, Hr⟩
  iapply (Rounds.wp_copy_pointsTo 𝒱₀ ER (Rd XK XV P) (c : Thread nD τ) none (src := blockView khM off₂ inb₂) (dst := slotView kgM off inb) (sem := .dma (krS 7)) (q := fullShare)
      (fs := XK c) (fd := fd) (r := 0) (d := 0) (κ := κ (krC c 7))
      (by rw [duties_kr]; exact Finset.mem_singleton_self _) (0 : Ix) N (kg_credit off inb) rfl
      (by rw [payload_kr, krPay_self, ← kg_pay XK c c h inb h₂ inb₂ fd, kh_block_set (j := c) h₂ inb₂])) $$ [Hh Hg Ht Hr]
  · isplitr; · iapply (Inv_at XK XV P κ (kr_mem c 7)); iexact HI
    isplitl [Hh]; · rw [kh_block_set (j := c) h₂ inb₂]; iexact Hh
    isplitl [Hg]; · rw [kg_slot_set (j := c) h inb]; iexact Hg
    isplitl [Ht]; · iexact Ht
    iexact Hr
  iintro Hc
  iapply (le_wp_ret frame (wpE (defs₀ (F := F)) 𝒱₀ (c : Thread nD τ) none) Set.univ)
  iexact Hc

theorem copy_v (h : off = ![0, c.val, 0, 0]) {inb} (h₂ : off₂ = ![8 * c.val, 0, 0]) {inb₂} {sR : DmaSem sig} (hR : sR = vrS 7)
    {hsrc hdst hsem} :
    iprop((Inv XK XV P κ) ∗ vLoc XV c)
      ⊢ Wp c (Prog.lift (.enqueueDma (blockView vhM off₂ inb₂) (.here (slotView vgM off inb)) (.dma sR) hsrc hdst hsem))
          (fun _ => cred (tallyAt (vrC c 7) 0 N)) := by
  subst hR
  unfold vLoc
  iintro ⟨#HI, Hh, ⟨%fd, Hg⟩, Ht, Hr⟩
  iapply (Rounds.wp_copy_pointsTo 𝒱₀ ER (Rd XK XV P) (c : Thread nD τ) none (src := blockView vhM off₂ inb₂) (dst := slotView vgM off inb) (sem := .dma (vrS 7)) (q := fullShare)
      (fs := XV c) (fd := fd) (r := 0) (d := 0) (κ := κ (vrC c 7))
      (by rw [duties_vr]; exact Finset.mem_singleton_self _) (0 : Ix) N (vg_credit off inb) rfl
      (by rw [payload_vr, vrPay_self, ← vg_pay XV c c h inb h₂ inb₂ fd, vh_block_set (j := c) h₂ inb₂])) $$ [Hh Hg Ht Hr]
  · isplitr; · iapply (Inv_at XK XV P κ (vr_mem c 7)); iexact HI
    isplitl [Hh]; · rw [vh_block_set (j := c) h₂ inb₂]; iexact Hh
    isplitl [Hg]; · rw [vg_slot_set (j := c) h inb]; iexact Hg
    isplitl [Ht]; · iexact Ht
    iexact Hr
  iintro Hc
  iapply (le_wp_ret frame (wpE (defs₀ (F := F)) 𝒱₀ (c : Thread nD τ) none) Set.univ)
  iexact Hc

end Sends

end Cert.Proof.Attn
end
-- ==== Proof.Contents.lean ====
/- What the kernel's buffers hold: every buffer's contents at every point of a run, as plain functions of what the
   devices' arguments are. -/
module

public import proofs.«01_k».proof.Proof.Geometry
public import proofs.«01_k».proof.Proof.Gen.KernelIdeal.Skeleton

@[expose] public section

noncomputable section

namespace Cert.Proof.Attn

open Cert.KernelIdeal Cert.KernelIdeal.Gen
open Idealize.ShloMosaic Idealize.ShloMosaic.TcCoe

/-! ## Iterating a loop's trips -/

section It

variable {S : Type} {n : ℕ}

/-- The state after `k` trips from `s`. -/
def it (f : Fin n → S → S) (s : S) : ℕ → S
  | 0 => s
  | k + 1 => if h : k < n then f ⟨k, h⟩ (it f s k) else it f s k

theorem it_succ (f : Fin n → S → S) (s : S) (k : Fin n) : it f s (k.val + 1) = f k (it f s k.val) := by
  show (if h : k.val < n then f ⟨k.val, h⟩ (it f s k.val) else it f s k.val) = _
  rw [dif_pos k.isLt]

end It

variable {F : FTy → Type} [FloatOps F] [Named F]

/-! ## The buffers -/

abbrev qsM : Memref sig .tc .vmem S8x1024x128 .bf16 := Memref.whole cc0_scratch2
abbrev acM : Memref sig .tc .vmem S8x1024x128 .f32 := Memref.whole cc0_scratch4
abbrev lM : Memref sig .tc .vmem S8x4x2x128x1 .bf16 := Memref.whole cc0_scratch5

abbrev Act (F : FTy → Type) : Type := S8x1024x128.Idx → Elt F .f32
abbrev Den (F : FTy → Type) : Type := S8x4x2x128x1.Idx → Elt F .bf16

/-- A device's number as the kernel reads it. -/
abbrev meW (c : Dev nD) : BitVec 32 := Scalar.remsi (Scalar.divsi (Dev.word c) 1#32) 8#32
/-- The sequence block a device attends to in a round. -/
abbrev kcW (c : Dev nD) (t1 : Fin k0_t1_loop.trips) : BitVec 32 :=
  Scalar.remsi (Scalar.addi (Scalar.subi (meW c) (Scf.iv 0#32 1#32 t1)) 8#32) 8#32

/-! ## Queries -/

/-- Columns `128 h ..` of the query weights. -/
def wqCols (w : Vec F S1024x1024 .bf16) (h : Fin 8) : Vec F S1024x128 .bf16 := fun j =>
  w fun | ⟨0, _⟩ => ⟨(j 0).val, (j 0).isLt⟩
        | ⟨1, _⟩ => ⟨128 * h.val + (j 1).val, by have h1 : (j 1).val < 128 := (j 1).isLt; have := h.isLt; show _ < 1024; omega⟩

/-- Head `h`'s queries. -/
def qHead (x : Vec F S1x1024x1024 .bf16) (w : Vec F S1024x1024 .bf16) (h : Fin 8) : Vec F S1x1024x128 .bf16 :=
  k0_pay9 x (wqCols w h)

/-- All queries. -/
def qsOf (x : Vec F S1x1024x1024 .bf16) (w : Vec F S1024x1024 .bf16) : Par F := fun i =>
  qHead x w (i 0) fun | ⟨0, _⟩ => ⟨0, by show 0 < 1; omega⟩ | ⟨1, _⟩ => ⟨(i 1).val, (i 1).isLt⟩ | ⟨2, _⟩ => ⟨(i 2).val, (i 2).isLt⟩

/-- The first `k` heads' queries over what the buffer held. -/
def qsUpto (x : Vec F S1x1024x1024 .bf16) (w : Vec F S1024x1024 .bf16) (f : Par F) (k : ℕ) : Par F := fun i =>
  if (i 0).val < k then qsOf x w i else f i

theorem qsUpto_zero (x : Vec F S1x1024x1024 .bf16) (w : Vec F S1024x1024 .bf16) (f : Par F) : qsUpto x w f 0 = f := by
  funext i; unfold qsUpto; rw [if_neg (Nat.not_lt_zero _)]
theorem qsUpto_end (x : Vec F S1x1024x1024 .bf16) (w : Vec F S1024x1024 .bf16) (f : Par F) : qsUpto x w f 8 = qsOf x w := by
  funext i; unfold qsUpto; exact if_pos (i 0).isLt

/-- Storing head `h`'s queries. -/
theorem qs_store (x : Vec F S1x1024x1024 .bf16) (w : Vec F S1024x1024 .bf16) (f : Par F) (h : Fin 8) {off : Fin 3 → ℕ} (e : off = ![h.val, 0, 0])
    (inb : ∀ a, off a + S1x1024x128.size a ≤ S8x1024x128.size a) :
    (qsM.access (Rect.unit (s := S8x1024x128) off S1x1024x128.size inb)).write (Elt F) (qsUpto x w f h.val) (qHead x w h) Finset.univ
      = qsUpto x w f (h.val + 1) := by
  subst e
  have hv : ∀ (j : S1x1024x128.Idx) (a : Fin 3),
      (((qsM.access (Rect.unit (s := S8x1024x128) ![h.val, 0, 0] S1x1024x128.size inb)).emb j a).val) = (![h.val, 0, 0] a) + (j a).val := by
    intro j a
    show (![h.val, 0, 0] a) + 1 * (j a).val = _
    rw [Nat.one_mul]
  funext i
  by_cases hi : (i 0).val = h.val
  · have : i = (qsM.access (Rect.unit (s := S8x1024x128) ![h.val, 0, 0] S1x1024x128.size inb)).emb
        (fun | ⟨0, _⟩ => ⟨0, by show 0 < 1; omega⟩ | ⟨1, _⟩ => ⟨(i 1).val, (i 1).isLt⟩ | ⟨2, _⟩ => ⟨(i 2).val, (i 2).isLt⟩) := by
      funext a
      apply Fin.ext
      rw [hv]
      match a with
      | ⟨0, _⟩ => exact hi
      | ⟨1, _⟩ => show _ = 0 + (i 1).val; rw [Nat.zero_add]; rfl
      | ⟨2, _⟩ => show _ = 0 + (i 2).val; rw [Nat.zero_add]; rfl
    refine (congrArg _ this).trans ((View.write_emb_of_mem (v := qsM.access (Rect.unit (s := S8x1024x128) ![h.val, 0, 0] S1x1024x128.size inb)) _ _ (Finset.mem_univ _)).trans ?_)
    unfold qsUpto
    rw [if_pos (by omega)]
    have h0 : h = i 0 := Fin.ext hi.symm
    exact (cast_eq _ _).trans (congrFun (congrArg (qHead x w) h0) _)
  · rw [View.write_of_not_mem]
    · unfold qsUpto
      by_cases hl : (i 0).val < h.val
      · rw [if_pos hl, if_pos (by omega)]
      · rw [if_neg hl, if_neg (by omega)]
    · intro hm
      obtain ⟨j, -, hj⟩ := Finset.mem_map.mp hm
      apply hi
      rw [← hj]
      have := hv j 0
      rw [this]
      have h0 : (j 0).val < 1 := (j 0).isLt
      show h.val + (j 0).val = h.val
      omega

/-! ## A device's rounds -/

variable (XK XV : Dev nD → Seq F) (X : Dev nD → Vec F S1x1024x1024 .bf16) (WQ WO : Dev nD → Vec F S1024x1024 .bf16)

/-- The mask's bias in round `t1` for query block `t2`. -/
def biasAt (c : Dev nD) (t1 : Fin k0_t1_loop.trips) (t2 : Fin k0_t2_loop.trips) : FVec F S256x1024 .f32 :=
  k0_pay22 (F := F) (k0_pay5 (kcW c t1)) (k0_pay6 0#32 1#32 t2) 64#32 (k0_pay7 (kcW c t1)) (k0_pay8 (kcW c t1))
    (Scalar.extui (Scalar.cmpi .sgt 64#32 0#32)) (Scalar.extui (Scalar.cmpi .slt 64#32 0#32))

section Trip

variable (c : Dev nD) (t1 : Fin k0_t1_loop.trips) (t2 : Fin k0_t2_loop.trips) (t3 : Fin k0_t3_loop.trips)

abbrev rowsR : Rect S8x1024x128 := Rect.unit (s := S8x1024x128) (k0_off6 t2 t3) S1x256x128.size (k0_off6_inb t2 t3)
abbrev slotR : Rect S8x8x1024x128 := Rect.unit (s := S8x8x1024x128) (k0_off7 c t1 t3) S1x1x1024x128.size (k0_off7_inb c t1 t3)
abbrev denR : Rect S8x4x2x128x1 := Rect.unit (s := S8x4x2x128x1) (k0_off8 t2 t3) S1x1x2x128x1.size (k0_off8_inb t2 t3)

def qAt : Vec F S1x256x128 .bf16 := (qsM.access (rowsR t2 t3)).read (Elt F) (qsOf (X c) (WQ c))
def kAt : Vec F S1x1x1024x128 .bf16 := (kgM.access (slotR c t1 t3)).read (Elt F) (gathered XK c)
def vAt : Vec F S1x1x1024x128 .bf16 := (vgM.access (slotR c t1 t3)).read (Elt F) (gathered XV c)

/-- The accumulated rows after a trip. -/
def accTrip (s : Act F × Den F) : Act F :=
  (acM.access (rowsR t2 t3)).write (Elt F) s.1
    (k0_pay3 (biasAt c t1 t2) (qAt X WQ c t2 t3) (kAt XK c t1 t3) (vAt XV c t1 t3) ((acM.access (rowsR t2 t3)).read (Elt F) s.1)) Finset.univ
/-- The denominators after a trip. -/
def denTrip (s : Act F × Den F) : Den F :=
  (lM.access (denR t2 t3)).write (Elt F) s.2
    (k0_pay23 (k0_pay4 (biasAt c t1 t2) (qAt X WQ c t2 t3) (kAt XK c t1 t3) ((lM.access (denR t2 t3)).read (Elt F) s.2))) Finset.univ

def trip3 (s : Act F × Den F) : Act F × Den F := (accTrip XK XV X WQ c t1 t2 t3 s, denTrip XK X WQ c t1 t2 t3 s)

end Trip

/-- The state after `n` heads of a block of a round, -/
def heads (c : Dev nD) (t1 : Fin k0_t1_loop.trips) (t2 : Fin k0_t2_loop.trips) (s : Act F × Den F) (n : ℕ) : Act F × Den F :=
  it (trip3 XK XV X WQ c t1 t2) s n
/-- after `n` blocks of a round, -/
def blocks (c : Dev nD) (t1 : Fin k0_t1_loop.trips) (s : Act F × Den F) (n : ℕ) : Act F × Den F :=
  it (fun t2 s => heads XK XV X WQ c t1 t2 s k0_t3_loop.trips) s n
/-- after `n` rounds. -/
def rounds (c : Dev nD) (n : ℕ) : Act F × Den F :=
  it (fun t1 s => blocks XK XV X WQ c t1 s k0_t2_loop.trips) (k0_pay19 (F := F), k0_pay21 (k0_pay20 (F := F))) n

/-! ## The partial product -/

section Product

variable (c : Dev nD) (t4 : Fin k0_t4_loop.trips)

abbrev headR : Rect S8x1024x128 := Rect.unit (s := S8x1024x128) (k0_off9 t4) S1x1024x128.size (k0_off9_inb t4)
abbrev denHR : Rect S8x4x2x128x1 := Rect.unit (s := S8x4x2x128x1) (k0_off10 t4) S1x4x2x128x1.size (k0_off10_inb t4)
abbrev woR : Rect S1024x1024 := Rect.unit (s := S1024x1024) (k0_off11 t4) S128x1024.size (k0_off11_inb t4)

def prodTrip (a : FVec F S1024x1024 .f32) : FVec F S1024x1024 .f32 :=
  k0_pay25 a ((acM.access (headR t4)).read (Elt F) (rounds XK XV X WQ c k0_t1_loop.trips).1)
    ((lM.access (denHR t4)).read (Elt F) (rounds XK XV X WQ c k0_t1_loop.trips).2) (fun j => WO c ((woR t4).emb j))

end Product

/-- The product over the first `n` heads. -/
def prods (c : Dev nD) (n : ℕ) : FVec F S1024x1024 .f32 := it (prodTrip XK XV X WQ WO c) (k0_pay24 (F := F)) n
/-- A device's partial product, -/
def prod (c : Dev nD) : FVec F S1024x1024 .f32 := prods XK XV X WQ WO c k0_t4_loop.trips
/-- as it is sent. -/
def par (c : Dev nD) : Par F := k0_pay27 (k0_pay26 (prod XK XV X WQ WO c))

/-! ## The sum -/

/-- The slab a device reads in trip `t5`. -/
def slabAt (c : Dev nD) (t5 : Fin k0_t5_loop.trips) : Vec F S1x8x1024x128 .bf16 :=
  (vgM.access (Rect.unit (s := S8x8x1024x128) (k0_off12 t5) S1x8x1024x128.size (k0_off12_inb t5))).read (Elt F)
    (slabOf (par XK XV X WQ WO (peer c (t5.cast (by decide : k0_t5_loop.trips = 7)).rev)))

def sums (c : Dev nD) (n : ℕ) : FVec F S8x1024x128 .f32 :=
  it (fun t5 a => k0_pay29 a (slabAt XK XV X WQ WO c t5)) (k0_pay28 (prod XK XV X WQ WO c)) n
/-- What a device returns. -/
def outOf (c : Dev nD) : FVec F S1x1024x1024 .f32 := k0_pay1 (sums XK XV X WQ WO c k0_t5_loop.trips)

end Cert.Proof.Attn
end
-- ==== Proof.Talk.lean ====
/- The straight-line parts of the kernel that signal, send and wait, each from the state it is given to the state it
   leaves. The states count how far each family of seven has come. -/
module

public import proofs.«01_k».proof.Proof.Steps
public import proofs.«01_k».proof.Proof.Contents
public import proofs.«01_k».proof.Proof.Gen.KernelIdeal.Skeleton

@[expose] public section

noncomputable section

namespace Cert.Proof.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F] [Named F]

local notation "𝕄" => MT nD τ sig Ix (Elt F) ℕ UU ℕ

/-- The buffers a run of the kernel is given: four staging buffers, the rest as the program names them. -/
structure Bufs where
  a0 : Memref sig .tc .vmem S1x1024x1024 .bf16
  h0 : a0.IsWhole
  a1 : Memref sig .tc .vmem S1024x1024 .bf16
  h1 : a1.IsWhole
  a4 : Memref sig .tc .vmem S1024x1024 .bf16
  h4 : a4.IsWhole
  a5 : Memref sig .tc .vmem S1x1024x1024 .f32
  h5 : a5.IsWhole

/-- A part of the kernel at those buffers. -/
abbrev Bufs.of (B : Bufs) {γ : Type 1} (f : (arg0 : Memref sig .tc .vmem S1x1024x1024 .bf16) → arg0.IsWhole → (arg1 : Memref sig .tc .vmem S1024x1024 .bf16) → arg1.IsWhole →
    (arg2 : Memref sig .tc .hbm S64x1024x128 .bf16) → arg2.IsWhole → (arg3 : Memref sig .tc .hbm S64x1024x128 .bf16) → arg3.IsWhole →
    (arg4 : Memref sig .tc .vmem S1024x1024 .bf16) → arg4.IsWhole → (arg5 : Memref sig .tc .vmem S1x1024x1024 .f32) → arg5.IsWhole →
    (arg6 : Memref sig .tc .vmem S8x8x1024x128 .bf16) → arg6.IsWhole → (arg7 : Memref sig .tc .vmem S8x8x1024x128 .bf16) → arg7.IsWhole →
    (arg8 : Memref sig .tc .vmem S8x1024x128 .bf16) → arg8.IsWhole → (arg9 : Memref sig .tc .vmem S8x1024x128 .bf16) → arg9.IsWhole →
    (arg10 : Memref sig .tc .vmem S8x1024x128 .f32) → arg10.IsWhole → (arg11 : Memref sig .tc .vmem S8x4x2x128x1 .bf16) → arg11.IsWhole →
    DmaSems sig S7 → DmaSems sig S8 → DmaSems sig S7 → DmaSems sig S8 → Sems sig S_ → γ) : γ :=
  f B.a0 B.h0 B.a1 B.h1 khM (Memref.isWhole_whole _) vhM (Memref.isWhole_whole _) B.a4 B.h4 B.a5 B.h5 kgM (Memref.isWhole_whole _) vgM (Memref.isWhole_whole _)
    qsM (Memref.isWhole_whole _) psM (Memref.isWhole_whole _) acM (Memref.isWhole_whole _) lM (Memref.isWhole_whole _)
    cc0_scratch6 cc0_scratch7 cc0_scratch8 cc0_scratch9 cc0_scratch10

variable (B : Bufs) (XK XV : Dev nD → Seq F) (P : Dev nD → Par F) (κ : GSem nD τ sig → ℕ) (c : Dev nD)

/-! ## The states -/

/-- `n` of the seven barrier signals sent. -/
def SigSt (n : ℕ) : sProp 𝕄 := iprop(Ow c (due c n 0 0 0 0) ∗ Fam n (sigItem (F := F) c) (fun _ => iprop(emp)))
/-- `k` sends of keys and `v` of values enqueued. -/
def SendSt (k v : ℕ) : sProp 𝕄 :=
  iprop((Ow c (due c 7 k v 0 0) ∗ Fam k (kItem XK c) (ksTok (F := F) c)) ∗ Fam v (vItem XV c) (vsTok (F := F) c))
/-- `k` sends of keys waited for, and `v` of values. -/
def HomeSt (k v : ℕ) : sProp 𝕄 :=
  iprop((Ow c (due c 7 7 7 0 0) ∗ Fam k (fun k => toWait (F := F) (ksC c k) 0 0) (fun k => iprop(waited (ksC c k) 0 ∗ ksPay XK c k)))
    ∗ Fam v (fun k => toWait (F := F) (vsC c k) 0 0) (fun k => iprop(waited (vsC c k) 0 ∗ vsPay XV c k)))
/-- `n` of the seven credit signals sent. -/
def CrSt (n : ℕ) : sProp 𝕄 := iprop(Ow c (due c 7 7 7 n 0) ∗ Fam n (credItem (F := F) c) (fun _ => iprop(emp)))
/-- `n` sends of the partial product enqueued. -/
def PsSt (n : ℕ) : sProp 𝕄 := iprop(Ow c (due c 7 7 7 7 n) ∗ Fam n (pItem P c) (psTok (F := F) c))
/-- `p` partial products received, and `w` sends of the own one waited for. -/
def SumSt (p w : ℕ) : sProp 𝕄 :=
  iprop((Ow c (due c 7 7 7 7 7)
      ∗ Fam p (fun k => toWait (F := F) (vrC c k.castSucc) 1 1) (fun k => iprop(waited (vrC c k.castSucc) 1 ∗ prPay P c k.castSucc)))
    ∗ Fam w (fun k => toWait (F := F) (vsC c k) 1 0) (fun k => iprop(waited (vsC c k) 1 ∗ psPay P c k)))

/-- Two companions change places. -/
theorem swap2 (A D E : sProp 𝕄) : iprop((A ∗ D) ∗ E) ⊢ iprop((A ∗ E) ∗ D) := by
  iintro ⟨⟨H1, H2⟩, H3⟩
  isplitl [H1 H3]
  · isplitl [H1] <;> iassumption
  iexact H2

/-! ## One statement -/

section One

variable {off : Fin 4 → ℕ} {off₂ : Fin 3 → ℕ}

theorem sig_step (k : Fin 7) {d : Dev nD} (hd : d = peer c k) :
    iprop((Inv XK XV P κ) ∗ SigSt c k.val) ⊢ Wp c (semSignalWord d barS 1#32) (fun _ => SigSt c (k.val + 1)) :=
  serve k (signal_bar XK XV P κ c d k hd rfl)
theorem cr_step (k : Fin 7) {d : Dev nD} (hd : d = peer c k) :
    iprop((Inv XK XV P κ) ∗ CrSt c k.val) ⊢ Wp c (semSignalWord d credS 1#32) (fun _ => CrSt c (k.val + 1)) :=
  serve k (signal_cred XK XV P κ c d k hd rfl)

theorem k_step (k : Fin 7) {d : Dev nD} (hd : d = peer c k) (h : off = ![0, c.val, 0, 0]) {inb} (h₂ : off₂ = ![8 * (peer c k).val, 0, 0]) {inb₂}
    {sS sR : DmaSem sig} (hS : sS = ksS k) (hR : sR = krS k.castSucc) {v : ℕ} {hsc hsrc hdst hsem} :
    iprop((Inv XK XV P κ) ∗ SendSt XK XV c k.val v)
      ⊢ Wp c (Prog.lift (.enqueueDma (blockView khM off₂ inb₂) (.remote (Dev.tc d) (slotView kgM off inb) (.dma sS) hsc) (.dma sR) hsrc hdst hsem))
          (fun _ => SendSt XK XV c (k.val + 1) v) :=
  aside (serve k (send_k XK XV P κ c d k hd h h₂ hS hR))

theorem v_step (k : Fin 7) {d : Dev nD} (hd : d = peer c k) (h : off = ![0, c.val, 0, 0]) {inb} (h₂ : off₂ = ![8 * (peer c k).val, 0, 0]) {inb₂}
    {sS sR : DmaSem sig} (hS : sS = vsS k) (hR : sR = vrS k.castSucc) {n : ℕ} {hsc hsrc hdst hsem} :
    iprop((Inv XK XV P κ) ∗ SendSt XK XV c n k.val)
      ⊢ Wp c (Prog.lift (.enqueueDma (blockView vhM off₂ inb₂) (.remote (Dev.tc d) (slotView vgM off inb) (.dma sS) hsc) (.dma sR) hsrc hdst hsem))
          (fun _ => SendSt XK XV c n (k.val + 1)) := by
  exact after (before (swap2 _ _ _) (aside (serve k (send_v XK XV P κ c d k hd h h₂ hS hR)))) fun _ => swap2 _ _ _

theorem kw_step (k : Fin 7) {n : ℕ} {s : DmaSem sig} (hs : s = ksS k) {sp sp' : Space} {t t' : Shape} {e e' : EltTy}
    {src : Memref sig .tc sp' t' e'} {dst : Memref sig .tc sp t e} {hsrc : src.view.WordExact} {hdst : dst.view.WordExact} (hN : dst.view.dmaCredit = N) :
    iprop((Inv XK XV P κ) ∗ HomeSt XK XV c k.val n) ⊢ Wp c (Prog.lift (.waitDma2 s src dst hsrc hdst)) (fun _ => HomeSt XK XV c (k.val + 1) n) :=
  aside (serve k (wait_dma XK XV P κ c hs 0 (ks_mem c k) (duties_ks XK XV P c k) (payload_ks XK XV P c k)
    (mayWait c _ 0 (by omega) (by omega) (fun _ => by rw [lv_ks]; omega) (fun _ => by rw [lv_ks]; omega)) hN))

theorem vw_step (k : Fin 7) {n : ℕ} {s : DmaSem sig} (hs : s = vsS k) {sp sp' : Space} {t t' : Shape} {e e' : EltTy}
    {src : Memref sig .tc sp' t' e'} {dst : Memref sig .tc sp t e} {hsrc : src.view.WordExact} {hdst : dst.view.WordExact} (hN : dst.view.dmaCredit = N) :
    iprop((Inv XK XV P κ) ∗ HomeSt XK XV c n k.val) ⊢ Wp c (Prog.lift (.waitDma2 s src dst hsrc hdst)) (fun _ => HomeSt XK XV c n (k.val + 1)) :=
  after (before (swap2 _ _ _) (aside (serve k (wait_dma XK XV P κ c hs 0 (vs_mem c k) (duties_vs XK XV P c k) (payload_vs XK XV P c k)
    (mayWait c _ 0 (by omega) (by omega) (fun _ => by rw [lv_vs]; omega) (fun _ => by rw [lv_vs]; omega)) hN)))) fun _ => swap2 _ _ _

theorem ps_step (k : Fin 7) {d : Dev nD} (hd : d = peer c k) (h : off = ![k.val, 0, 0, 0]) {inb}
    {sS sR : DmaSem sig} (hS : sS = vsS k) (hR : sR = vrS k.castSucc) {hsc hsrc hdst hsem} :
    iprop((Inv XK XV P κ) ∗ PsSt P c k.val)
      ⊢ Wp c (Prog.lift (.enqueueDma psM (.remote (Dev.tc d) (slabView vgM off inb) (.dma sS) hsc) (.dma sR) hsrc hdst hsem))
          (fun _ => PsSt P c (k.val + 1)) :=
  serve k (send_p XK XV P κ c d k hd h hS hR)
theorem pr_step (k : Fin 7) {n : ℕ} {s : DmaSem sig} (hs : s = vrS k.castSucc) {sp sp' : Space} {t t' : Shape} {e e' : EltTy}
    {src : Memref sig .tc sp' t' e'} {dst : Memref sig .tc sp t e} {hsrc : src.view.WordExact} {hdst : dst.view.WordExact} (hN : dst.view.dmaCredit = N) :
    iprop((Inv XK XV P κ) ∗ SumSt P c k.val n) ⊢ Wp c (Prog.lift (.waitDma2 s src dst hsrc hdst)) (fun _ => SumSt P c (k.val + 1) n) :=
  aside (serve k (wait_dma XK XV P κ c hs 1 (vr_mem c k.castSucc) (duties_vr1 XK XV P c k) (payload_vr1 XK XV P c k.castSucc)
    (mayWait c _ 1 (by omega) (by omega) (by omega) (by omega)) hN))

theorem pw_step (k : Fin 7) {n : ℕ} {s : DmaSem sig} (hs : s = vsS k) {sp sp' : Space} {t t' : Shape} {e e' : EltTy}
    {src : Memref sig .tc sp' t' e'} {dst : Memref sig .tc sp t e} {hsrc : src.view.WordExact} {hdst : dst.view.WordExact} (hN : dst.view.dmaCredit = N) :
    iprop((Inv XK XV P κ) ∗ SumSt P c n k.val) ⊢ Wp c (Prog.lift (.waitDma2 s src dst hsrc hdst)) (fun _ => SumSt P c n (k.val + 1)) :=
  after (before (swap2 _ _ _) (aside (serve k (wait_dma XK XV P κ c hs 0 (vs_mem c k) (duties_vs1 XK XV P c k) (payload_vs1 XK XV P c k)
    (mayWait c _ 0 (by omega) (by omega) (by omega) (by omega)) hN)))) fun _ => swap2 _ _ _

end One

/-! ## Parts -/

theorem part3_run :
    iprop((Inv XK XV P κ) ∗ SigSt c 0) ⊢ Wp c (B.of (k0_part3 (F := F)))
      (fun r => iprop(⌜∃ w w', r = ⟨c, meW c, SemArray.scalar (sig.barrier 0 rfl), w, w'⟩⌝ ∗ SigSt c 5)) := by
  rw [Bufs.of, k0_part3_eq_skeleton]
  unfold k0_part3_skel
  have hid : ∀ {α : Type} (k : Dev nD → Prog (TpuEff nD τ sig (Elt F) Λ₀ .tc) α) (Q : α → sProp 𝕄), Wp c (k c) Q ⊢ Wp c (Prog.lift .deviceId >>= k) Q := by
    intro α k Q
    exact Entails.of_eq (wp_deviceId 𝒱₀ (c : Thread nD τ) none Set.univ).symm
  refine BIBase.Entails.trans ?_ (hid _ _)
  refine seq (sig_step XK XV P κ c 0 (Fin.ext (k0_dev1_eq c))) fun _ => ?_
  refine seq (sig_step XK XV P κ c 1 (Fin.ext (k0_dev2_eq c))) fun _ => ?_
  refine seq (sig_step XK XV P κ c 2 (Fin.ext (k0_dev3_eq c))) fun _ => ?_
  refine seq (sig_step XK XV P κ c 3 (Fin.ext (k0_dev4_eq c))) fun _ => ?_
  refine seq (sig_step XK XV P κ c 4 (Fin.ext (k0_dev5_eq c))) fun _ => ?_
  refine stop ?_
  iintro H
  isplitr
  · ipureintro; exact ⟨_, _, rfl⟩
  iexact H

theorem part5_run (v2 : BitVec 32) :
    iprop((Inv XK XV P κ) ∗ SendSt XK XV c 1 0) ⊢ Wp c (B.of (k0_part5 (F := F)) c v2) (fun _ => SendSt XK XV c 2 2) := by
  rw [Bufs.of, k0_part5_eq_skeleton]
  unfold k0_part5_skel
  refine seq (v_step XK XV P κ c 0 (Fin.ext (k0_dev9_eq c)) (k0_off1_eq c) (k0_off2_eq c 0) (vs_sem 0 _) (vr_sem 0 _)) fun _ => ?_
  refine seq (k_step XK XV P κ c 1 (Fin.ext (k0_dev10_eq c)) (k0_off1_eq c) (k0_off2_eq c 1) (ks_sem 1 _) (kr_sem 1 _)) fun _ => ?_
  refine seq (v_step XK XV P κ c 1 (Fin.ext (k0_dev11_eq c)) (k0_off1_eq c) (k0_off2_eq c 1) (vs_sem 1 _) (vr_sem 1 _)) fun _ => ?_
  exact stop (by exact .rfl)

theorem part6_run (v2 v77 : BitVec 32) :
    iprop((Inv XK XV P κ) ∗ SendSt XK XV c 2 2) ⊢ Wp c (B.of (k0_part6 (F := F)) c v2 v77) (fun _ => SendSt XK XV c 3 3) := by
  rw [Bufs.of, k0_part6_eq_skeleton]
  unfold k0_part6_skel
  refine seq (k_step XK XV P κ c 2 (Fin.ext (k0_dev12_eq c)) (k0_off1_eq c) (k0_off2_eq c 2) (ks_sem 2 _) (kr_sem 2 _)) fun _ => ?_
  refine seq (v_step XK XV P κ c 2 (Fin.ext (k0_dev13_eq c)) (k0_off1_eq c) (k0_off2_eq c 2) (vs_sem 2 _) (vr_sem 2 _)) fun _ => ?_
  exact stop (by exact .rfl)

theorem part7_run (v2 v99 : BitVec 32) :
    iprop((Inv XK XV P κ) ∗ SendSt XK XV c 3 3) ⊢ Wp c (B.of (k0_part7 (F := F)) c v2 v99) (fun _ => SendSt XK XV c 5 4) := by
  rw [Bufs.of, k0_part7_eq_skeleton]
  unfold k0_part7_skel
  refine seq (k_step XK XV P κ c 3 (Fin.ext (k0_dev14_eq c)) (k0_off1_eq c) (k0_off2_eq c 3) (ks_sem 3 _) (kr_sem 3 _)) fun _ => ?_
  refine seq (v_step XK XV P κ c 3 (Fin.ext (k0_dev15_eq c)) (k0_off1_eq c) (k0_off2_eq c 3) (vs_sem 3 _) (vr_sem 3 _)) fun _ => ?_
  refine seq (k_step XK XV P κ c 4 (Fin.ext (k0_dev16_eq c)) (k0_off1_eq c) (k0_off2_eq c 4) (ks_sem 4 _) (kr_sem 4 _)) fun _ => ?_
  exact stop (by exact .rfl)

theorem part8_run (v2 : BitVec 32) :
    iprop((Inv XK XV P κ) ∗ SendSt XK XV c 5 4) ⊢ Wp c (B.of (k0_part8 (F := F)) c v2) (fun _ => SendSt XK XV c 6 6) := by
  rw [Bufs.of, k0_part8_eq_skeleton]
  unfold k0_part8_skel
  refine seq (v_step XK XV P κ c 4 (Fin.ext (k0_dev17_eq c)) (k0_off1_eq c) (k0_off2_eq c 4) (vs_sem 4 _) (vr_sem 4 _)) fun _ => ?_
  refine seq (k_step XK XV P κ c 5 (Fin.ext (k0_dev18_eq c)) (k0_off1_eq c) (k0_off2_eq c 5) (ks_sem 5 _) (kr_sem 5 _)) fun _ => ?_
  refine seq (v_step XK XV P κ c 5 (Fin.ext (k0_dev19_eq c)) (k0_off1_eq c) (k0_off2_eq c 5) (vs_sem 5 _) (vr_sem 5 _)) fun _ => ?_
  exact stop (by exact .rfl)

/-! ## The barrier, the credits and the turn to the sums -/

/-- What a device has of its own for a send of keys, -/
def kOwn (k : Fin 7) : sProp 𝕄 :=
  iprop(khPt c (blockSet (peer c k)) (XK c) ∗ dutyTok ER (ksC c k) 0 0 ∗ reached ER (ksC c k) 0 ∗ dutyTok ER (krC (peer c k) k.castSucc) 0 0)
/-- of values, -/
def vOwn (k : Fin 7) : sProp 𝕄 :=
  iprop(vhPt c (blockSet (peer c k)) (XV c) ∗ dutyTok ER (vsC c k) 0 0 ∗ reached ER (vsC c k) 0 ∗ dutyTok ER (vrC (peer c k) k.castSucc) 0 0)
/-- and of the partial product. -/
def pOwn (k : Fin 7) : sProp 𝕄 :=
  iprop(psPt c (shareTok fullShare 7 k) (P c) ∗ dutyTok ER (vsC c k) 1 0 ∗ reached ER (vsC c k) 1 ∗ dutyTok ER (vrC (peer c k) k.castSucc) 1 0)

theorem sep_all (Φ Ψ : Fin 7 → sProp 𝕄) : bigSep Finset.univ (fun k => iprop(Φ k ∗ Ψ k)) = iprop(bigSep Finset.univ Φ ∗ bigSep Finset.univ Ψ) :=
  BI.bigSep_sep _ Φ Ψ

/-- Every peer's credit cell is in its first round. -/
def toldCred : sProp 𝕄 := bigSep Finset.univ (fun k : Fin 7 => reached ER (credC (peer c k)) 0)

/-- With every peer's word a device can send all it has. -/
theorem meet_bar : iprop(bigSep Finset.univ (barPay (F := F) c) ∗ (bigSep Finset.univ (kOwn XK c) ∗ bigSep Finset.univ (vOwn XV c)))
    ⊢ iprop((bigSep Finset.univ (kItem XK c) ∗ bigSep Finset.univ (vItem XV c)) ∗ toldCred (F := F) c) := by
  unfold toldCred
  rw [BI.bigSep_univ_equiv Fin.revPerm (barPay (F := F) c), ← sep_all, ← sep_all, ← sep_all, ← sep_all]
  refine BI.bigSep_mono fun k _ => ?_
  have e : barPay (F := F) c (Fin.revPerm k) = slotsFor (F := F) (peer c k) c k := by
    unfold barPay; rw [Fin.revPerm_apply, Fin.rev_rev]
  rw [e]
  unfold slotsFor kItem vItem kOwn vOwn
  change (_ : sProp 𝕄) ⊢ (_ : sProp 𝕄)
  iintro ⟨⟨Hg, Hv, Hr, Hr', Hc⟩, Hk, Hw⟩
  isplitr [Hc]
  · isplitl [Hg Hr Hk]
    · isplitl [Hk]; · iexact Hk
      isplitl [Hg] <;> iassumption
    · isplitl [Hw]; · iexact Hw
      isplitl [Hv] <;> iassumption
  iexact Hc

theorem meet_cred : iprop(bigSep Finset.univ (credPay (F := F) c) ∗ bigSep Finset.univ (pOwn P c)) ⊢ bigSep Finset.univ (pItem P c) := by
  rw [BI.bigSep_univ_equiv Fin.revPerm (credPay (F := F) c), ← sep_all]
  refine BI.bigSep_mono fun k _ => ?_
  have e : credPay (F := F) c (Fin.revPerm k) = slabFor (F := F) (peer c k) k := by
    unfold credPay; rw [Fin.revPerm_apply, Fin.rev_rev]
  rw [e]
  unfold pItem pOwn
  change (_ : sProp 𝕄) ⊢ (_ : sProp 𝕄)
  iintro ⟨Hg, Hk⟩
  isplitl [Hk] <;> iassumption

/-- The barrier as it stands before its wait, -/
def barSt : sProp 𝕄 := iprop(cred (tallyAt (barC c) 0 7) ∗ atPos ER (barC c) 0 ∅ 0)
/-- and the credits. -/
def credSt : sProp 𝕄 := iprop(cred (tallyAt (credC c) 0 7) ∗ atPos ER (credC c) 0 ∅ 0)

theorem bar_wait :
    iprop((Inv XK XV P κ) ∗ (SigSt c 7 ∗ (barSt (F := F) c ∗ (bigSep Finset.univ (kOwn XK c) ∗ bigSep Finset.univ (vOwn XV c)))))
      ⊢ Wp c (semWaitWord barS 7#32) (fun _ => iprop(SendSt XK XV c 0 0 ∗ (atPos ER (barC c) 1 ∅ 0 ∗ toldCred (F := F) c))) := by
  refine after (before ?_ (aside (R := iprop(bigSep Finset.univ (kOwn XK c) ∗ bigSep Finset.univ (vOwn XV c)))
    (wait_reg XK XV P κ c (O := due c 7 0 0 0 0) (bar_mem c) (expect_bar XK XV P c) (duties_bar XK XV P c) (payload_bar XK XV P c)
      (mayWait c _ 0 (by omega) (by intro h; rw [lv_bar]; omega) (fun _ => by rw [lv_bar]; omega) (fun _ => by rw [lv_bar]; omega))))) fun _ => ?_
  · unfold SigSt barSt
    iintro ⟨⟨HO, -⟩, ⟨Hc, Ha⟩, Hk⟩
    isplitr [Hk]
    · isplitl [HO]; · iexact HO
      isplitl [Hc] <;> iassumption
    iexact Hk
  · unfold SendSt
    rw [← Fam_start, ← Fam_start]
    iintro ⟨⟨HO, Ha, Hb⟩, Hk⟩
    · ihave H := (meet_bar XK XV c) $$ [Hb Hk]
      · isplitl [Hb] <;> iassumption
      icases H with ⟨⟨H1, H2⟩, H3⟩
      isplitr [Ha H3]
      · isplitr [H2]
        · isplitl [HO] <;> iassumption
        iexact H2
      isplitl [Ha] <;> iassumption

theorem cred_wait :
    iprop((Inv XK XV P κ) ∗ (CrSt c 7 ∗ (credSt (F := F) c ∗ bigSep Finset.univ (pOwn P c))))
      ⊢ Wp c (semWaitWord credS 7#32) (fun _ => iprop(PsSt P c 0 ∗ atPos ER (credC c) 1 ∅ 0)) := by
  refine after (before ?_ (aside (R := bigSep Finset.univ (pOwn P c))
    (wait_reg XK XV P κ c (O := due c 7 7 7 7 0) (cred_mem c) (expect_cred XK XV P c) (duties_cred XK XV P c) (payload_cred XK XV P c)
      (mayWait c _ 0 (by omega) (by omega) (by omega) (fun _ => by rw [lv_cred]; omega))))) fun _ => ?_
  · unfold CrSt credSt
    iintro ⟨⟨HO, -⟩, ⟨Hc, Ha⟩, Hk⟩
    isplitr [Hk]
    · isplitl [HO]; · iexact HO
      isplitl [Hc] <;> iassumption
    iexact Hk
  · unfold PsSt
    rw [← Fam_start]
    iintro ⟨⟨HO, Ha, Hb⟩, Hk⟩
    isplitr [Ha]
    · isplitl [HO]; · iexact HO
      iapply (meet_cred P c)
      isplitl [Hb] <;> iassumption
    iexact Ha

/-- All sends enqueued: the receipts and the sends' ends come next. -/
theorem ps_done :
    iprop(PsSt P c 7 ∗ (bigSep Finset.univ (fun k : Fin 7 => atPos ER (vsC c k) 1 ∅ 0) ∗ bigSep Finset.univ (fun k : Fin 7 => toWait (F := F) (vrC c k.castSucc) 1 1)))
      ⊢ SumSt P c 0 0 := by
  unfold PsSt SumSt
  rw [Fam_end, ← Fam_start, ← Fam_start]
  iintro ⟨⟨HO, Ht⟩, Ha, Hw⟩
  isplitl [HO Hw]
  · isplitl [HO] <;> iassumption
  have e : (fun k : Fin 7 => toWait (F := F) (vsC c k) 1 0) = fun k => iprop(psTok (F := F) c k ∗ atPos ER (vsC c k) 1 ∅ 0) := rfl
  rw [e, sep_all]
  isplitl [Ht] <;> iassumption

/-! ## The parts that meet them -/

theorem part4_run (w w' : BitVec 32) :
    iprop((Inv XK XV P κ) ∗ (SigSt c 5 ∗ (barSt (F := F) c ∗ (bigSep Finset.univ (kOwn XK c) ∗ bigSep Finset.univ (vOwn XV c)))))
      ⊢ Wp c (B.of (k0_part4 (F := F)) c (meW c) (SemArray.scalar (sig.barrier 0 rfl)) w w')
          (fun _ => iprop(SendSt XK XV c 1 0 ∗ (atPos ER (barC c) 1 ∅ 0 ∗ toldCred (F := F) c))) := by
  rw [Bufs.of, k0_part4_eq_skeleton]
  unfold k0_part4_skel
  refine seqR (sig_step XK XV P κ c 5 (Fin.ext (k0_dev6_eq c))) fun _ => ?_
  refine seqR (sig_step XK XV P κ c 6 (Fin.ext (k0_dev7_eq c))) fun _ => ?_
  refine seq (bar_wait XK XV P κ c) fun _ => ?_
  refine seqR (k_step XK XV P κ c 0 (Fin.ext (k0_dev8_eq c)) (k0_off1_eq c) (k0_off2_eq c 0) (ks_sem 0 _) (kr_sem 0 _)) fun _ => ?_
  exact stop .rfl

theorem part9_run (v2 v165 : BitVec 32) :
    iprop((Inv XK XV P κ) ∗ (SendSt XK XV c 6 6 ∗ kLoc XK c)) ⊢ Wp c (B.of (k0_part9 (F := F)) c v2 v165) (fun _ => iprop(SendSt XK XV c 7 7 ∗ cred (tallyAt (krC c 7) 0 N))) := by
  rw [Bufs.of, k0_part9_eq_skeleton]
  unfold k0_part9_skel
  refine seqR (k_step XK XV P κ c 6 (Fin.ext (k0_dev20_eq c)) (k0_off1_eq c) (k0_off2_eq c 6) (ks_sem 6 _) (kr_sem 6 _)) fun _ => ?_
  refine seqR (v_step XK XV P κ c 6 (Fin.ext (k0_dev21_eq c)) (k0_off1_eq c) (k0_off2_eq c 6) (vs_sem 6 _) (vr_sem 6 _)) fun _ => ?_
  refine before (S := iprop(kLoc XK c ∗ SendSt XK XV c 7 7)) (by iintro ⟨H1, H2⟩; isplitl [H2]; (· iexact H2); iexact H1) ?_
  refine seqR (copy_k XK XV P κ c (k0_off1_eq c) (k0_off3_eq c) (kr_sem 7 _)) fun _ => ?_
  exact stop (by iintro ⟨H1, H2⟩; isplitl [H2]; (· iexact H2); iexact H1)

theorem part14_run :
    iprop((Inv XK XV P κ) ∗ HomeSt XK XV c 2 0) ⊢ Wp c (B.of (k0_part14 (F := F)) c) (fun _ => HomeSt XK XV c 6 0) := by
  rw [Bufs.of, k0_part14_eq_skeleton]
  unfold k0_part14_skel
  refine seq (kw_step XK XV P κ c 2 (ks_sem 2 _) (kh_credit _ _)) fun _ => ?_
  refine seq (kw_step XK XV P κ c 3 (ks_sem 3 _) (kh_credit _ _)) fun _ => ?_
  refine seq (kw_step XK XV P κ c 4 (ks_sem 4 _) (kh_credit _ _)) fun _ => ?_
  refine seq (kw_step XK XV P κ c 5 (ks_sem 5 _) (kh_credit _ _)) fun _ => ?_
  exact stop .rfl

theorem part15_run :
    iprop((Inv XK XV P κ) ∗ HomeSt XK XV c 6 0) ⊢ Wp c (B.of (k0_part15 (F := F)) c) (fun _ => HomeSt XK XV c 7 3) := by
  rw [Bufs.of, k0_part15_eq_skeleton]
  unfold k0_part15_skel
  refine seq (kw_step XK XV P κ c 6 (ks_sem 6 _) (kh_credit _ _)) fun _ => ?_
  refine seq (vw_step XK XV P κ c 0 (vs_sem 0 _) (vh_credit _ _)) fun _ => ?_
  refine seq (vw_step XK XV P κ c 1 (vs_sem 1 _) (vh_credit _ _)) fun _ => ?_
  refine seq (vw_step XK XV P κ c 2 (vs_sem 2 _) (vh_credit _ _)) fun _ => ?_
  exact stop .rfl

theorem part18_run (v2 v388 : BitVec 32) :
    iprop((Inv XK XV P κ) ∗ (CrSt c 5 ∗ (credSt (F := F) c ∗ bigSep Finset.univ (pOwn P c)))) ⊢ Wp c (B.of (k0_part18 (F := F)) c v2 v388) (fun _ => iprop(PsSt P c 2 ∗ atPos ER (credC c) 1 ∅ 0)) := by
  rw [Bufs.of, k0_part18_eq_skeleton]
  unfold k0_part18_skel
  refine seqR (cr_step XK XV P κ c 5 (Fin.ext (k0_dev27_eq c))) fun _ => ?_
  refine seqR (cr_step XK XV P κ c 6 (Fin.ext (k0_dev28_eq c))) fun _ => ?_
  refine seq (cred_wait XK XV P κ c) fun _ => ?_
  refine seqR (ps_step XK XV P κ c 0 (Fin.ext (k0_dev29_eq c)) rfl (vs_sem 0 _) (vr_sem 0 _)) fun _ => ?_
  refine seqR (ps_step XK XV P κ c 1 (Fin.ext (k0_dev30_eq c)) rfl (vs_sem 1 _) (vr_sem 1 _)) fun _ => ?_
  exact stop .rfl

theorem part19_run (v2 : BitVec 32) :
    iprop((Inv XK XV P κ) ∗ PsSt P c 2) ⊢ Wp c (B.of (k0_part19 (F := F)) c v2) (fun _ => PsSt P c 4) := by
  rw [Bufs.of, k0_part19_eq_skeleton]
  unfold k0_part19_skel
  refine seq (ps_step XK XV P κ c 2 (Fin.ext (k0_dev31_eq c)) rfl (vs_sem 2 _) (vr_sem 2 _)) fun _ => ?_
  refine seq (ps_step XK XV P κ c 3 (Fin.ext (k0_dev32_eq c)) rfl (vs_sem 3 _) (vr_sem 3 _)) fun _ => ?_
  exact stop .rfl

theorem part20_run (v2 : BitVec 32) :
    iprop((Inv XK XV P κ) ∗ (PsSt P c 4 ∗ (bigSep Finset.univ (fun k : Fin 7 => atPos ER (vsC c k) 1 ∅ 0) ∗ bigSep Finset.univ (fun k : Fin 7 => toWait (F := F) (vrC c k.castSucc) 1 1)))) ⊢ Wp c (B.of (k0_part20 (F := F)) c v2) (fun _ => SumSt P c 1 0) := by
  rw [Bufs.of, k0_part20_eq_skeleton]
  unfold k0_part20_skel
  refine seqR (ps_step XK XV P κ c 4 (Fin.ext (k0_dev33_eq c)) rfl (vs_sem 4 _) (vr_sem 4 _)) fun _ => ?_
  refine seqR (ps_step XK XV P κ c 5 (Fin.ext (k0_dev34_eq c)) rfl (vs_sem 5 _) (vr_sem 5 _)) fun _ => ?_
  refine seqR (ps_step XK XV P κ c 6 (Fin.ext (k0_dev35_eq c)) rfl (vs_sem 6 _) (vr_sem 6 _)) fun _ => ?_
  refine before (ps_done P c) ?_
  refine seq (pr_step XK XV P κ c 0 (vr_sem 0 _) (vs_credit _ _)) fun _ => ?_
  exact stop .rfl

theorem part21_run (v2 : BitVec 32) :
    iprop((Inv XK XV P κ) ∗ SumSt P c 1 0) ⊢ Wp c (B.of (k0_part21 (F := F)) v2) (fun _ => SumSt P c 5 0) := by
  rw [Bufs.of, k0_part21_eq_skeleton]
  unfold k0_part21_skel
  refine seq (pr_step XK XV P κ c 1 (vr_sem 1 _) (vs_credit _ _)) fun _ => ?_
  refine seq (pr_step XK XV P κ c 2 (vr_sem 2 _) (vs_credit _ _)) fun _ => ?_
  refine seq (pr_step XK XV P κ c 3 (vr_sem 3 _) (vs_credit _ _)) fun _ => ?_
  refine seq (pr_step XK XV P κ c 4 (vr_sem 4 _) (vs_credit _ _)) fun _ => ?_
  exact stop .rfl

theorem part22_run (v2 : BitVec 32) :
    iprop((Inv XK XV P κ) ∗ SumSt P c 5 0) ⊢ Wp c (B.of (k0_part22 (F := F)) v2) (fun _ => SumSt P c 7 2) := by
  rw [Bufs.of, k0_part22_eq_skeleton]
  unfold k0_part22_skel
  refine seq (pr_step XK XV P κ c 5 (vr_sem 5 _) (vs_credit _ _)) fun _ => ?_
  refine seq (pr_step XK XV P κ c 6 (vr_sem 6 _) (vs_credit _ _)) fun _ => ?_
  refine seq (pw_step XK XV P κ c 0 (vs_sem 0 _) (by unfold N; rfl)) fun _ => ?_
  refine seq (pw_step XK XV P κ c 1 (vs_sem 1 _) (by unfold N; rfl)) fun _ => ?_
  exact stop .rfl

end Cert.Proof.Attn
end
-- ==== Proof.Mem.lean ====
/- The parts of the kernel that load, compute and store. -/
module

public import proofs.«01_k».proof.Proof.Talk
public import proofs.«01_k».proof.Proof.Gen.KernelIdeal.Skeleton

@[expose] public section

noncomputable section

namespace Cert.Proof.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F] [Named F]

local notation "𝕄" => MT nD τ sig Ix (Elt F) ℕ UU ℕ

variable (c : Dev nD)

/-! ## One load, one store -/

section Rules

variable {α : Type} {cs : CoreSpace} {s : Shape} {e : EltTy} {m : Memref sig .tc cs s e} {r : Rect s}

theorem ld_bind {hl : m.view.LoadsAt r.toLoadRect} {k : (r.shape.Idx → Elt F e) → Prog (TpuEff nD τ sig (Elt F) Λ₀ .tc) α}
    {S : Finset (Idx ((m.access r).loc (c : Thread nD τ)))} {q : PosShare TreeShare} {f : Buf (Elt F) ((m.access r).loc (c : Thread nD τ))} {Q : α → sProp 𝕄}
    (hS : (m.access r).set ⊆ S) :
    ((m.access r).loc (c : Thread nD τ) ↦[S]{q} f)
      ⊢ iprop((((m.access r).loc (c : Thread nD τ) ↦[S]{q} f) -∗ Wp c (k ((m.access r).read (Elt F) f)) Q) -∗ Wp c (Prog.lift (.load m r.toLoadRect hl) >>= k) Q) :=
  wp_load_rect (defs := defs₀ (F := F)) 𝒱₀ (c : Thread nD τ) none Set.univ hS

theorem st_bind {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α}
    {S : Finset (Idx ((m.access r).loc (c : Thread nD τ)))} {f f' : Buf (Elt F) ((m.access r).loc (c : Thread nD τ))} {Q : α → sProp 𝕄}
    (hS : (m.access r).setOn Finset.univ ⊆ S) (hf : (m.access r).write (Elt F) f w Finset.univ = f') :
    ((m.access r).loc (c : Thread nD τ) ↦[S]{fullShare} f)
      ⊢ iprop((((m.access r).loc (c : Thread nD τ) ↦[S]{fullShare} f') -∗ Wp c (k ⟨⟩) Q) -∗ Wp c (Prog.lift (.store m r w Finset.univ hx hm) >>= k) Q) := by
  subst hf
  exact wp_store (defs := defs₀ (F := F)) 𝒱₀ (c : Thread nD τ) none Set.univ hS

end Rules

abbrev qsPt (c : Dev nD) (f : Par F) : sProp 𝕄 := qsM.view.loc (c : Thread nD τ) ↦[Finset.univ]{fullShare} f
abbrev acPt (c : Dev nD) (f : Act F) : sProp 𝕄 := acM.view.loc (c : Thread nD τ) ↦[Finset.univ]{fullShare} f
abbrev lPt (c : Dev nD) (f : Den F) : sProp 𝕄 := lM.view.loc (c : Thread nD τ) ↦[Finset.univ]{fullShare} f
/-- The staging buffers, their contents given as the operands they hold. -/
def xSt (B : Bufs) (c : Dev nD) (x : Vec F S1x1024x1024 .bf16) : sProp 𝕄 :=
  iprop(∃ f, ⌜B.a0.view.read (Elt F) f = x⌝ ∗ (B.a0.view.loc (c : Thread nD τ) ↦[Finset.univ]{fullShare} f))
def wSt (B : Bufs) (c : Dev nD) (w : Vec F S1024x1024 .bf16) : sProp 𝕄 :=
  iprop(∃ f, ⌜B.a1.view.read (Elt F) f = w⌝ ∗ (B.a1.view.loc (c : Thread nD τ) ↦[Finset.univ]{fullShare} f))
def oSt (B : Bufs) (c : Dev nD) (w : Vec F S1024x1024 .bf16) : sProp 𝕄 :=
  iprop(∃ f, ⌜B.a4.view.read (Elt F) f = w⌝ ∗ (B.a4.view.loc (c : Thread nD τ) ↦[Finset.univ]{fullShare} f))

/-- A rectangle of a buffer, read, is that rectangle of what the buffer reads as. -/
theorem read_rect {sp : Space} {s : Shape} {e : EltTy} (m : Memref sig .tc sp s e) (r : Rect s) (f : m.view.ty.Contents (Elt F)) :
    (m.access r).read (Elt F) f = fun j => m.view.read (Elt F) f (r.emb j) := rfl

theorem x_read (B : Bufs) (inb) (f : B.a0.view.ty.Contents (Elt F)) {x : Vec F S1x1024x1024 .bf16} (h : B.a0.view.read (Elt F) f = x) :
    (B.a0.access (Rect.unit (s := S1x1024x1024) ![0, 0, 0] S1x1024x1024.size inb)).read (Elt F) f = x := by
  subst h
  rw [read_rect]
  funext j
  congr 1
  funext a
  apply Fin.ext
  show (![0, 0, 0] : Fin 3 → ℕ) a + 1 * (j a).val = (j a).val
  have : (![0, 0, 0] : Fin 3 → ℕ) a = 0 := by revert a; decide
  rw [this]; omega

theorem w_read (B : Bufs) (h : Fin 8) {off : Fin 2 → ℕ} (e : off = ![0, 128 * h.val]) (inb) (f : B.a1.view.ty.Contents (Elt F)) {w : Vec F S1024x1024 .bf16} (hw : B.a1.view.read (Elt F) f = w) :
    (B.a1.access (Rect.unit (s := S1024x1024) off S1024x128.size inb)).read (Elt F) f = wqCols w h := by
  subst hw e
  rw [read_rect]
  funext j
  unfold wqCols
  congr 1
  funext a
  apply Fin.ext
  match a with
  | ⟨0, _⟩ => show 0 + 1 * (j 0).val = (j 0).val; omega
  | ⟨1, _⟩ => show 128 * h.val + 1 * (j 1).val = 128 * h.val + (j 1).val; omega

/-! ## The queries -/

/-- `k` heads' queries are stored. -/
def QSt (B : Bufs) (c : Dev nD) (x : Vec F S1x1024x1024 .bf16) (w : Vec F S1024x1024 .bf16) (f : Par F) (k : ℕ) : sProp 𝕄 :=
  iprop(xSt B c x ∗ wSt B c w ∗ qsPt c (qsUpto x w f k))

section Queries

variable {x : Vec F S1x1024x1024 .bf16} {w : Vec F S1024x1024 .bf16} {f : Par F} {α : Type} (B : Bufs)

/-- Loading what a head's queries are computed from. -/
theorem q_load {I R : sProp 𝕄} [BI.Persistent I] (h : Fin 8) {off : Fin 2 → ℕ} (e : off = ![0, 128 * h.val]) {inb inb' hl hl'} {n : ℕ}
    {k : Vec F S1x1024x1024 .bf16 → Vec F S1024x128 .bf16 → Prog (TpuEff nD τ sig (Elt F) Λ₀ .tc) α} {Q : α → sProp 𝕄}
    (hk : iprop(I ∗ (QSt B c x w f n ∗ R)) ⊢ Wp c (k x (wqCols w h)) Q) :
    iprop(I ∗ (QSt B c x w f n ∗ R)) ⊢ Wp c (Prog.lift (.load B.a0 (Rect.unit (s := S1x1024x1024) ![0, 0, 0] S1x1024x1024.size inb).toLoadRect hl) >>= fun v =>
      Prog.lift (.load B.a1 (Rect.unit (s := S1024x1024) off S1024x128.size inb').toLoadRect hl') >>= fun v' => k v v') Q := by
  unfold QSt xSt wSt
  iintro ⟨#HI, ⟨⟨%fx, %hx, Hx⟩, ⟨%fw, %hw, Hw⟩, Hq⟩, HR⟩
  iapply (ld_bind c (m := B.a0) (Finset.subset_univ _)) $$ [Hx]
  · iexact Hx
  iintro Hx
  rw [x_read B inb fx hx]
  iapply (ld_bind c (m := B.a1) (Finset.subset_univ _)) $$ [Hw]
  · iexact Hw
  iintro Hw
  rw [w_read B h e inb' fw hw]
  iapply hk
  isplitr; · iexact HI
  unfold QSt xSt wSt
  isplitr [HR]
  rotate_left; · iexact HR
  isplitl [Hx]
  · iexists fx; isplitr; · ipureintro; exact hx
    iexact Hx
  isplitl [Hw]
  · iexists fw; isplitr; · ipureintro; exact hw
    iexact Hw
  iexact Hq

/-- Storing a head's queries. -/
theorem q_store {I R : sProp 𝕄} [BI.Persistent I] (h : Fin 8) {off : Fin 3 → ℕ} (e : off = ![h.val, 0, 0]) {inb hl hx hm} {p : FVec F S1x1024x128 .bf16} (hp : p = qHead x w h)
    {k : Prog (TpuEff nD τ sig (Elt F) Λ₀ .tc) α} {Q : α → sProp 𝕄}
    (hk : iprop(I ∗ (QSt B c x w f (h.val + 1) ∗ R)) ⊢ Wp c k Q) :
    iprop(I ∗ (QSt B c x w f h.val ∗ R)) ⊢ Wp c (Prog.lift (.load qsM (Rect.unit (s := S8x1024x128) off S1x1024x128.size inb).toLoadRect hl) >>= fun _ =>
      Prog.lift (.store qsM (Rect.unit (s := S8x1024x128) off S1x1024x128.size inb) p Finset.univ hx hm) >>= fun _ => k) Q := by
  subst hp
  unfold QSt at *
  iintro ⟨#HI, ⟨Hx, Hw, Hq⟩, HR⟩
  iapply (ld_bind c (m := qsM) (Finset.subset_univ _)) $$ [Hq]
  · iexact Hq
  iintro Hq
  iapply (st_bind c (m := qsM) (Finset.subset_univ _) (qs_store x w f h e inb)) $$ [Hq]
  · iexact Hq
  iintro Hq
  iapply hk
  isplitr; · iexact HI
  isplitr [HR]
  rotate_left; · iexact HR
  isplitl [Hx]; · iexact Hx
  isplitl [Hw] <;> iassumption

end Queries

/-- A known result is used. -/
theorem known {A : sProp 𝕄} {G : sProp 𝕄} {I : sProp 𝕄} [BI.Persistent I] {φ : Prop} (h : φ → iprop(I ∗ A) ⊢ G) : iprop(I ∗ (⌜φ⌝ ∗ A)) ⊢ G := by
  iintro ⟨#HI, %hφ, HA⟩
  iapply (h hφ)
  isplitr; · iexact HI
  iexact HA

/-- and is told. -/
theorem told {A : sProp 𝕄} {φ : Prop} (h : φ) : A ⊢ iprop(⌜φ⌝ ∗ A) := by
  iintro H
  isplitr; · ipureintro; exact h
  iexact H

variable (B : Bufs) (XK XV : Dev nD → Seq F) (P : Dev nD → Par F) (κ : GSem nD τ sig → ℕ)

variable (x : Vec F S1x1024x1024 .bf16) (w : Vec F S1024x1024 .bf16) (f : Par F)

theorem part10_run (R : sProp 𝕄) :
    iprop((Inv XK XV P κ) ∗ (vLoc XV c ∗ (QSt B c x w f 0 ∗ R))) ⊢ Wp c (B.of (k0_part10 (F := F)) c)
      (fun v => iprop(⌜v = k0_pay11 x (wqCols w 2)⌝ ∗ (QSt B c x w f 2 ∗ (cred (tallyAt (vrC c 7) 0 N) ∗ R)))) := by
  rw [Bufs.of, k0_part10_eq_skeleton]
  unfold k0_part10_skel
  refine seqR (copy_v XK XV P κ c (k0_off1_eq c) (k0_off3_eq c) (vr_sem 7 _)) fun _ => ?_
  refine before (S := iprop(QSt B c x w f 0 ∗ (cred (tallyAt (vrC c 7) 0 N) ∗ R))) ?_ ?_
  · iintro ⟨H1, H2, H3⟩
    isplitl [H2]; · iexact H2
    isplitl [H1]; · iexact H1
    iexact H3
  refine q_load c B 0 rfl ?_
  refine q_store c B 0 rfl rfl ?_
  refine q_load c B 1 rfl ?_
  refine q_store c B 1 rfl rfl ?_
  refine q_load c B 2 rfl ?_
  exact stop (told rfl)

theorem part11_run (R : sProp 𝕄) :
    iprop((Inv XK XV P κ) ∗ (QSt B c x w f 2 ∗ R)) ⊢ Wp c (B.of (k0_part11 (F := F)) (k0_pay11 x (wqCols w 2)))
      (fun v => iprop(⌜v = k0_pay15 x (wqCols w 5)⌝ ∗ (QSt B c x w f 5 ∗ R))) := by
  rw [Bufs.of, k0_part11_eq_skeleton]
  unfold k0_part11_skel
  refine q_store c B 2 rfl rfl ?_
  refine q_load c B 3 rfl ?_
  refine q_store c B 3 rfl rfl ?_
  refine q_load c B 4 rfl ?_
  refine q_store c B 4 rfl rfl ?_
  refine q_load c B 5 rfl ?_
  exact stop (told rfl)

/-- The accumulators as they start. -/
def ZSt (c : Dev nD) : sProp 𝕄 := iprop((∃ f, acPt (F := F) c f) ∗ (∃ f, lPt (F := F) c f))

theorem part12_run (R : sProp 𝕄) :
    iprop((Inv XK XV P κ) ∗ (QSt B c x w f 5 ∗ (ZSt (F := F) c ∗ R))) ⊢ Wp c (B.of (k0_part12 (F := F)) (k0_pay15 x (wqCols w 5)))
      (fun v => iprop(⌜v = k0_pay20 (F := F)⌝ ∗ (QSt B c x w f 8 ∗ ((acPt c (k0_pay19 (F := F)) ∗ (∃ f, lPt (F := F) c f)) ∗ R)))) := by
  rw [Bufs.of, k0_part12_eq_skeleton]
  unfold k0_part12_skel
  refine q_store c B 5 rfl rfl ?_
  refine q_load c B 6 rfl ?_
  refine q_store c B 6 rfl rfl ?_
  refine q_load c B 7 rfl ?_
  refine q_store c B 7 rfl rfl ?_
  unfold ZSt
  iintro ⟨#HI, HQ, ⟨⟨%fa, Ha⟩, ⟨%fl, Hl⟩⟩, HR⟩
  iapply (ld_bind c (m := acM) (Finset.subset_univ _)) $$ [Ha]
  · iexact Ha
  iintro Ha
  iapply (st_bind c (m := acM) (Finset.subset_univ _) (Memref.write_access_unit_zero_univ (Elt F) cc0_scratch4 (by decide) _ _ _)) $$ [Ha]
  · iexact Ha
  iintro Ha
  iapply (ld_bind c (m := lM) (Finset.subset_univ _)) $$ [Hl]
  · iexact Hl
  iintro Hl
  iapply (le_wp_ret frame (wpE (defs₀ (F := F)) 𝒱₀ (c : Thread nD τ) none) Set.univ)
  isplitr; · ipureintro; rfl
  isplitl [HQ]; · iexact HQ
  isplitr [HR]
  rotate_left; · iexact HR
  isplitl [Ha]; · iexact Ha
  iexists fl; iexact Hl

end Cert.Proof.Attn
end
-- ==== Proof.Rounds.lean ====
/- The attention rounds: the three nested loops, and the part of the kernel they stand in. -/
module

public import proofs.«01_k».proof.Proof.Mem
public import proofs.«01_k».proof.Proof.Gen.KernelIdeal.Skeleton

@[expose] public section

noncomputable section

namespace Cert.Proof.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F] [Named F]

local notation "𝕄" => MT nD τ sig Ix (Elt F) ℕ UU ℕ

variable (c : Dev nD)

/-- A counted loop, by an invariant. -/
theorem loop_run {σ : Type} {w : ℕ} {I : sProp 𝕄} [BI.Persistent I] (l : Scf.Loop w) (ok : l.OK) (init : σ)
    (body : Fin l.trips → σ → Prog (TpuEff nD τ sig (Elt F) Λ₀ .tc) σ) (J : ℕ → σ → sProp 𝕄)
    (h : ∀ (k : Fin l.trips) (a : σ), iprop(I ∗ J k.val a) ⊢ Wp c (body k a) (J (k.val + 1))) :
    iprop(I ∗ J 0 init) ⊢ Wp c (Scf.Loop.for l ok init body) (J l.trips) := by
  iintro ⟨#HI, HJ⟩
  iapply (Scf.wp_for frame (wpE (defs₀ (F := F)) 𝒱₀ (c : Thread nD τ) none) Set.univ l.lb l.ub l.st ok init body (fun k a => iprop(I ∗ J k a)) (fun k a => ?_))
  · refine BIBase.Entails.trans ?_ (wp_mono frame (wpE (defs₀ (F := F)) 𝒱₀ (c : Thread nD τ) none) Set.univ (p := body k a) (Q := fun v => iprop(J (k.val + 1) v ∗ I)) (fun v => ?_))
    · iintro ⟨#HI, HJ⟩
      iapply (aside (R := I) (h k a))
      isplitr; · iexact HI
      isplitl [HJ]; · iexact HJ
      iexact HI
    · iintro ⟨HJ, HI⟩
      isplitl [HI] <;> iassumption
  isplitl [HJ]
  · isplitr; · iexact HI
    iexact HJ
  iintro %a ⟨-, HJ⟩
  iexact HJ

variable (B : Bufs) (XK XV : Dev nD → Seq F) (P : Dev nD → Par F) (κ : GSem nD τ sig → ℕ)
variable (X : Dev nD → Vec F S1x1024x1024 .bf16) (WQ : Dev nD → Vec F S1024x1024 .bf16)

/-- The rectangle a round reads lies in its slot. -/
theorem slotR_sub (t1 : Fin k0_t1_loop.trips) (t3 : Fin k0_t3_loop.trips) {j : Fin 8} (hj : j.val = (c.val + 8 - t1.val) % 8) : (slotR c t1 t3).set ⊆ slotSet j := by
  intro i hi
  unfold slotR at hi
  rw [Rect.mem_set_unit] at hi
  have h1 := hi 1
  have e : k0_off7 c t1 t3 1 = (c.val + 8 - t1.val) % 8 := by rw [k0_off7_eq]; rfl
  rw [e] at h1
  have h1' : (i 1).val < (c.val + 8 - t1.val) % 8 + 1 := h1.2
  rw [mem_slotSet]
  omega

theorem kg_read_sub (t1 : Fin k0_t1_loop.trips) (t3 : Fin k0_t3_loop.trips) {j : Fin 8} (hj : j.val = (c.val + 8 - t1.val) % 8) : (kgM.access (slotR c t1 t3)).set ⊆ slotSet j :=
  (View.set_slice_whole _ _).trans_subset (slotR_sub c t1 t3 hj)
theorem vg_read_sub (t1 : Fin k0_t1_loop.trips) (t3 : Fin k0_t3_loop.trips) {j : Fin 8} (hj : j.val = (c.val + 8 - t1.val) % 8) : (vgM.access (slotR c t1 t3)).set ⊆ slotSet j :=
  (View.set_slice_whole _ _).trans_subset (slotR_sub c t1 t3 hj)

/-- What a round works on. -/
def work (a : Act F) (l : Den F) : sProp 𝕄 := iprop(qsPt c (qsOf (X c) (WQ c)) ∗ acPt c a ∗ lPt c l)
/-- A slot of both gathered buffers. -/
def slots (j : Fin 8) : sProp 𝕄 := iprop(kgPt c (slotSet j) (gathered XK c) ∗ vgPt c (slotSet j) (gathered XV c))

/-- The state of the rounds while slot `j` is read. -/
def workAt (j : Fin 8) (s : Act F × Den F) : sProp 𝕄 := iprop(work c X WQ s.1 s.2 ∗ slots c XK XV j)

section Head
variable (t1 : Fin k0_t1_loop.trips) (t2 : Fin k0_t2_loop.trips) (t3 : Fin k0_t3_loop.trips) {j : Fin 8} (hj : j.val = (c.val + 8 - t1.val) % 8)
include hj

/-- One head's block of scores: the products are added to the accumulator. -/
theorem part1_run (s : Act F × Den F) (a18 : BitVec 32) :
    iprop((Inv XK XV P κ) ∗ (work c X WQ s.1 s.2 ∗ slots c XK XV j)) ⊢ Wp c (B.of (k0_part1 (F := F)) c t1 (kcW c t1) t2 a18 (biasAt c t1 t2) 0#32 1#32 t3)
      (fun v => iprop(⌜v.2 = k0_pay4 (biasAt c t1 t2) (qAt X WQ c t2 t3) (kAt XK c t1 t3) ((lM.access (denR t2 t3)).read (Elt F) s.2)⌝
        ∗ (work c X WQ (accTrip XK XV X WQ c t1 t2 t3 s) s.2 ∗ slots c XK XV j))) := by
  rw [Bufs.of, k0_part1_eq_skeleton]
  unfold k0_part1_skel work slots
  iintro ⟨#HI, ⟨Hq, Ha, Hl⟩, Hk, Hv⟩
  iapply (ld_bind c (m := qsM) (Finset.subset_univ _)) $$ [Hq]
  · iexact Hq
  iintro Hq
  iapply (ld_bind c (m := kgM) (r := slotR c t1 t3) (S := slotSet j) (kg_read_sub c t1 t3 hj)) $$ [Hk]
  · iexact Hk
  iintro Hk
  iapply (ld_bind c (m := vgM) (r := slotR c t1 t3) (S := slotSet j) (vg_read_sub c t1 t3 hj)) $$ [Hv]
  · iexact Hv
  iintro Hv
  iapply (ld_bind c (m := acM) (Finset.subset_univ _)) $$ [Ha]
  · iexact Ha
  iintro Ha
  iapply (ld_bind c (m := acM) (Finset.subset_univ _)) $$ [Ha]
  · iexact Ha
  iintro Ha
  iapply (st_bind c (m := acM) (f' := accTrip XK XV X WQ c t1 t2 t3 s) (Finset.subset_univ _) rfl) $$ [Ha]
  · iexact Ha
  iintro Ha
  iapply (ld_bind c (m := lM) (Finset.subset_univ _)) $$ [Hl]
  · iexact Hl
  iintro Hl
  iapply (le_wp_ret frame (wpE (defs₀ (F := F)) 𝒱₀ (c : Thread nD τ) none) Set.univ)
  isplitr; · ipureintro; rfl
  isplitl [Hq Ha Hl]
  · isplitl [Hq]; · iexact Hq
    isplitl [Ha]; · iexact Ha
    iexact Hl
  isplitl [Hk]; · iexact Hk
  iexact Hv

/-- One trip of the innermost loop. -/
theorem head_run (s : Act F × Den F) (a18 : BitVec 32) (u : Unit) :
    iprop((Inv XK XV P κ) ∗ (work c X WQ s.1 s.2 ∗ slots c XK XV j)) ⊢ Wp c (B.of (k0_t3_body (F := F)) c (meW c) (k0_pay20 (F := F)) t1 (kcW c t1) t2 a18
        (k0_pay5 (kcW c t1)) (k0_pay6 0#32 1#32 t2) 64#32 (k0_pay7 (kcW c t1)) (k0_pay8 (kcW c t1))
        (Scalar.extui (Scalar.cmpi .sgt 64#32 0#32)) (Scalar.extui (Scalar.cmpi .slt 64#32 0#32)) t3 u)
      (fun _ => iprop(work c X WQ (accTrip XK XV X WQ c t1 t2 t3 s) (denTrip XK X WQ c t1 t2 t3 s) ∗ slots c XK XV j)) := by
  unfold Bufs.of k0_t3_body
  refine seq (part1_run c B XK XV P κ X WQ t1 t2 t3 hj s a18) ?_
  rintro ⟨a19, v659⟩
  refine known fun hv => ?_
  change v659 = _ at hv
  subst hv
  unfold work
  iintro ⟨#HI, ⟨Hq, Ha, Hl⟩, Hs⟩
  iapply (ld_bind c (m := lM) (Finset.subset_univ _)) $$ [Hl]
  · iexact Hl
  iintro Hl
  iapply (st_bind c (m := lM) (f' := denTrip XK X WQ c t1 t2 t3 s) (Finset.subset_univ _) rfl) $$ [Hl]
  · iexact Hl
  iintro Hl
  iapply (le_wp_ret frame (wpE (defs₀ (F := F)) 𝒱₀ (c : Thread nD τ) none) Set.univ)
  isplitl [Hq Ha Hl]
  · isplitl [Hq]; · iexact Hq
    isplitl [Ha]; · iexact Ha
    iexact Hl
  iexact Hs
end Head

theorem trip3_fst (c : Dev nD) (t1 : Fin k0_t1_loop.trips) (t2 : Fin k0_t2_loop.trips) (t3 : Fin k0_t3_loop.trips) (s : Act F × Den F) :
    (trip3 XK XV X WQ c t1 t2 t3 s).1 = accTrip XK XV X WQ c t1 t2 t3 s := by delta trip3; rfl
theorem trip3_snd (c : Dev nD) (t1 : Fin k0_t1_loop.trips) (t2 : Fin k0_t2_loop.trips) (t3 : Fin k0_t3_loop.trips) (s : Act F × Den F) :
    (trip3 XK XV X WQ c t1 t2 t3 s).2 = denTrip XK X WQ c t1 t2 t3 s := by simp only [trip3]

/-- A loop whose state after `n` trips is a function of `n`. -/
theorem loop_state {σ : Type} {w : ℕ} {I : sProp 𝕄} [BI.Persistent I] (l : Scf.Loop w) (ok : l.OK) (body : Fin l.trips → Unit → Prog (TpuEff nD τ sig (Elt F) Λ₀ .tc) Unit)
    (step : σ → Fin l.trips → σ) (s : σ) (J : σ → sProp 𝕄) (h : ∀ (k : Fin l.trips) (s : σ) (u : Unit), iprop(I ∗ J s) ⊢ Wp c (body k u) (fun _ => J (step s k))) :
    iprop(I ∗ J s) ⊢ Wp c (Scf.Loop.for l ok ⟨⟩ body) (fun _ => J (it (fun k s => step s k) s l.trips)) :=
  loop_run c l ok ⟨⟩ body (fun n _ => J (it (fun k s => step s k) s n)) fun k u => by
    rw [it_succ]
    exact h k _ u

section Block
variable (t1 : Fin k0_t1_loop.trips) (t2 : Fin k0_t2_loop.trips) {j : Fin 8} (hj : j.val = (c.val + 8 - t1.val) % 8)
include hj

/-- One trip of the middle loop: the eight heads of a block of queries. -/
theorem block_run (s : Act F × Den F) (u : Unit) :
    iprop((Inv XK XV P κ) ∗ workAt c XK XV X WQ j s) ⊢ Wp c (B.of (k0_t2_body (F := F)) c (meW c) (k0_pay20 (F := F)) t1 (kcW c t1) t2 u)
      (fun _ => workAt c XK XV X WQ j (heads XK XV X WQ c t1 t2 s k0_t3_loop.trips)) := by
  unfold Bufs.of k0_t2_body
  simp only [k0_part2_eq_skeleton]
  unfold k0_part2_skel
  change _ ⊢ Wp c (Scf.Loop.for k0_t3_loop k0_t3_ok PUnit.unit _ >>= _) _
  refine seq (loop_state c k0_t3_loop k0_t3_ok _ (fun s k => trip3 XK XV X WQ c t1 t2 k s) s (workAt c XK XV X WQ j)
    fun t3 s u => by
      unfold workAt; rw [trip3_fst, trip3_snd]
      exact head_run c B XK XV P κ X WQ t1 t2 t3 hj s _ u) fun _ => ?_
  exact stop .rfl

end Block

section Round
variable (t1 : Fin k0_t1_loop.trips) {j : Fin 8} (hj : j.val = (c.val + 8 - t1.val) % 8)
include hj

/-- The four blocks of a round. -/
theorem round_run (s : Act F × Den F) :
    iprop((Inv XK XV P κ) ∗ workAt c XK XV X WQ j s) ⊢ Wp c (Scf.Loop.for k0_t2_loop k0_t2_ok ⟨⟩ (B.of (k0_t2_body (F := F)) c (meW c) (k0_pay20 (F := F)) t1 (kcW c t1)))
      (fun _ => workAt c XK XV X WQ j (blocks XK XV X WQ c t1 s k0_t2_loop.trips)) :=
  loop_state c k0_t2_loop k0_t2_ok _ (fun s k => heads XK XV X WQ c t1 k s k0_t3_loop.trips) s (workAt c XK XV X WQ j)
    fun t2 s u => block_run c B XK XV P κ X WQ t1 t2 hj s u
end Round

/-! The outer loop. -/

theorem off4_eq : ∀ t1 : Fin k0_t1_loop.trips, k0_cond1 t1 = 1#1 → k0_off4 t1 = ![t1.val - 1] := by decide +kernel
theorem cond1_iff : ∀ t1 : Fin k0_t1_loop.trips, k0_cond1 t1 = 1#1 ↔ t1.val ≠ 0 := by decide +kernel

/-- What is awaited for round `k + 1`, and what has arrived. -/
def roundWait (k : Fin 7) : sProp 𝕄 := iprop(toWait (F := F) (krC c k.castSucc) 0 0 ∗ toWait (F := F) (vrC c k.castSucc) 0 0)
def roundGot (k : Fin 7) : sProp 𝕄 :=
  iprop((waited (krC c k.castSucc) 0 ∗ waited (vrC c k.castSucc) 0) ∗ slots c XK XV (peer c k.rev))

/-- The state of the outer loop after `n` rounds. -/
def RoundSt (n : ℕ) : sProp 𝕄 :=
  iprop(((Ow c (due c 7 7 7 0 0) ∗ work c X WQ (rounds XK XV X WQ c n).1 (rounds XK XV X WQ c n).2) ∗ slots c XK XV c)
    ∗ Fam (n - 1) (roundWait c) (roundGot c XK XV))

theorem krPay_slot (k : Fin 7) : krPay XK c k.castSucc = kgPt c (slotSet (peer c k.rev)) (gathered XK c) := by
  unfold krPay; exact dif_pos k.isLt
theorem vrPay_slot (k : Fin 7) : vrPay XV c k.castSucc = vgPt c (slotSet (peer c k.rev)) (gathered XV c) := by
  unfold vrPay; exact dif_pos k.isLt

theorem kr_sem' {k : Fin 8} {off : Fin 1 → ℕ} (h : off = ![k.val]) (inb) : sem8 cc0_scratch7 off inb = krS k := by subst h; exact kr_sem k inb
theorem vr_sem' {k : Fin 8} {off : Fin 1 → ℕ} (h : off = ![k.val]) (inb) : sem8 cc0_scratch9 off inb = vrS k := by subst h; exact vr_sem k inb

section Waits
variable {sp sp' : Space} {t t' : Shape} {e e' : EltTy} {src : Memref sig .tc sp' t' e'} {dst : Memref sig .tc sp t e}
  {hsrc : src.view.WordExact} {hdst : dst.view.WordExact} {k : Fin 8} {s : DmaSem sig}

/-- The wait for a slot of the gathered keys, -/
theorem kr_wait (hs : s = krS k) (hN : dst.view.dmaCredit = N) :
    iprop((Inv XK XV P κ) ∗ (Ow c (due c 7 7 7 0 0) ∗ toWait (F := F) (krC c k) 0 0)) ⊢ Wp c (Prog.lift (.waitDma2 s src dst hsrc hdst))
      (fun _ => iprop(Ow c (due c 7 7 7 0 0) ∗ (waited (krC c k) 0 ∗ krPay XK c k))) :=
  wait_dma XK XV P κ c hs 0 (kr_mem c k) (duties_kr XK XV P c k) (payload_kr XK XV P c k)
    (mayWait c _ 0 (by omega) (by omega) (fun _ => by rw [lv_kr]; omega) (fun _ => by rw [lv_kr]; omega)) hN
/-- and of the values. -/
theorem vr_wait (hs : s = vrS k) (hN : dst.view.dmaCredit = N) :
    iprop((Inv XK XV P κ) ∗ (Ow c (due c 7 7 7 0 0) ∗ toWait (F := F) (vrC c k) 0 0)) ⊢ Wp c (Prog.lift (.waitDma2 s src dst hsrc hdst))
      (fun _ => iprop(Ow c (due c 7 7 7 0 0) ∗ (waited (vrC c k) 0 ∗ vrPay XV c k))) :=
  wait_dma XK XV P κ c hs 0 (vr_mem c k) (duties_vr XK XV P c k) (payload_vr XK XV P c k)
    (mayWait c _ 0 (by omega) (by omega) (fun _ => by rw [lv_vr, if_pos rfl]; omega) (fun _ => by rw [lv_vr, if_pos rfl]; omega)) hN
end Waits

theorem rounds_succ (t1 : Fin k0_t1_loop.trips) :
    rounds XK XV X WQ c (t1.val + 1) = blocks XK XV X WQ c t1 (rounds XK XV X WQ c t1.val) k0_t2_loop.trips := it_succ _ _ t1

/-! Rearrangements. -/
theorem shuf1 (O a b w s : sProp 𝕄) : iprop(((O ∗ w) ∗ s) ∗ (a ∗ b)) ⊢ iprop((O ∗ a) ∗ (b ∗ (w ∗ s))) := by
  iintro ⟨⟨⟨HO, Hw⟩, Hs⟩, Ha, Hb⟩
  isplitl [HO Ha]; · isplitl [HO] <;> iassumption
  isplitl [Hb]; · iexact Hb
  isplitl [Hw] <;> iassumption
theorem shuf2 (O a b w : sProp 𝕄) : iprop((O ∗ a) ∗ (b ∗ w)) ⊢ iprop((O ∗ b) ∗ (a ∗ w)) := by
  iintro ⟨⟨HO, Ha⟩, Hb, Hw⟩
  isplitl [HO Hb]; · isplitl [HO] <;> iassumption
  isplitl [Ha] <;> iassumption
theorem shuf3 (O a k b v w s : sProp 𝕄) : iprop((O ∗ (b ∗ v)) ∗ ((a ∗ k) ∗ (w ∗ s))) ⊢ iprop((w ∗ (k ∗ v)) ∗ ((O ∗ s) ∗ (a ∗ b))) := by
  iintro ⟨⟨HO, Hb, Hv⟩, ⟨Ha, Hk⟩, Hw, Hs⟩
  isplitl [Hw Hk Hv]
  · isplitl [Hw]; · iexact Hw
    isplitl [Hk] <;> iassumption
  isplitl [HO Hs]; · isplitl [HO] <;> iassumption
  isplitl [Ha] <;> iassumption
theorem shuf4 (O a w z s : sProp 𝕄) : iprop((w ∗ z) ∗ ((O ∗ s) ∗ a)) ⊢ iprop(((O ∗ w) ∗ s) ∗ (a ∗ z)) := by
  iintro ⟨⟨Hw, Hz⟩, ⟨HO, Hs⟩, Ha⟩
  isplitl [HO Hw Hs]
  · isplitl [HO Hw]
    · isplitl [HO] <;> iassumption
    iexact Hs
  isplitl [Ha] <;> iassumption
theorem shuf5 (O w s f : sProp 𝕄) : iprop(((O ∗ w) ∗ s) ∗ f) ⊢ iprop((w ∗ s) ∗ (O ∗ f)) := by
  iintro ⟨⟨⟨HO, Hw⟩, Hs⟩, Hf⟩
  isplitl [Hw Hs]
  · isplitl [Hw] <;> iassumption
  isplitl [HO] <;> iassumption
theorem shuf6 (O w s f : sProp 𝕄) : iprop((w ∗ s) ∗ (O ∗ f)) ⊢ iprop(((O ∗ w) ∗ s) ∗ f) := by
  iintro ⟨⟨Hw, Hs⟩, HO, Hf⟩
  isplitl [HO Hw Hs]
  · isplitl [HO Hw]
    · isplitl [HO] <;> iassumption
    iexact Hs
  iexact Hf

/-- One trip of the outer loop: the first reads the device's own slot, every other waits for a peer's. -/
theorem round_body (t1 : Fin k0_t1_loop.trips) (u : Unit) :
    iprop((Inv XK XV P κ) ∗ RoundSt c XK XV X WQ t1.val) ⊢ Wp c (B.of (k0_t1_body (F := F)) c (meW c) (k0_pay20 (F := F)) t1 u)
      (fun _ => RoundSt c XK XV X WQ (t1.val + 1)) := by
  unfold Bufs.of k0_t1_body RoundSt
  rw [rounds_succ]
  have h8 : t1.val < 8 := t1.isLt
  by_cases hc : k0_cond1 t1 = 1#1
  · simp only [dif_pos hc]
    have h0 := (cond1_iff t1).mp hc
    obtain ⟨k, hk⟩ : ∃ k : Fin 7, t1.val = k.val + 1 := ⟨⟨t1.val - 1, by omega⟩, by show t1.val = t1.val - 1 + 1; omega⟩
    have e4 : k0_off4 t1 = ![(k.castSucc : Fin 8).val] := by rw [off4_eq t1 hc, hk]; rfl
    have hj : (peer c k.rev).val = (c.val + 8 - t1.val) % 8 := by
      have := k.isLt
      show (c.val + (7 - (k.val + 1)) + 1) % 8 = _
      rw [hk]; congr 1; omega
    rw [show t1.val - 1 = k.val by omega, show t1.val + 1 - 1 = k.val + 1 by omega]
    refine serve k (before (shuf1 _ _ _ _ _) (seqR (kr_wait c XK XV P κ (kr_sem' e4 _) (kg_credit _ _)) fun _ => before (shuf2 _ _ _ _)
      (seqR (vr_wait c XK XV P κ (vr_sem' e4 _) (vg_credit _ _)) fun _ => ?_)))
    rw [krPay_slot, vrPay_slot]
    refine before (shuf3 _ _ _ _ _ _ _) (seqR (round_run c B XK XV P κ X WQ t1 hj _) fun _ => stop ?_)
    exact shuf4 _ _ _ _ _
  · simp only [dif_neg hc]
    have h0 : t1.val = 0 := not_not.mp fun h => hc ((cond1_iff t1).mpr h)
    rw [show t1.val - 1 = 0 by omega, show t1.val + 1 - 1 = 0 by omega]
    refine before (shuf5 _ _ _ _) (seqR (round_run c B XK XV P κ X WQ t1 (j := c) (by rw [h0]; have h : c.val < 8 := c.isLt; omega) _) fun _ => stop ?_)
    exact shuf6 _ _ _ _

/-- The eight rounds. -/
theorem rounds_run :
    iprop((Inv XK XV P κ) ∗ RoundSt c XK XV X WQ 0) ⊢ Wp c (Scf.Loop.for k0_t1_loop k0_t1_ok ⟨⟩ (B.of (k0_t1_body (F := F)) c (meW c) (k0_pay20 (F := F))))
      (fun _ => RoundSt c XK XV X WQ 8) :=
  loop_run c k0_t1_loop k0_t1_ok ⟨⟩ _ (fun n _ => RoundSt c XK XV X WQ n) fun t1 u => round_body c B XK XV P κ X WQ t1 u

end Cert.Proof.Attn
end
-- ==== Proof.Run.lean ====
/- The parts of the kernel around the loops: the rounds, the partial product, the sums. -/
module

public import proofs.«01_k».proof.Proof.Rounds
public import proofs.«01_k».proof.Proof.Gen.KernelIdeal.Skeleton

@[expose] public section

noncomputable section

namespace Cert.Proof.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F] [Named F]

local notation "𝕄" => MT nD τ sig Ix (Elt F) ℕ UU ℕ

attribute [local irreducible] accTrip denTrip trip3 heads blocks

variable (c : Dev nD)

variable (B : Bufs) (XK XV : Dev nD → Seq F) (P : Dev nD → Par F) (κ : GSem nD τ sig → ℕ)
variable (X : Dev nD → Vec F S1x1024x1024 .bf16) (WQ WO : Dev nD → Vec F S1024x1024 .bf16)

/-! ## The rounds -/

/-- The waits for the sends of keys, and of values. -/
def kHome (n : ℕ) : sProp 𝕄 := Fam n (fun k => toWait (F := F) (ksC c k) 0 0) (fun k => iprop(waited (ksC c k) 0 ∗ ksPay XK c k))
def vHome (n : ℕ) : sProp 𝕄 := Fam n (fun k => toWait (F := F) (vsC c k) 0 0) (fun k => iprop(waited (vsC c k) 0 ∗ vsPay XV c k))

/-- What is done once the rounds are over. -/
def Rounded : sProp 𝕄 :=
  iprop(((work c X WQ (rounds XK XV X WQ c 8).1 (rounds XK XV X WQ c 8).2 ∗ slots c XK XV c) ∗ Fam 7 (roundWait c) (roundGot c XK XV))
    ∗ ((waited (krC c 7) 0 ∗ waited (vrC c 7) 0) ∗ (khPt c (blockSet c) (XK c) ∗ vhPt c (blockSet c) (XV c))))

theorem part13_run :
    iprop((Inv XK XV P κ) ∗ ((∃ f, lPt (F := F) c f) ∗ ((Ow c (due c 7 7 7 0 0) ∗ toWait (F := F) (krC c 7) 0 0) ∗ (toWait (F := F) (vrC c 7) 0 0 ∗
        ((qsPt c (qsOf (X c) (WQ c)) ∗ acPt c (k0_pay19 (F := F))) ∗ (Fam 0 (roundWait c) (roundGot c XK XV) ∗ (kHome c XK 0 ∗ vHome c XV 0)))))))
      ⊢ Wp c (B.of (k0_part13 (F := F)) c (meW c) (k0_pay20 (F := F))) (fun _ => iprop(HomeSt XK XV c 2 0 ∗ Rounded c XK XV X WQ)) := by
  rw [Bufs.of, k0_part13_eq_skeleton]
  unfold k0_part13_skel
  iintro ⟨#HI, ⟨%f, Hl⟩, HO, Hv, ⟨Hq, Ha⟩, HR⟩
  iapply (st_bind c (m := lM) (Finset.subset_univ _) (Memref.write_access_unit_zero_univ (Elt F) cc0_scratch5 (by decide) _ _ _)) $$ [Hl]
  · iexact Hl
  iintro Hl
  iapply (seqR (I := (Inv XK XV P κ)) (R := iprop(toWait (F := F) (vrC c 7) 0 0 ∗
        ((qsPt c (qsOf (X c) (WQ c)) ∗ acPt c (k0_pay19 (F := F)) ∗ lPt c (k0_pay21 (k0_pay20 (F := F)))) ∗ (Fam 0 (roundWait c) (roundGot c XK XV) ∗ (kHome c XK 0 ∗ vHome c XV 0)))))
      (kr_wait c XK XV P κ (kr_sem 7 _) (kg_credit _ _)) fun _ => before (shuf2 _ _ _ _) ?_)
  rotate_left
  · isplitr; · iexact HI
    isplitl [HO]; · iexact HO
    isplitl [Hv]; · iexact Hv
    isplitr [HR]
    · isplitl [Hq]; · iexact Hq
      isplitl [Ha]; · iexact Ha
      iexact Hl
    iexact HR
  refine seqR (vr_wait c XK XV P κ (vr_sem 7 _) (vg_credit _ _)) fun _ => ?_
  rw [krPay_self, vrPay_self]
  refine before (S := iprop(RoundSt c XK XV X WQ 0 ∗ (((waited (krC c 7) 0 ∗ waited (vrC c 7) 0) ∗ (khPt c (blockSet c) (XK c) ∗ vhPt c (blockSet c) (XV c))) ∗ (kHome c XK 0 ∗ vHome c XV 0)))) ?_ ?_
  · unfold RoundSt work slots
    iintro ⟨⟨HO, Hwv, Hv, Hvh⟩, ⟨Hwk, Hk, Hkh⟩, Hw, HF, HR⟩
    isplitl [HO Hw Hv Hk HF]
    · isplitl [HO Hw Hv Hk]
      · isplitl [HO Hw]
        · isplitl [HO]; · iexact HO
          iexact Hw
        isplitl [Hk] <;> iassumption
      iexact HF
    isplitl [Hwv Hvh Hwk Hkh]
    · isplitl [Hwk Hwv]
      · isplitl [Hwk] <;> iassumption
      isplitl [Hkh] <;> iassumption
    iexact HR
  refine seqR (rounds_run c B XK XV P κ X WQ) fun _ => ?_
  refine before (S := iprop(HomeSt XK XV c 0 0 ∗ Rounded c XK XV X WQ)) ?_ ?_
  · unfold RoundSt HomeSt Rounded kHome vHome
    iintro ⟨⟨⟨⟨HO, Hw⟩, Hs⟩, HF⟩, HR, Hk, Hv⟩
    isplitl [HO Hk Hv]
    · isplitl [HO Hk]
      · isplitl [HO] <;> iassumption
      iexact Hv
    isplitr [HR]
    · isplitl [Hw Hs]
      · isplitl [Hw] <;> iassumption
      iexact HF
    iexact HR
  refine seqR (kw_step XK XV P κ c 0 (ks_sem 0 _) (kh_credit _ _)) fun _ => ?_
  refine seqR (kw_step XK XV P κ c 1 (ks_sem 1 _) (kh_credit _ _)) fun _ => ?_
  exact stop .rfl

/-! ## The partial product -/

theorem o_read (B : Bufs) (t4 : Fin k0_t4_loop.trips) (f : B.a4.view.ty.Contents (Elt F)) {w : Vec F S1024x1024 .bf16} (h : B.a4.view.read (Elt F) f = w) :
    (B.a4.access (woR t4)).read (Elt F) f = fun j => w ((woR t4).emb j) := by
  subst h
  exact read_rect _ _ _

/-- What the partial product is computed from. -/
def prodSt (a : Act F) (l : Den F) : sProp 𝕄 := iprop(acPt c a ∗ (lPt c l ∗ oSt B c (WO c)))

theorem prod_body (t4 : Fin k0_t4_loop.trips) (a : FVec F S1024x1024 .f32) :
    iprop((Inv XK XV P κ) ∗ (⌜a = prods XK XV X WQ WO c t4.val⌝ ∗ prodSt c B WO (rounds XK XV X WQ c k0_t1_loop.trips).1 (rounds XK XV X WQ c k0_t1_loop.trips).2))
      ⊢ Wp c (B.of (k0_t4_body (F := F)) c t4 a)
        (fun v => iprop(⌜v = prods XK XV X WQ WO c (t4.val + 1)⌝ ∗ prodSt c B WO (rounds XK XV X WQ c k0_t1_loop.trips).1 (rounds XK XV X WQ c k0_t1_loop.trips).2)) := by
  refine known fun ha => ?_
  have e : prods XK XV X WQ WO c (t4.val + 1) = prodTrip XK XV X WQ WO c t4 a := by subst ha; exact it_succ _ _ t4
  rw [e]
  unfold Bufs.of k0_t4_body prodSt oSt prodTrip
  iintro ⟨#HI, Ha, Hl, %f, %hf, Ho⟩
  iapply (ld_bind c (m := acM) (Finset.subset_univ _)) $$ [Ha]
  · iexact Ha
  iintro Ha
  iapply (ld_bind c (m := lM) (Finset.subset_univ _)) $$ [Hl]
  · iexact Hl
  iintro Hl
  iapply (ld_bind c (m := B.a4) (Finset.subset_univ _)) $$ [Ho]
  · iexact Ho
  iintro Ho
  rw [o_read B t4 f hf]
  iapply (le_wp_ret frame (wpE (defs₀ (F := F)) 𝒱₀ (c : Thread nD τ) none) Set.univ)
  isplitr; · ipureintro; rfl
  isplitl [Ha]; · iexact Ha
  isplitl [Hl]; · iexact Hl
  iexists f
  isplitr; · ipureintro; exact hf
  iexact Ho

theorem part16_run :
    iprop((Inv XK XV P κ) ∗ (HomeSt XK XV c 7 3 ∗ prodSt c B WO (rounds XK XV X WQ c 8).1 (rounds XK XV X WQ c 8).2))
      ⊢ Wp c (B.of (k0_part16 (F := F)) c)
        (fun v => iprop(⌜v = ⟨prod XK XV X WQ WO c, k0_pay26 (prod XK XV X WQ WO c)⟩⌝ ∗ (HomeSt XK XV c 7 7 ∗ prodSt c B WO (rounds XK XV X WQ c 8).1 (rounds XK XV X WQ c 8).2))) := by
  rw [Bufs.of, k0_part16_eq_skeleton]
  unfold k0_part16_skel
  refine seqR (vw_step XK XV P κ c 3 (vs_sem 3 _) (vh_credit _ _)) fun _ => ?_
  refine seqR (vw_step XK XV P κ c 4 (vs_sem 4 _) (vh_credit _ _)) fun _ => ?_
  refine seqR (vw_step XK XV P κ c 5 (vs_sem 5 _) (vh_credit _ _)) fun _ => ?_
  refine seqR (vw_step XK XV P κ c 6 (vs_sem 6 _) (vh_credit _ _)) fun _ => ?_
  refine before (S := iprop((⌜k0_pay24 (F := F) = prods XK XV X WQ WO c 0⌝ ∗ prodSt c B WO (rounds XK XV X WQ c k0_t1_loop.trips).1 (rounds XK XV X WQ c k0_t1_loop.trips).2) ∗ HomeSt XK XV c 7 7)) ?_ ?_
  · iintro ⟨HH, HP⟩
    isplitl [HP]
    · isplitr; · ipureintro; rfl
      iexact HP
    iexact HH
  refine seqR (loop_run c k0_t4_loop k0_t4_ok (k0_pay24 (F := F)) _ (fun n a => iprop(⌜a = prods XK XV X WQ WO c n⌝ ∗ prodSt c B WO (rounds XK XV X WQ c k0_t1_loop.trips).1 (rounds XK XV X WQ c k0_t1_loop.trips).2))
    fun t4 a => prod_body c B XK XV P κ X WQ WO t4 a) fun v => ?_
  refine stop ?_
  iintro ⟨⟨%hv, HP⟩, HH⟩
  isplitr
  · ipureintro; subst hv; rfl
  isplitl [HH]; · iexact HH
  iexact HP

theorem part17_run (v2 : BitVec 32) (w : FVec F S8x1024x128 .bf16) :
    iprop((Inv XK XV P κ) ∗ ((∃ f, psPt (F := F) c fullShare f) ∗ CrSt c 0))
      ⊢ Wp c (B.of (k0_part17 (F := F)) c v2 w) (fun _ => iprop(CrSt c 5 ∗ psPt c fullShare (k0_pay27 w))) := by
  rw [Bufs.of, k0_part17_eq_skeleton]
  unfold k0_part17_skel
  iintro ⟨#HI, ⟨%f, Hp⟩, HC⟩
  iapply (ld_bind c (m := psM) (Finset.subset_univ _)) $$ [Hp]
  · iexact Hp
  iintro Hp
  iapply (st_bind c (m := psM) (Finset.subset_univ _) (Memref.write_access_unit_zero_univ (Elt F) cc0_scratch3 (by decide) _ _ _)) $$ [Hp]
  · iexact Hp
  iintro Hp
  iapply (seqR (I := (Inv XK XV P κ)) (R := psPt c fullShare (k0_pay27 w)) (cr_step XK XV P κ c 0 (Fin.ext (k0_dev22_eq c))) fun _ => ?_)
  · refine seqR (cr_step XK XV P κ c 1 (Fin.ext (k0_dev23_eq c))) fun _ => ?_
    refine seqR (cr_step XK XV P κ c 2 (Fin.ext (k0_dev24_eq c))) fun _ => ?_
    refine seqR (cr_step XK XV P κ c 3 (Fin.ext (k0_dev25_eq c))) fun _ => ?_
    refine seqR (cr_step XK XV P κ c 4 (Fin.ext (k0_dev26_eq c))) fun _ => ?_
    exact stop .rfl
  isplitr; · iexact HI
  isplitl [HC]; · iexact HC
  iexact Hp

/-! ## The sums -/

theorem slab_read_sub (t5 : Fin k0_t5_loop.trips) {j : Fin 8} (hj : j.val = t5.val) :
    (vgM.access (Rect.unit (s := S8x8x1024x128) (k0_off12 t5) S1x8x1024x128.size (k0_off12_inb t5))).set ⊆ slabSet j := by
  refine (View.set_slice_whole _ _).trans_subset fun i hi => ?_
  rw [Rect.mem_set_unit] at hi
  have h0 := hi 0
  have e : k0_off12 t5 0 = t5.val := by rw [k0_off12_eq]; rfl
  rw [e] at h0
  have h0' : (i 0).val < t5.val + 1 := h0.2
  rw [mem_slabSet]
  omega

/-- The slabs received. -/
def slabs : sProp 𝕄 := bigSep Finset.univ (fun k : Fin 7 => prPay P c k.castSucc)

theorem prPay_slab (k : Fin 7) : prPay P c k.castSucc = vgPt c (slabSet k.castSucc) (slabOf (P (peer c k.rev))) := by
  unfold prPay; exact dif_pos k.isLt

theorem slabs_at (k : Fin 7) : slabs c P
    = iprop(vgPt c (slabSet k.castSucc) (slabOf (P (peer c k.rev))) ∗ bigSep (Finset.univ.erase k) (fun k : Fin 7 => prPay P c k.castSucc)) := by
  rw [← prPay_slab]
  exact BI.bigSep_erase (Finset.mem_univ k)

theorem sum_body (t5 : Fin k0_t5_loop.trips) (a : FVec F S8x1024x128 .f32) (v : FVec F S1024x1024 .f32) :
    iprop((Inv XK XV P κ) ∗ (⌜a = sums XK XV X WQ WO c t5.val⌝ ∗ slabs c (par XK XV X WQ WO))) ⊢ Wp c (B.of (k0_t5_body (F := F)) v t5 a)
        (fun v => iprop(⌜v = sums XK XV X WQ WO c (t5.val + 1)⌝ ∗ slabs c (par XK XV X WQ WO))) := by
  refine known fun ha => ?_
  have e : sums XK XV X WQ WO c (t5.val + 1) = k0_pay29 a (slabAt XK XV X WQ WO c t5) := by subst ha; exact it_succ _ _ t5
  rw [e]
  rw [slabs_at c (par XK XV X WQ WO) (t5.cast (by decide : k0_t5_loop.trips = 7))]
  unfold Bufs.of k0_t5_body
  iintro ⟨#HI, Hs, HR⟩
  iapply (ld_bind c (m := vgM) (r := Rect.unit (s := S8x8x1024x128) (k0_off12 t5) S1x8x1024x128.size (k0_off12_inb t5)) (S := slabSet (t5.cast (by decide : k0_t5_loop.trips = 7)).castSucc) (slab_read_sub t5 rfl)) $$ [Hs]
  · iexact Hs
  iintro Hs
  iapply (le_wp_ret frame (wpE (defs₀ (F := F)) 𝒱₀ (c : Thread nD τ) none) Set.univ)
  isplitr; · ipureintro; rfl
  isplitl [Hs] <;> iassumption

/-- What is left once all sends have ended: the payloads of the sums are kept apart. -/
def EndSt : sProp 𝕄 :=
  iprop((Ow c (due c 7 7 7 7 7) ∗ bigSep Finset.univ (fun k : Fin 7 => waited (F := F) (vrC c k.castSucc) 1))
    ∗ bigSep Finset.univ (fun k : Fin 7 => iprop(waited (F := F) (vsC c k) 1 ∗ psPay P c k)))

theorem sum_end : SumSt P c 7 7 ⊢ iprop(slabs c P ∗ EndSt c P) := by
  unfold SumSt EndSt slabs
  rw [Fam_end, Fam_end, sep_all]
  iintro ⟨⟨HO, Hw, Hp⟩, Hs⟩
  isplitl [Hp]; · iexact Hp
  isplitr [Hs]
  · isplitl [HO] <;> iassumption
  iexact Hs

theorem part23_run :
    iprop(Inv XK XV (par XK XV X WQ WO) κ ∗ SumSt (par XK XV X WQ WO) c 7 2) ⊢ Wp c (B.of (k0_part23 (F := F)) (prod XK XV X WQ WO c))
      (fun v => iprop(⌜v = sums XK XV X WQ WO c k0_t5_loop.trips⌝ ∗ (EndSt c (par XK XV X WQ WO) ∗ slabs c (par XK XV X WQ WO)))) := by
  rw [Bufs.of, k0_part23_eq_skeleton]
  unfold k0_part23_skel
  refine seq (pw_step XK XV (par XK XV X WQ WO) κ c 2 (vs_sem 2 _) (by unfold N; rfl)) fun _ => ?_
  refine seq (pw_step XK XV (par XK XV X WQ WO) κ c 3 (vs_sem 3 _) (by unfold N; rfl)) fun _ => ?_
  refine seq (pw_step XK XV (par XK XV X WQ WO) κ c 4 (vs_sem 4 _) (by unfold N; rfl)) fun _ => ?_
  refine seq (pw_step XK XV (par XK XV X WQ WO) κ c 5 (vs_sem 5 _) (by unfold N; rfl)) fun _ => ?_
  refine seq (pw_step XK XV (par XK XV X WQ WO) κ c 6 (vs_sem 6 _) (by unfold N; rfl)) fun _ => ?_
  refine before (S := iprop((⌜k0_pay28 (prod XK XV X WQ WO c) = sums XK XV X WQ WO c 0⌝ ∗ slabs c (par XK XV X WQ WO)) ∗ EndSt c (par XK XV X WQ WO))) ?_ ?_
  · refine BIBase.Entails.trans (sum_end c (par XK XV X WQ WO)) ?_
    iintro ⟨HP, HH⟩
    isplitl [HP]
    · isplitr; · ipureintro; rfl
      iexact HP
    iexact HH
  refine after (aside (loop_run c k0_t5_loop k0_t5_ok (k0_pay28 (prod XK XV X WQ WO c)) (B.of (k0_t5_body (F := F)) (prod XK XV X WQ WO c))
    (fun n a => iprop(⌜a = sums XK XV X WQ WO c n⌝ ∗ slabs c (par XK XV X WQ WO))) fun t5 a => sum_body c B XK XV (par XK XV X WQ WO) κ X WQ WO t5 a _)) fun v => ?_
  iintro ⟨⟨%hv, HP⟩, HH⟩
  isplitr
  · ipureintro; exact hv
  isplitl [HH]; · iexact HH
  iexact HP

end Cert.Proof.Attn
end
-- ==== Proof.Hold.lean ====
/- How a device's holdings are regrouped between the parts: seven per peer and one of its own make a whole buffer, the
   payloads of a wait part from its tokens, and what the next part needs is handed to it. -/
module

public import proofs.«01_k».proof.Proof.Run
public import proofs.«01_k».proof.Proof.Gen.KernelIdeal.Skeleton

@[expose] public section

noncomputable section

namespace Cert.Proof.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F] [Named F]

local notation "𝕄" => MT nD τ sig Ix (Elt F) ℕ UU ℕ

attribute [local irreducible] accTrip denTrip trip3 heads blocks

instance sep_assoc' : Std.Associative (BIBase.sep : sProp 𝕄 → sProp 𝕄 → sProp 𝕄) := ⟨fun A D E => by
  have h : iprop((A ∗ D) ∗ E) ⊣⊢ iprop(A ∗ (D ∗ E)) := Laws.sep_assoc
  exact equiv_iff.mp ⟨h.1, h.2⟩⟩
instance sep_comm' : Std.Commutative (BIBase.sep : sProp 𝕄 → sProp 𝕄 → sProp 𝕄) := ⟨fun A D => by
  have h : iprop(A ∗ D) ⊣⊢ iprop(D ∗ A) := Laws.sep_comm
  exact equiv_iff.mp ⟨h.1, h.2⟩⟩

variable (c : Dev nD)

/-! ## A device and its peers -/

/-- Eight of something are the own one and the peers'. -/
theorem eight {a : Fin 8} (e : Fin 7 → Fin 8) (hi : Function.Injective e) (hn : ∀ k, e k ≠ a) (Φ : Fin 8 → sProp 𝕄) :
    bigSep Finset.univ Φ = iprop(Φ a ∗ bigSep Finset.univ fun k => Φ (e k)) := by
  have hu : (Finset.univ : Finset (Fin 8)) = insert a (Finset.univ.map ⟨e, hi⟩) := by
    symm
    apply Finset.eq_univ_of_card
    rw [Finset.card_insert_of_notMem (by simpa using hn), Finset.card_map]
    rfl
  rw [hu, BI.bigSep_insert (by simpa using hn), BI.bigSep_map]
  rfl

theorem peers (Φ : Fin 8 → sProp 𝕄) : bigSep Finset.univ Φ = iprop(Φ c ∗ bigSep Finset.univ fun k => Φ (peer c k)) :=
  eight (peer c) (fun _ _ => peer_inj c _ _) (peer_ne c) Φ

theorem rev_all (Φ : Fin 7 → sProp 𝕄) : bigSep Finset.univ (fun k : Fin 7 => Φ k.rev) = bigSep Finset.univ Φ :=
  (BI.bigSep_univ_equiv Fin.revPerm Φ).symm

theorem peers_rev (Φ : Fin 8 → sProp 𝕄) : bigSep Finset.univ Φ = iprop(Φ c ∗ bigSep Finset.univ fun k : Fin 7 => Φ (peer c k.rev)) := by
  rw [peers c, ← rev_all fun k => Φ (peer c k)]

theorem slab_eight (Φ : Fin 8 → sProp 𝕄) : bigSep Finset.univ Φ = iprop(Φ 7 ∗ bigSep Finset.univ fun k : Fin 7 => Φ k.castSucc) :=
  eight Fin.castSucc (Fin.castSucc_injective 7) (fun k => (Fin.castSucc_lt_last k).ne) Φ

/-! ## Whole buffers -/

section Whole

variable {ℓ : Loc nD τ sig} {q : PosShare TreeShare}

theorem parts {K : Fin 8 → Finset (Idx ℓ)} (hd : ∀ {j j'}, j ≠ j' → Disjoint (K j) (K j')) (hc : Finset.univ.biUnion K = Finset.univ) (f : Buf (Elt F) ℓ) :
    (ℓ ↦[Finset.univ]{q} f : sProp 𝕄) = bigSep Finset.univ fun j => ℓ ↦[K j]{q} f := by
  rw [← pointsTo_biUnion Finset.univ K fun _ _ _ _ h => hd h, hc]

/-- Parts of unknown contents make a whole of unknown contents. -/
theorem rejoin {K : Fin 8 → Finset (Idx ℓ)} (hd : ∀ {j j'}, j ≠ j' → Disjoint (K j) (K j')) (hc : Finset.univ.biUnion K = Finset.univ) (fs : Fin 8 → Buf (Elt F) ℓ) :
    (bigSep Finset.univ fun j => ℓ ↦[K j]{q} fs j : sProp 𝕄) ⊢ iprop(∃ f, ℓ ↦[Finset.univ]{q} f) := by
  refine BIBase.Entails.trans (pointsTo_biUnion_join Finset.univ K fs (fs 0) fun _ _ _ _ h => hd h) ?_
  rw [hc]
  iintro ⟨%g, -, H⟩
  iexists g; iexact H

end Whole

theorem some_each {α : Type} (Φ : Fin 7 → α → sProp 𝕄) (f : α) : bigSep Finset.univ (fun k => Φ k f) ⊢ bigSep Finset.univ (fun k => iprop(∃ f, Φ k f)) :=
  BI.bigSep_mono fun k _ => by
    change (_ : sProp 𝕄) ⊢ (_ : sProp 𝕄)
    iintro H; iexists f; iexact H

theorem kg_whole (f : Gat F) : kgPt c Finset.univ f = iprop(kgPt c (slotSet c) f ∗ bigSep Finset.univ fun k : Fin 7 => kgPt c (slotSet (peer c k.rev)) f) := by
  exact (parts (ℓ := kgM.view.loc (c : Thread nD τ)) slot_disjoint slot_cover f).trans (peers_rev c fun j => kgPt c (slotSet j) f)
theorem vg_whole (f : Gat F) : vgPt c Finset.univ f = iprop(vgPt c (slotSet c) f ∗ bigSep Finset.univ fun k : Fin 7 => vgPt c (slotSet (peer c k.rev)) f) := by
  exact (parts (ℓ := vgM.view.loc (c : Thread nD τ)) slot_disjoint slot_cover f).trans (peers_rev c fun j => vgPt c (slotSet j) f)
theorem vg_slabs (f : Gat F) : vgPt c Finset.univ f = iprop(vgPt c (slabSet 7) f ∗ bigSep Finset.univ fun k : Fin 7 => vgPt c (slabSet k.castSucc) f) := by
  exact (parts (ℓ := vgM.view.loc (c : Thread nD τ)) slab_disjoint slab_cover f).trans (slab_eight fun j => vgPt c (slabSet j) f)
theorem kh_whole (f : Seq F) : khPt c Finset.univ f = iprop(khPt c (blockSet c) f ∗ bigSep Finset.univ fun k : Fin 7 => khPt c (blockSet (peer c k)) f) := by
  exact (parts (ℓ := khM.view.loc (c : Thread nD τ)) block_disjoint block_cover f).trans (peers c fun j => khPt c (blockSet j) f)
theorem vh_whole (f : Seq F) : vhPt c Finset.univ f = iprop(vhPt c (blockSet c) f ∗ bigSep Finset.univ fun k : Fin 7 => vhPt c (blockSet (peer c k)) f) := by
  exact (parts (ℓ := vhM.view.loc (c : Thread nD τ)) block_disjoint block_cover f).trans (peers c fun j => vhPt c (blockSet j) f)

variable (B : Bufs) (XK XV : Dev nD → Seq F) (P : Dev nD → Par F) (κ : GSem nD τ sig → ℕ)
variable (X : Dev nD → Vec F S1x1024x1024 .bf16) (WQ WO : Dev nD → Vec F S1024x1024 .bf16)

/-- The slabs received and the one nobody writes make the values' buffer again. -/
theorem slabs_join : iprop(slabs c P ∗ (∃ f, vgPt (F := F) c (slabSet 7) f)) ⊢ iprop(∃ f, vgPt (F := F) c Finset.univ f) := by
  iintro ⟨Hs, %f, H⟩
  iapply (rejoin (ℓ := vgM.view.loc (c : Thread nD τ)) (q := fullShare) slab_disjoint slab_cover
    (fun j : Fin 8 => if h : j.val < 7 then slabOf (P (peer c (⟨j.val, h⟩ : Fin 7).rev)) else f))
  rw [slab_eight]
  isplitl [H]
  · iexact H
  unfold slabs
  have e : ∀ k : Fin 7, prPay P c k.castSucc = vgPt c (slabSet k.castSucc) (if h : k.castSucc.val < 7 then slabOf (P (peer c (⟨k.castSucc.val, h⟩ : Fin 7).rev)) else f) := by
    intro k
    rw [prPay_slab, dif_pos (show k.castSucc.val < 7 from k.isLt)]
    rfl
  rw [funext e]
  iexact Hs

/-! ## Tokens -/

/-- Cells' places, family by family. -/
def atKs (n : ℕ) : sProp 𝕄 := bigSep Finset.univ fun k : Fin 7 => atPos ER (ksC c k) n ∅ 0
def atVs (n : ℕ) : sProp 𝕄 := bigSep Finset.univ fun k : Fin 7 => atPos ER (vsC c k) n ∅ 0
def atKr (n : ℕ) : sProp 𝕄 := bigSep Finset.univ fun k : Fin 7 => atPos ER (krC c k.castSucc) n ∅ 0
def atVr (n : ℕ) : sProp 𝕄 := bigSep Finset.univ fun k : Fin 7 => atPos ER (vrC c k.castSucc) n ∅ 0
def inVs : sProp 𝕄 := bigSep Finset.univ fun k : Fin 7 => reached ER (vsC c k) 1
def inVr : sProp 𝕄 := bigSep Finset.univ fun k : Fin 7 => reached ER (vrC c k.castSucc) 1
/-- The credits of the receipts. -/
def crKr : sProp 𝕄 := bigSep Finset.univ fun k : Fin 7 => cred (tallyAt (krC c k.castSucc) 0 N)
def crVr : sProp 𝕄 := bigSep Finset.univ fun k : Fin 7 => cred (tallyAt (vrC c k.castSucc) 0 N)
def crPr : sProp 𝕄 := bigSep Finset.univ fun k : Fin 7 => cred (tallyAt (vrC c k.castSucc) 1 N)
/-- The duties of the exchange of partial products. -/
def tokCred : sProp 𝕄 := bigSep Finset.univ fun k : Fin 7 => dutyTok ER (credC (peer c k)) 0 k
def tokPs : sProp 𝕄 := bigSep Finset.univ fun k : Fin 7 => dutyTok ER (vsC c k) 1 0
def tokPr : sProp 𝕄 := bigSep Finset.univ fun k : Fin 7 => dutyTok ER (vrC (peer c k) k.castSucc) 1 0

/-! ## From part to part -/

/-- All sends of the first exchange enqueued: their ends are to be waited for. -/
theorem send_home : iprop(SendSt XK XV c 7 7 ∗ (atKs (F := F) c 0 ∗ atVs (F := F) c 0)) ⊢ iprop(Ow c (due c 7 7 7 0 0) ∗ (kHome c XK 0 ∗ vHome c XV 0)) := by
  unfold SendSt kHome vHome atKs atVs
  rw [Fam_end, Fam_end, ← Fam_start, ← Fam_start]
  have e : (fun k : Fin 7 => toWait (F := F) (ksC c k) 0 0) = fun k => iprop(ksTok (F := F) c k ∗ atPos ER (ksC c k) 0 ∅ 0) := rfl
  have e' : (fun k : Fin 7 => toWait (F := F) (vsC c k) 0 0) = fun k => iprop(vsTok (F := F) c k ∗ atPos ER (vsC c k) 0 ∅ 0) := rfl
  rw [e, e', sep_all, sep_all]
  exact Entails.of_eq (by ac_rfl)

theorem round_start : iprop(crKr (F := F) c ∗ crVr (F := F) c ∗ atKr (F := F) c 0 ∗ atVr (F := F) c 0) ⊢ Fam 0 (roundWait c) (roundGot c XK XV) := by
  unfold crKr crVr atKr atVr
  rw [← Fam_start]
  have e : roundWait (F := F) c = fun k : Fin 7 => iprop(iprop(cred (tallyAt (krC c k.castSucc) 0 N) ∗ atPos ER (krC c k.castSucc) 0 ∅ 0) ∗ iprop(cred (tallyAt (vrC c k.castSucc) 0 N) ∗ atPos ER (vrC c k.castSucc) 0 ∅ 0)) := rfl
  rw [e, sep_all, sep_all, sep_all]
  exact Entails.of_eq (by ac_rfl)

/-- The rounds over: all keys and values are here, and the cells have moved on. -/
theorem round_end : iprop(slots c XK XV c ∗ Fam 7 (roundWait c) (roundGot c XK XV))
    ⊢ iprop(kgPt c Finset.univ (gathered XK c) ∗ vgPt c Finset.univ (gathered XV c) ∗ (atKr (F := F) c 1 ∗ atVr (F := F) c 1 ∗ inVr (F := F) c)) := by
  unfold atKr atVr inVr
  rw [Fam_end, kg_whole, vg_whole]
  have e : roundGot c XK XV = fun k : Fin 7 => iprop(iprop(iprop(atPos ER (krC c k.castSucc) 1 ∅ 0 ∗ reached ER (krC c k.castSucc) 1)
    ∗ iprop(atPos ER (vrC c k.castSucc) 1 ∅ 0 ∗ reached ER (vrC c k.castSucc) 1)) ∗ iprop(kgPt c (slotSet (peer c k.rev)) (gathered XK c) ∗ vgPt c (slotSet (peer c k.rev)) (gathered XV c))) := rfl
  rw [e, sep_all, sep_all, sep_all, sep_all, sep_all]
  unfold slots
  iintro ⟨⟨H1, H2⟩, ⟨⟨H3, -⟩, H4, H5⟩, H6, H7⟩
  isplitl [H1 H6]
  · isplitl [H1] <;> iassumption
  isplitl [H2 H7]
  · isplitl [H2] <;> iassumption
  isplitl [H3]; · iexact H3
  isplitl [H4] <;> iassumption

/-- The first exchange's sends have ended: the operands are whole again. -/
theorem home_end : iprop(HomeSt XK XV c 7 7 ∗ (khPt c (blockSet c) (XK c) ∗ vhPt c (blockSet c) (XV c)))
    ⊢ iprop(Ow c (due c 7 7 7 0 0) ∗ (khPt c Finset.univ (XK c) ∗ vhPt c Finset.univ (XV c)) ∗ (atKs (F := F) c 1 ∗ atVs (F := F) c 1 ∗ inVs (F := F) c)) := by
  unfold HomeSt atKs atVs inVs
  rw [Fam_end, Fam_end, kh_whole, vh_whole]
  have e : (fun k : Fin 7 => iprop(waited (F := F) (ksC c k) 0 ∗ ksPay XK c k)) = fun k => iprop(iprop(atPos ER (ksC c k) 1 ∅ 0 ∗ reached ER (ksC c k) 1) ∗ khPt c (blockSet (peer c k)) (XK c)) := rfl
  have e' : (fun k : Fin 7 => iprop(waited (F := F) (vsC c k) 0 ∗ vsPay XV c k)) = fun k => iprop(iprop(atPos ER (vsC c k) 1 ∅ 0 ∗ reached ER (vsC c k) 1) ∗ vhPt c (blockSet (peer c k)) (XV c)) := rfl
  rw [e, e', sep_all, sep_all, sep_all, sep_all]
  iintro ⟨⟨⟨HO, ⟨H1, -⟩, H2⟩, ⟨H3, H4⟩, H5⟩, H6, H7⟩
  isplitl [HO]; · iexact HO
  isplitl [H2 H5 H6 H7]
  · isplitl [H2 H6]
    · isplitl [H6] <;> iassumption
    isplitl [H7] <;> iassumption
  isplitl [H1]; · iexact H1
  isplitl [H3] <;> iassumption

/-- The values' buffer is handed out slab by slab with the credits. -/
theorem cred_start : iprop(Ow c (due c 7 7 7 0 0) ∗ (vgPt c Finset.univ (gathered XV c) ∗ inVr (F := F) c ∗ tokCred (F := F) c ∗ toldCred (F := F) c))
    ⊢ iprop(CrSt c 0 ∗ (∃ f, vgPt (F := F) c (slabSet 7) f)) := by
  unfold CrSt inVr tokCred toldCred
  rw [vg_slabs, ← Fam_start]
  have e : credItem (F := F) c = fun k : Fin 7 => iprop(dutyTok ER (credC (peer c k)) 0 k ∗ iprop(reached ER (credC (peer c k)) 0 ∗
    iprop(iprop(∃ f, vgPt (F := F) c (slabSet k.rev.castSucc) f) ∗ reached ER (vrC c k.rev.castSucc) 1))) := rfl
  have r₁ : bigSep Finset.univ (fun k : Fin 7 => iprop(∃ f, vgPt (F := F) c (slabSet k.rev.castSucc) f)) = _ := rev_all (fun k => iprop(∃ f, vgPt (F := F) c (slabSet k.castSucc) f))
  have r₂ : bigSep Finset.univ (fun k : Fin 7 => reached ER (vrC c k.rev.castSucc) 1) = (_ : sProp 𝕄) := rev_all (fun k => reached ER (vrC c k.castSucc) 1)
  rw [e, sep_all, sep_all, sep_all, r₁, r₂]
  iintro ⟨HO, ⟨H7, Hs⟩, Hr, Ht, Hd⟩
  isplitr [H7]
  · isplitl [HO]; · iexact HO
    isplitl [Ht]; · iexact Ht
    isplitl [Hd]; · iexact Hd
    isplitl [Hs]
    · iapply (some_each (fun k f => vgPt (F := F) c (slabSet k.castSucc) f) (gathered XV c)) $$ Hs
    iexact Hr
  iexists (gathered XV c); iexact H7

theorem ps_start : iprop(psPt c fullShare (P c) ∗ inVs (F := F) c ∗ tokPs (F := F) c ∗ tokPr (F := F) c)
    ⊢ iprop(bigSep Finset.univ (pOwn P c) ∗ psPt c (shareDrop fullShare 7) (P c)) := by
  unfold inVs tokPs tokPr
  have e : pOwn P c = fun k : Fin 7 => iprop(psPt c (shareTok fullShare 7 k) (P c) ∗ iprop(dutyTok ER (vsC c k) 1 0 ∗ iprop(reached ER (vsC c k) 1 ∗ dutyTok ER (vrC (peer c k) k.castSucc) 1 0))) := rfl
  rw [e, sep_all, sep_all, sep_all]
  iintro ⟨H, H1, H2, H3⟩
  ihave H := (Transfers.pointsTo_toks_split fullShare 7) $$ H
  icases H with ⟨H4, H5⟩
  isplitr [H4]
  · isplitl [H5]; · iexact H5
    isplitl [H2]; · iexact H2
    isplitl [H1] <;> iassumption
  iexact H4

theorem pr_start : iprop(crPr (F := F) c ∗ atVr (F := F) c 1) = bigSep Finset.univ (fun k : Fin 7 => toWait (F := F) (vrC c k.castSucc) 1 1) := by
  unfold crPr atVr
  rw [← sep_all]; rfl

/-- The second exchange is over. -/
theorem all_end : iprop(EndSt c P ∗ psPt c (shareDrop fullShare 7) (P c))
    ⊢ iprop(Ow c 0 ∗ psPt c fullShare (P c) ∗ (atVr (F := F) c 2 ∗ atVs (F := F) c 2)) := by
  unfold EndSt atVr atVs
  have e : (fun k : Fin 7 => waited (F := F) (vrC c k.castSucc) 1) = fun k => iprop(atPos ER (vrC c k.castSucc) 2 ∅ 0 ∗ reached ER (vrC c k.castSucc) 2) := rfl
  have e' : (fun k : Fin 7 => iprop(waited (F := F) (vsC c k) 1 ∗ psPay P c k)) = fun k => iprop(iprop(atPos ER (vsC c k) 2 ∅ 0 ∗ reached ER (vsC c k) 2) ∗ psPt c (shareTok fullShare 7 k) (P c)) := rfl
  rw [e, e', sep_all, sep_all, sep_all, due_end]
  iintro ⟨⟨⟨HO, H1, -⟩, ⟨H2, -⟩, H3⟩, H4⟩
  isplitl [HO]; · iexact HO
  isplitl [H3 H4]
  · iapply (Transfers.pointsTo_toks_join fullShare 7)
    isplitl [H4] <;> iassumption
  isplitl [H1] <;> iassumption

end Cert.Proof.Attn
end
-- ==== Proof.Body.lean ====
/- The kernel's body at a symbolic device: its parts in order, from what the launch hands a device to what the device
   leaves behind. -/
module

public import proofs.«01_k».proof.Proof.Hold
public import proofs.«01_k».proof.Proof.Gen.KernelIdeal.Skeleton

@[expose] public section

noncomputable section

namespace Cert.Proof.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F] [Named F]

local notation "𝕄" => MT nD τ sig Ix (Elt F) ℕ UU ℕ

attribute [local irreducible] accTrip denTrip trip3 heads blocks

/-- A piece run on a part of what is held. -/
theorem use {α β : Type} {c : Dev nD} {I A T : sProp 𝕄} [BI.Persistent I] (R : sProp 𝕄) {p : Prog (TpuEff nD τ sig (Elt F) Λ₀ .tc) α} {k : α → Prog (TpuEff nD τ sig (Elt F) Λ₀ .tc) β}
    {D : α → sProp 𝕄} {Q : β → sProp 𝕄} (h : iprop(I ∗ A) ⊢ Wp c p D) (e : T = iprop(A ∗ R)) (h' : ∀ v, iprop(I ∗ (D v ∗ R)) ⊢ Wp c (k v) Q) :
    iprop(I ∗ T) ⊢ Wp c (p >>= k) Q := by
  rw [e]; exact seqR h h'

/-- A regrouping of a part of what is held. -/
theorem regroup {c : Dev nD} {α : Type} {I A D T : sProp 𝕄} [BI.Persistent I] (R : sProp 𝕄) {p : Prog (TpuEff nD τ sig (Elt F) Λ₀ .tc) α} {Q : α → sProp 𝕄}
    (h : A ⊢ D) (e : T = iprop(A ∗ R)) (h' : iprop(I ∗ (D ∗ R)) ⊢ Wp c p Q) : iprop(I ∗ T) ⊢ Wp c p Q := by
  rw [e]
  refine before (S := iprop(D ∗ R)) ?_ h'
  iintro ⟨H, HR⟩
  isplitl [H]
  · iapply h $$ H
  iexact HR

theorem knownR {A G I R : sProp 𝕄} [BI.Persistent I] {φ : Prop} (h : φ → iprop(I ∗ (A ∗ R)) ⊢ G) : iprop(I ∗ (iprop(⌜φ⌝ ∗ A) ∗ R)) ⊢ G := by
  iintro ⟨#HI, ⟨%hφ, HA⟩, HR⟩
  iapply (h hφ)
  isplitr; · iexact HI
  isplitl [HA] <;> iassumption

variable (c : Dev nD) (B : Bufs) (XK XV : Dev nD → Seq F) (κ : GSem nD τ sig → ℕ)
variable (X : Dev nD → Vec F S1x1024x1024 .bf16) (WQ WO : Dev nD → Vec F S1024x1024 .bf16)

/-- What the rounds will need. -/
def Mid : sProp 𝕄 :=
  iprop((crKr (F := F) c ∗ crVr (F := F) c ∗ atKr (F := F) c 0 ∗ atVr (F := F) c 0) ∗ (atPos ER (krC c 7) 0 ∅ 0 ∗ atPos ER (vrC c 7) 0 ∅ 0) ∗ (atKs (F := F) c 0 ∗ atVs (F := F) c 0))
/-- What the exchange of partial products will need, -/
def Late : sProp 𝕄 := iprop(credSt (F := F) c ∗ tokCred (F := F) c ∗ tokPs (F := F) c ∗ tokPr (F := F) c ∗ crPr (F := F) c)
/-- and the buffers for it. -/
def Room : sProp 𝕄 := iprop((∃ f, psPt (F := F) c fullShare f) ∗ oSt B c (WO c) ∗ (∃ f, B.a5.view.loc (c : Thread nD τ) ↦[Finset.univ]{fullShare} f))

/-- What a device starts the body with. -/
def Start (f : Par F) : sProp 𝕄 :=
  iprop(SigSt (F := F) c 0 ∗ (barSt (F := F) c ∗ (bigSep Finset.univ (kOwn XK c) ∗ bigSep Finset.univ (vOwn XV c))) ∗ kLoc XK c ∗ vLoc XV c
    ∗ QSt B c (X c) (WQ c) f 0 ∗ ZSt (F := F) c ∗ Mid (F := F) c ∗ Late (F := F) c ∗ Room c B WO)

/-- The places of a device's cells once the body is over. -/
def Places : sProp 𝕄 :=
  iprop(atPos ER (barC c) 1 ∅ 0 ∗ atPos ER (credC c) 1 ∅ 0 ∗ atKs (F := F) c 1 ∗ atVs (F := F) c 2 ∗ atKr (F := F) c 1 ∗ atVr (F := F) c 2
    ∗ atPos ER (krC c 7) 1 ∅ 0 ∗ atPos ER (vrC c 7) 1 ∅ 0)

/-- The output's staging buffer holds `v`. -/
def outSt (v : Vec F S1x1024x1024 .f32) : sProp 𝕄 :=
  iprop(∃ f, ⌜B.a5.view.read (Elt F) f = v⌝ ∗ (B.a5.view.loc (c : Thread nD τ) ↦[Finset.univ]{fullShare} f))

/-- The scratch buffers, their contents of no more use. -/
def Spent : sProp 𝕄 :=
  iprop((∃ f, kgPt (F := F) c Finset.univ f) ∗ (∃ f, vgPt (F := F) c Finset.univ f) ∗ (∃ f, qsPt (F := F) c f) ∗ (∃ f, psPt (F := F) c fullShare f) ∗ (∃ f, acPt (F := F) c f) ∗ (∃ f, lPt (F := F) c f))

/-- What a device is left with. -/
def Done : sProp 𝕄 :=
  iprop(Ow (F := F) c 0 ∗ (xSt B c (X c) ∗ wSt B c (WQ c) ∗ oSt B c (WO c) ∗ outSt c B (outOf XK XV X WQ WO c)) ∗ Spent (F := F) c
    ∗ (khPt c Finset.univ (XK c) ∗ vhPt c Finset.univ (XV c)) ∗ Places (F := F) c)

/-- What the products leave. -/
def Mat : sProp 𝕄 := iprop((xSt B c (X c) ∗ wSt B c (WQ c)) ∗ qsPt c (qsOf (X c) (WQ c)))

/-- Storing the output. -/
theorem out_store (inb hl hx hm) (v : FVec F S1x1024x1024 .f32) {T : sProp 𝕄} {Q : PUnit → sProp 𝕄}
    (hQ : iprop(outSt c B v ∗ T) ⊢ Q ⟨⟩) :
    iprop((Inv XK XV (par XK XV X WQ WO) κ) ∗ ((∃ f, B.a5.view.loc (c : Thread nD τ) ↦[Finset.univ]{fullShare} f) ∗ T))
      ⊢ Wp c (Prog.lift (.load B.a5 (Rect.unit (s := S1x1024x1024) ![0, 0, 0] S1x1024x1024.size inb).toLoadRect hl) >>= fun _ =>
          Prog.lift (.store B.a5 (Rect.unit (s := S1x1024x1024) ![0, 0, 0] S1x1024x1024.size inb) v Finset.univ hx hm) >>= fun _ => pure ⟨⟩) Q := by
  iintro ⟨#HI, ⟨%f, H⟩, HT⟩
  iapply (ld_bind c (m := B.a5) (Finset.subset_univ _)) $$ [H]
  · iexact H
  iintro H
  iapply (st_bind c (m := B.a5) (Finset.subset_univ _) rfl) $$ [H]
  · iexact H
  iintro H
  iapply (le_wp_ret frame (wpE (defs₀ (F := F)) 𝒱₀ (c : Thread nD τ) none) Set.univ)
  iapply hQ
  isplitl [H]
  · unfold outSt
    iexists _
    isplitr
    rotate_left; · iexact H
    ipureintro
    have h := View.read_write_univ (v := B.a5.access (Rect.unit (s := S1x1024x1024) ![0, 0, 0] S1x1024x1024.size inb)) f v
    rw [read_rect] at h
    refine Eq.trans ?_ h
    funext j
    congr 1
    funext a
    apply Fin.ext
    show (j a).val = (![0, 0, 0] : Fin 3 → ℕ) a + 1 * (j a).val
    have : (![0, 0, 0] : Fin 3 → ℕ) a = 0 := by revert a; decide
    rw [this]; omega
  iexact HT

theorem q_done (f : Par F) : QSt B c (X c) (WQ c) f 8 = Mat c B X WQ := by
  unfold QSt Mat
  rw [qsUpto_end]
  ac_rfl

/-- What is set aside from the first exchange on. -/
def Rest : sProp 𝕄 :=
  iprop(((xSt B c (X c) ∗ wSt B c (WQ c)) ∗ oSt B c (WO c)) ∗ ((∃ f, kgPt (F := F) c Finset.univ f) ∗ (∃ f, qsPt (F := F) c f) ∗ (∃ f, acPt (F := F) c f) ∗ (∃ f, lPt (F := F) c f))
    ∗ (khPt c Finset.univ (XK c) ∗ vhPt c Finset.univ (XV c)) ∗ atPos ER (barC c) 1 ∅ 0 ∗ atKs (F := F) c 1 ∗ atKr (F := F) c 1 ∗ atPos ER (krC c 7) 1 ∅ 0 ∗ atPos ER (vrC c 7) 1 ∅ 0)

/-- What the second exchange starts with. -/
def Half : sProp 𝕄 :=
  iprop(((∃ f, psPt (F := F) c fullShare f) ∗ CrSt (F := F) c 0) ∗ (inVs (F := F) c ∗ tokPs (F := F) c ∗ tokPr (F := F) c) ∗ credSt (F := F) c ∗ crPr (F := F) c ∗ atVr (F := F) c 1 ∗ atVs (F := F) c 1
    ∗ (∃ f, vgPt (F := F) c (slabSet 7) f) ∗ (∃ f, B.a5.view.loc (c : Thread nD τ) ↦[Finset.univ]{fullShare} f) ∗ Rest c B XK XV X WQ WO)

theorem body_run (f : Par F) : iprop((Inv XK XV (par XK XV X WQ WO) κ) ∗ Start c B XK XV X WQ WO f) ⊢ Wp c (B.of (cc0_body (F := F))) (fun _ => Done c B XK XV X WQ WO) := by
  rw [Bufs.of, cc0_body_eq_skeleton]
  unfold cc0_body_skel Start
  refine use iprop((barSt (F := F) c ∗ (bigSep Finset.univ (kOwn XK c) ∗ bigSep Finset.univ (vOwn XV c))) ∗ kLoc XK c ∗ vLoc XV c
    ∗ QSt B c (X c) (WQ c) f 0 ∗ ZSt (F := F) c ∗ Mid (F := F) c ∗ Late (F := F) c ∗ Room c B WO)
    (part3_run B XK XV (par XK XV X WQ WO) κ c) rfl fun r => ?_
  refine knownR ?_
  rintro ⟨w, w', rfl⟩
  refine use iprop(kLoc XK c ∗ vLoc XV c ∗ QSt B c (X c) (WQ c) f 0 ∗ ZSt (F := F) c ∗ Mid (F := F) c ∗ Late (F := F) c ∗ Room c B WO)
    (part4_run B XK XV (par XK XV X WQ WO) κ c w w') (by ac_rfl) fun _ => ?_
  refine use iprop((atPos ER (barC c) 1 ∅ 0 ∗ toldCred (F := F) c) ∗ kLoc XK c ∗ vLoc XV c ∗ QSt B c (X c) (WQ c) f 0 ∗ ZSt (F := F) c ∗ Mid (F := F) c ∗ Late (F := F) c ∗ Room c B WO)
    (part5_run B XK XV (par XK XV X WQ WO) κ c _) (by ac_rfl) fun _ => ?_
  refine seqR (part6_run B XK XV (par XK XV X WQ WO) κ c _ _) fun _ => ?_
  refine seqR (part7_run B XK XV (par XK XV X WQ WO) κ c _ _) fun _ => ?_
  refine seqR (part8_run B XK XV (par XK XV X WQ WO) κ c _) fun _ => ?_
  refine use iprop((atPos ER (barC c) 1 ∅ 0 ∗ toldCred (F := F) c) ∗ vLoc XV c ∗ QSt B c (X c) (WQ c) f 0 ∗ ZSt (F := F) c ∗ Mid (F := F) c ∗ Late (F := F) c ∗ Room c B WO)
    (part9_run B XK XV (par XK XV X WQ WO) κ c _ _) (by ac_rfl) fun _ => ?_
  refine use iprop((atPos ER (barC c) 1 ∅ 0 ∗ toldCred (F := F) c) ∗ (SendSt XK XV c 7 7 ∗ cred (tallyAt (krC c 7) 0 N)) ∗ Mid (F := F) c ∗ Late (F := F) c ∗ Room c B WO)
    (part10_run c B XK XV (par XK XV X WQ WO) κ (X c) (WQ c) f (ZSt (F := F) c)) (by ac_rfl) fun v => ?_
  refine knownR ?_
  rintro rfl
  refine seqR (part11_run c B XK XV (par XK XV X WQ WO) κ (X c) (WQ c) f _) fun v => ?_
  refine knownR ?_
  rintro rfl
  refine use iprop((atPos ER (barC c) 1 ∅ 0 ∗ toldCred (F := F) c) ∗ (SendSt XK XV c 7 7 ∗ cred (tallyAt (krC c 7) 0 N)) ∗ Mid (F := F) c ∗ Late (F := F) c ∗ Room c B WO)
    (part12_run c B XK XV (par XK XV X WQ WO) κ (X c) (WQ c) f (cred (tallyAt (vrC c 7) 0 N))) (by ac_rfl) fun v => ?_
  refine knownR ?_
  rintro rfl
  rw [q_done]
  unfold Mid Mat
  refine regroup iprop((atPos ER (barC c) 1 ∅ 0 ∗ toldCred (F := F) c) ∗ cred (tallyAt (krC c 7) 0 N) ∗ cred (tallyAt (vrC c 7) 0 N)
      ∗ (((xSt B c (X c) ∗ wSt B c (WQ c)) ∗ qsPt c (qsOf (X c) (WQ c))) ∗ (acPt c (k0_pay19 (F := F)) ∗ (∃ f, lPt (F := F) c f)))
      ∗ (crKr (F := F) c ∗ crVr (F := F) c ∗ atKr (F := F) c 0 ∗ atVr (F := F) c 0) ∗ (atPos ER (krC c 7) 0 ∅ 0 ∗ atPos ER (vrC c 7) 0 ∅ 0) ∗ Late (F := F) c ∗ Room c B WO)
    (send_home c XK XV) (by ac_rfl) ?_
  refine regroup iprop((Ow c (due c 7 7 7 0 0) ∗ (kHome c XK 0 ∗ vHome c XV 0)) ∗ (atPos ER (barC c) 1 ∅ 0 ∗ toldCred (F := F) c) ∗ cred (tallyAt (krC c 7) 0 N) ∗ cred (tallyAt (vrC c 7) 0 N)
      ∗ (((xSt B c (X c) ∗ wSt B c (WQ c)) ∗ qsPt c (qsOf (X c) (WQ c))) ∗ (acPt c (k0_pay19 (F := F)) ∗ (∃ f, lPt (F := F) c f)))
      ∗ (atPos ER (krC c 7) 0 ∅ 0 ∗ atPos ER (vrC c 7) 0 ∅ 0) ∗ Late (F := F) c ∗ Room c B WO)
    (round_start c XK XV) (by ac_rfl) ?_
  refine use iprop((atPos ER (barC c) 1 ∅ 0 ∗ toldCred (F := F) c) ∗ (xSt B c (X c) ∗ wSt B c (WQ c)) ∗ Late (F := F) c ∗ Room c B WO)
    (part13_run c B XK XV (par XK XV X WQ WO) κ X WQ) (by unfold toWait; ac_rfl) fun _ => ?_
  refine use iprop(Rounded c XK XV X WQ ∗ (atPos ER (barC c) 1 ∅ 0 ∗ toldCred (F := F) c) ∗ (xSt B c (X c) ∗ wSt B c (WQ c)) ∗ Late (F := F) c ∗ Room c B WO)
    (part14_run B XK XV (par XK XV X WQ WO) κ c) (by ac_rfl) fun _ => ?_
  refine seqR (part15_run B XK XV (par XK XV X WQ WO) κ c) fun _ => ?_
  unfold Rounded work Room
  refine use iprop((qsPt c (qsOf (X c) (WQ c)) ∗ (slots c XK XV c ∗ Fam 7 (roundWait c) (roundGot c XK XV)) ∗ (waited (F := F) (krC c 7) 0 ∗ waited (F := F) (vrC c 7) 0)
      ∗ (khPt c (blockSet c) (XK c) ∗ vhPt c (blockSet c) (XV c))) ∗ (atPos ER (barC c) 1 ∅ 0 ∗ toldCred (F := F) c) ∗ (xSt B c (X c) ∗ wSt B c (WQ c)) ∗ Late (F := F) c
      ∗ (∃ f, psPt (F := F) c fullShare f) ∗ (∃ f, B.a5.view.loc (c : Thread nD τ) ↦[Finset.univ]{fullShare} f))
    (part16_run c B XK XV (par XK XV X WQ WO) κ X WQ WO) (by unfold prodSt; ac_rfl) fun v => ?_
  refine knownR ?_
  rintro rfl
  have mid : iprop((HomeSt XK XV c 7 7 ∗ prodSt c B WO (rounds XK XV X WQ c 8).1 (rounds XK XV X WQ c 8).2)
      ∗ (qsPt c (qsOf (X c) (WQ c)) ∗ (slots c XK XV c ∗ Fam 7 (roundWait c) (roundGot c XK XV)) ∗ (waited (F := F) (krC c 7) 0 ∗ waited (F := F) (vrC c 7) 0)
      ∗ (khPt c (blockSet c) (XK c) ∗ vhPt c (blockSet c) (XV c))) ∗ (atPos ER (barC c) 1 ∅ 0 ∗ toldCred (F := F) c) ∗ (xSt B c (X c) ∗ wSt B c (WQ c)) ∗ Late (F := F) c
      ∗ (∃ f, psPt (F := F) c fullShare f) ∗ (∃ f, B.a5.view.loc (c : Thread nD τ) ↦[Finset.univ]{fullShare} f))
      ⊢ Half c B XK XV X WQ WO := by
    unfold Half prodSt Late waited Rest
    iintro ⟨⟨HH, Hac, Hl, Ho⟩, ⟨Hq, Hs, ⟨⟨Hk7, -⟩, ⟨Hv7, -⟩⟩, Hb⟩, ⟨Hbar, Htold⟩, Hxw, ⟨Hcr, Htc, Htp, Htr, Hpr⟩, Hps, Ha5⟩
    ihave HH := (home_end c XK XV) $$ [HH Hb]
    · isplitl [HH] <;> iassumption
    icases HH with ⟨HO, Hkv, Hks, Hvs, Hin⟩
    ihave Hs := (round_end c XK XV) $$ Hs
    icases Hs with ⟨Hkg, Hvg, Hkr, Hvr, Hinr⟩
    ihave HC := (cred_start c XV) $$ [HO Hvg Hinr Htc Htold]
    · isplitl [HO]; · iexact HO
      isplitl [Hvg]; · iexact Hvg
      isplitl [Hinr]; · iexact Hinr
      isplitl [Htc] <;> iassumption
    icases HC with ⟨HC, H7⟩
    isplitl [Hps HC]
    · isplitl [Hps] <;> iassumption
    isplitl [Hin Htp Htr]
    · isplitl [Hin]; · iexact Hin
      isplitl [Htp] <;> iassumption
    isplitl [Hcr]; · iexact Hcr
    isplitl [Hpr]; · iexact Hpr
    isplitl [Hvr]; · iexact Hvr
    isplitl [Hvs]; · iexact Hvs
    isplitl [H7]; · iexact H7
    isplitl [Ha5]; · iexact Ha5
    isplitl [Hxw Ho]
    · isplitl [Hxw] <;> iassumption
    isplitl [Hkg Hq Hac Hl]
    · isplitl [Hkg]; · iexists _; iexact Hkg
      isplitl [Hq]; · iexists _; iexact Hq
      isplitl [Hac]; · iexists _; iexact Hac
      iexists _; iexact Hl
    isplitl [Hkv]; · iexact Hkv
    isplitl [Hbar]; · iexact Hbar
    isplitl [Hks]; · iexact Hks
    isplitl [Hkr]; · iexact Hkr
    isplitl [Hk7] <;> iassumption
  refine before mid ?_
  unfold Half
  refine seqR (part17_run c B XK XV (par XK XV X WQ WO) κ _ _) fun v => ?_
  refine regroup iprop(CrSt (F := F) c 5 ∗ credSt (F := F) c ∗ crPr (F := F) c ∗ atVr (F := F) c 1 ∗ atVs (F := F) c 1 ∗ (∃ f, vgPt (F := F) c (slabSet 7) f) ∗ (∃ f, B.a5.view.loc (c : Thread nD τ) ↦[Finset.univ]{fullShare} f) ∗ Rest c B XK XV X WQ WO)
    (ps_start c (par XK XV X WQ WO)) (by unfold Rest; rw [show k0_pay27 (k0_pay26 (prod XK XV X WQ WO c)) = (par XK XV X WQ WO) c from rfl]; ac_rfl) ?_
  refine use iprop((crPr (F := F) c ∗ atVr (F := F) c 1) ∗ atVs (F := F) c 1 ∗ psPt c (shareDrop fullShare 7) ((par XK XV X WQ WO) c) ∗ (∃ f, vgPt (F := F) c (slabSet 7) f) ∗ (∃ f, B.a5.view.loc (c : Thread nD τ) ↦[Finset.univ]{fullShare} f) ∗ Rest c B XK XV X WQ WO)
    (part18_run B XK XV (par XK XV X WQ WO) κ c _ v) (by ac_rfl) fun _ => ?_
  rw [pr_start]
  refine use iprop(atPos ER (credC c) 1 ∅ 0 ∗ bigSep Finset.univ (fun k : Fin 7 => toWait (F := F) (vrC c k.castSucc) 1 1) ∗ atVs (F := F) c 1 ∗ psPt c (shareDrop fullShare 7) ((par XK XV X WQ WO) c) ∗ (∃ f, vgPt (F := F) c (slabSet 7) f) ∗ (∃ f, B.a5.view.loc (c : Thread nD τ) ↦[Finset.univ]{fullShare} f) ∗ Rest c B XK XV X WQ WO)
    (part19_run B XK XV (par XK XV X WQ WO) κ c _) (by ac_rfl) fun _ => ?_
  refine use iprop(atPos ER (credC c) 1 ∅ 0 ∗ psPt c (shareDrop fullShare 7) ((par XK XV X WQ WO) c) ∗ (∃ f, vgPt (F := F) c (slabSet 7) f) ∗ (∃ f, B.a5.view.loc (c : Thread nD τ) ↦[Finset.univ]{fullShare} f) ∗ Rest c B XK XV X WQ WO)
    (part20_run B XK XV (par XK XV X WQ WO) κ c _) (by unfold atVs; ac_rfl) fun _ => ?_
  refine seqR (part21_run B XK XV (par XK XV X WQ WO) κ c _) fun _ => ?_
  refine seqR (part22_run B XK XV (par XK XV X WQ WO) κ c _) fun _ => ?_
  refine seqR (part23_run c B XK XV κ X WQ WO) fun v => ?_
  refine knownR ?_
  rintro rfl
  refine before (S := iprop((∃ f, B.a5.view.loc (c : Thread nD τ) ↦[Finset.univ]{fullShare} f) ∗ ((EndSt c (par XK XV X WQ WO) ∗ psPt c (shareDrop fullShare 7) ((par XK XV X WQ WO) c)) ∗ (slabs c (par XK XV X WQ WO) ∗ (∃ f, vgPt (F := F) c (slabSet 7) f)) ∗ atPos ER (credC c) 1 ∅ 0 ∗ Rest c B XK XV X WQ WO)))
    (Entails.of_eq (by ac_rfl)) ?_
  refine out_store c B XK XV κ X WQ WO _ _ _ _ (outOf XK XV X WQ WO c) ?_
  unfold Rest Done Spent Places
  iintro ⟨Hout, HE, Hs, Hcred, ⟨⟨Hx, Hw⟩, Ho⟩, ⟨Hkg, Hq, Hac, Hl⟩, Hkv, Hbar, Hks, Hkr, Hk7, Hv7⟩
  ihave HE := (all_end c (par XK XV X WQ WO)) $$ HE
  icases HE with ⟨HO, Hps, Hvr, Hvs⟩
  ihave Hs := (slabs_join c (par XK XV X WQ WO)) $$ Hs
  isplitl [HO]; · iexact HO
  isplitl [Hout Hx Hw Ho]
  · isplitl [Hx]; · iexact Hx
    isplitl [Hw]; · iexact Hw
    isplitl [Ho] <;> iassumption
  isplitl [Hkg Hq Hac Hl Hps Hs]
  · isplitl [Hkg]; · iexact Hkg
    isplitl [Hs]; · iexact Hs
    isplitl [Hq]; · iexact Hq
    isplitl [Hps]; · iexists _; iexact Hps
    isplitl [Hac] <;> iassumption
  isplitl [Hkv]; · iexact Hkv
  isplitl [Hbar]; · iexact Hbar
  isplitl [Hcred]; · iexact Hcred
  isplitl [Hks]; · iexact Hks
  isplitl [Hvs]; · iexact Hvs
  isplitl [Hkr]; · iexact Hkr
  isplitl [Hvr]; · iexact Hvr
  isplitl [Hk7] <;> iassumption

end Cert.Proof.Attn
end
-- ==== Proof.Deal.lean ====
/- What the launch deals: every cell's invariant, each device the rights to open its own cells, the tokens of the duties it
   pays, and the credit of what it waits for. A device opens its cells as it enters the kernel and closes them as it leaves. -/
module

public import proofs.«01_k».proof.Proof.Body

@[expose] public section

noncomputable section

namespace Cert.Proof.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Ix (Elt F) ℕ UU ℕ

attribute [local irreducible] accTrip denTrip trip3 heads blocks

/-- Two families are a family of pairs. -/
theorem both {J : Type} [Fintype J] (Φ Ψ : J → sProp 𝕄) :
    bigSep Finset.univ (fun j => iprop(Φ j ∗ Ψ j)) = iprop(bigSep Finset.univ Φ ∗ bigSep Finset.univ Ψ) :=
  BI.bigSep_sep _ Φ Ψ

/-! ## A device's own cells, family by family -/

/-- Seven consecutive semaphores of the kernel's own. -/
def run7 (s : Fin 25) : Fin 7 ↪ Fin 31 :=
  ⟨fun k => ⟨s.val + k.val, by omega⟩, fun a b h => by have := congrArg Fin.val h; exact Fin.ext (by simpa using this)⟩

theorem own_parts : (Finset.univ : Finset (Fin 31)) = (Finset.univ.map (run7 0) ∪ Finset.univ.map (run7 7)) ∪ (Finset.univ.map (run7 15) ∪ Finset.univ.map (run7 22)) ∪ {14, 29, 30} := by decide

theorem osem_ks : ∀ k, osem (run7 0 k) = .dma (ksS k) := by decide
theorem osem_kr : ∀ k, osem (run7 7 k) = .dma (krS k.castSucc) := by decide
theorem osem_vs : ∀ k, osem (run7 15 k) = .dma (vsS k) := by decide
theorem osem_vr : ∀ k, osem (run7 22 k) = .dma (vrS k.castSucc) := by decide

/-- Something of each of the kernel's own semaphores, family by family. -/
theorem own_split (Ψ : SemLoc sig → sProp 𝕄) : bigSep Finset.univ (fun i => Ψ (osem i))
    = iprop(((bigSep Finset.univ (fun k => Ψ (.dma (ksS k))) ∗ bigSep Finset.univ (fun k : Fin 7 => Ψ (.dma (krS k.castSucc))))
        ∗ (bigSep Finset.univ (fun k => Ψ (.dma (vsS k))) ∗ bigSep Finset.univ (fun k : Fin 7 => Ψ (.dma (vrS k.castSucc)))))
      ∗ Ψ (.dma (krS 7)) ∗ Ψ (.dma (vrS 7)) ∗ Ψ (.reg credS)) := by
  rw [own_parts, bigSep_union (by decide), bigSep_union (by decide), bigSep_union (by decide), bigSep_union (by decide),
    bigSep_map, bigSep_map, bigSep_map, bigSep_map, bigSep_insert (by decide), bigSep_insert (by decide), bigSep_singleton]
  simp only [osem_ks, osem_kr, osem_vs, osem_vr]
  rfl

/-- Counters, rights to open, places, first rounds. -/
theorem own_split_at (c : Dev nD) (Ψ : GSem nD τ sig → sProp 𝕄) : bigSep Finset.univ (fun i => Ψ ((c : Thread nD τ), osem i))
    = iprop(((bigSep Finset.univ (fun k => Ψ (ksC c k)) ∗ bigSep Finset.univ (fun k : Fin 7 => Ψ (krC c k.castSucc)))
        ∗ (bigSep Finset.univ (fun k => Ψ (vsC c k)) ∗ bigSep Finset.univ (fun k : Fin 7 => Ψ (vrC c k.castSucc))))
      ∗ Ψ (krC c 7) ∗ Ψ (vrC c 7) ∗ Ψ (credC c)) :=
  own_split fun sm => Ψ ((c : Thread nD τ), sm)

variable (XK XV : Dev nD → Seq F) (P : Dev nD → Par F) (κ : GSem nD τ sig → ℕ) (c : Dev nD)

/-- A device's cells, opened: its place in each, and the word that each is in its first round. -/
def Opened : sProp 𝕄 :=
  bigSep Finset.univ fun i : Fin 31 => iprop(atPos ER ((c : Thread nD τ), osem i) 0 ∅ 0 ∗ reached ER ((c : Thread nD τ), osem i) 0)

/-- The invariants of a device's own cells. -/
theorem Inv_own : Inv XK XV P κ ⊢ bigSep Finset.univ fun i : Fin 31 => cellInv ER (Rd XK XV P) (κ ((c : Thread nD τ), osem i)) ((c : Thread nD τ), osem i) := by
  have h : iprop(Inv XK XV P κ ∗ bigSep Finset.univ fun _ : Fin 31 => (BI.emp : sProp 𝕄))
      ⊢ bigSep Finset.univ fun i : Fin 31 => cellInv ER (Rd XK XV P) (κ ((c : Thread nD τ), osem i)) ((c : Thread nD τ), osem i) :=
    bigSep_with_persistent (S := Finset.univ) (Φ := fun _ : Fin 31 => (BI.emp : sProp 𝕄)) (R := Inv XK XV P κ)
      fun i _ => by
        change (_ : sProp 𝕄) ⊢ (_ : sProp 𝕄)
        iintro ⟨H, -⟩
        iapply (Inv_at XK XV P κ (own_mem c i)) $$ H
  rw [BI.bigSep_emp_const] at h
  refine BI.Entails.trans ?_ h
  change (_ : sProp 𝕄) ⊢ (_ : sProp 𝕄)
  iintro H
  isplitl [H]; · iexact H
  iempintro

theorem open_own : iprop(Inv XK XV P κ ∗ (bigSep Finset.univ fun i : Fin 31 => openTok ER ((c : Thread nD τ), osem i)) ∗ Pipeline.ownSems0 osem c)
    ⊢ (|={Set.univ}=> Opened (F := F) c : sProp 𝕄) := by
  have h : iprop((bigSep Finset.univ fun i : Fin 31 => iprop(cellInv ER (Rd XK XV P) (κ ((c : Thread nD τ), osem i)) ((c : Thread nD τ), osem i) ∗ openTok ER ((c : Thread nD τ), osem i)))
      ∗ bigSep Finset.univ fun i : Fin 31 => semVal ((c : Thread nD τ), osem i) 0) ⊢ (|={Set.univ}=> Opened (F := F) c : sProp 𝕄) :=
    Rounds.cells_open ER (Rd XK XV P) Finset.univ (fun i : Fin 31 => ((c : Thread nD τ), osem i)) (fun i => κ ((c : Thread nD τ), osem i)) fun _ _ => Set.mem_univ _
  refine BI.Entails.trans ?_ h
  change (_ : sProp 𝕄) ⊢ (_ : sProp 𝕄)
  iintro ⟨#HI, Ho, Hs⟩
  unfold Pipeline.ownSems0
  isplitr [Hs]
  · iapply (Entails.of_eq (both _ _).symm)
    isplitr
    · iapply (Inv_own XK XV P κ c); iexact HI
    iexact Ho
  iexact Hs

/-- The rounds a device's own cells are left in. -/
def lastRound : SemLoc sig → ℕ
  | .reg _ => 1
  | .dma j => if 19 ≤ j.val ∧ j.val < 33 then 2 else 1

theorem lastRound_dma (j : DmaSem sig) (r : ℕ) (h : (if 19 ≤ j.val ∧ j.val < 33 then 2 else 1) ≤ r) : (Rd XK XV P).duties ((c : Thread nD τ), .dma j) r = ∅ := by
  by_cases hj : 19 ≤ j.val ∧ j.val < 33
  · rw [if_pos hj] at h; exact duties_two XK XV P _ r h
  · rw [if_neg hj] at h; exact duties_one XK XV P c j (by omega) r h

theorem lastRound_over : ∀ (sm : SemLoc sig) (r : ℕ) (_ : lastRound sm ≤ r), (Rd XK XV P).duties ((c : Thread nD τ), sm) r = ∅
  | .reg i, r, h => duties_reg XK XV P c i r h
  | .dma j, r, h => lastRound_dma XK XV P c j r h

theorem close_own : iprop(Inv XK XV P κ ∗ bigSep Finset.univ fun i : Fin 31 => atPos ER ((c : Thread nD τ), osem i) (lastRound (osem i)) ∅ 0)
    ⊢ (|={Set.univ}=> Pipeline.ownSems0 osem c : sProp 𝕄) := by
  have h : (bigSep Finset.univ fun i : Fin 31 => iprop(cellInv ER (Rd XK XV P) (κ ((c : Thread nD τ), osem i)) ((c : Thread nD τ), osem i) ∗ atPos ER ((c : Thread nD τ), osem i) (lastRound (osem i)) ∅ 0))
      ⊢ (|={Set.univ}=> Pipeline.ownSems0 osem c : sProp 𝕄) :=
    Rounds.cells_close ER (Rd XK XV P) Finset.univ (fun i : Fin 31 => ((c : Thread nD τ), osem i)) (fun i => κ ((c : Thread nD τ), osem i)) (fun _ _ => Set.mem_univ _)
      (fun _ _ h => h) (fun i => lastRound (osem i)) fun i _ r hr => lastRound_over XK XV P c (osem i) r hr
  refine BI.Entails.trans ?_ h
  change (_ : sProp 𝕄) ⊢ (_ : sProp 𝕄)
  iintro ⟨#HI, Ha⟩
  iapply (Entails.of_eq (both _ _).symm)
  isplitr
  · iapply (Inv_own XK XV P κ c); iexact HI
  iexact Ha

/-- A device's cells once the body is over, closed: every counter at zero. -/
theorem close_all : iprop(Inv XK XV P κ ∗ Places (F := F) c) ⊢ (|={Set.univ}=> iprop(Pipeline.ownSems0 osem c ∗ semVal (barC c) 0) : sProp 𝕄) := by
  have e : bigSep Finset.univ (fun i : Fin 31 => (atPos ER ((c : Thread nD τ), osem i) (lastRound (osem i)) ∅ 0 : sProp 𝕄))
      = iprop(((atKs (F := F) c 1 ∗ atKr (F := F) c 1) ∗ (atVs (F := F) c 2 ∗ atVr (F := F) c 2))
        ∗ atPos ER (krC c 7) 1 ∅ 0 ∗ atPos ER (vrC c 7) 1 ∅ 0 ∗ atPos ER (credC c) 1 ∅ 0) := by
    refine (own_split (F := F) fun sm => (atPos ER ((c : Thread nD τ), sm) (lastRound sm) ∅ 0 : sProp 𝕄)).trans ?_
    have h1 : ∀ k : Fin 7, lastRound (.dma (ksS k) : SemLoc sig) = 1 := by decide
    have h2 : ∀ k : Fin 7, lastRound (.dma (krS k.castSucc) : SemLoc sig) = 1 := by decide
    have h3 : ∀ k : Fin 7, lastRound (.dma (vsS k) : SemLoc sig) = 2 := by decide
    have h4 : ∀ k : Fin 7, lastRound (.dma (vrS k.castSucc) : SemLoc sig) = 2 := by decide
    simp only [h1, h2, h3, h4]
    rfl
  unfold Places
  iintro ⟨#HI, Hb, Hc, Hks, Hvs, Hkr, Hvr, Hk7, Hv7⟩
  imod (Rounds.cell_close ER (Rd XK XV P) (g := barC c) (κ := κ (barC c)) (Set.mem_univ _) (fun h => h) fun r hr => duties_reg XK XV P c _ r hr) $$ [Hb] with Hb0
  · isplitr; · iapply (Inv_at XK XV P κ (bar_mem c)); iexact HI
    iexact Hb
  imod (close_own XK XV P κ c) $$ [Hc Hks Hvs Hkr Hvr Hk7 Hv7] with Ho
  · isplitr; · iexact HI
    rw [e]
    isplitl [Hks Hkr Hvs Hvr]
    · isplitl [Hks Hkr]
      · isplitl [Hks]; · iexact Hks
        iexact Hkr
      isplitl [Hvs]; · iexact Hvs
      iexact Hvr
    isplitl [Hk7]; · iexact Hk7
    isplitl [Hv7]; · iexact Hv7
    iexact Hc
  imodintro
  isplitl [Ho]; · iexact Ho
  iexact Hb0

/-! ## The duties' tokens -/

/-- Which duty token a pair names: the barrier's and the credit's seven, the copies' one each by round, and the local copies'. -/
def tokAt : Fin 10 × Fin 7 → SemLoc sig × ℕ × Fin 7
  | (0, k) => (.reg barS, 0, k)
  | (1, k) => (.reg credS, 0, k)
  | (2, k) => (.dma (ksS k), 0, 0)
  | (3, k) => (.dma (krS k.castSucc), 0, 0)
  | (4, k) => (.dma (vsS k), 0, 0)
  | (5, k) => (.dma (vrS k.castSucc), 0, 0)
  | (6, k) => (.dma (vsS k), 1, 0)
  | (7, k) => (.dma (vrS k.castSucc), 1, 0)
  | (8, k) => (.dma (krS 7), 0, k)
  | (9, k) => (.dma (vrS 7), 0, k)

theorem tokAt_inj : Function.Injective tokAt := by decide +kernel

def tokens : Finset (GSem nD τ sig × ℕ × Fin 7) :=
  Finset.univ.map ⟨fun ck : Dev nD × Fin 10 × Fin 7 => (((ck.1 : Thread nD τ), (tokAt ck.2).1), (tokAt ck.2).2), fun _ _ h =>
    Prod.ext (congrArg (fun t : GSem nD τ sig × ℕ × Fin 7 => t.1.1.1) h)
      (tokAt_inj (Prod.ext (congrArg (fun t : GSem nD τ sig × ℕ × Fin 7 => t.1.2) h) (congrArg (fun t : GSem nD τ sig × ℕ × Fin 7 => t.2) h)))⟩

/-- A device's share of the tokens, those of its own cells. -/
def tok (c : Dev nD) (a : Fin 10) : sProp 𝕄 :=
  bigSep Finset.univ fun k : Fin 7 => dutyTok ER ((c : Thread nD τ), (tokAt (a, k)).1) (tokAt (a, k)).2.1 (tokAt (a, k)).2.2

theorem fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem tokens_eq : bigSep tokens (fun x => (dutyTok ER x.1 x.2.1 x.2.2 : sProp 𝕄)) = bigSep Finset.univ fun c : Dev nD => bigSep Finset.univ fun a => tok c a := by
  unfold tokens; rw [bigSep_map, bigSep_univ_prod]
  exact bigSep_congr fun c _ => bigSep_univ_prod _

/-- A family over devices and peers, handed round. -/
theorem handed (Φ : Dev nD → Fin 7 → sProp 𝕄) :
    bigSep Finset.univ (fun c => bigSep Finset.univ fun k => Φ c k) = bigSep Finset.univ fun c => bigSep Finset.univ fun k => Φ (peer c k) k := by
  rw [← bigSep_univ_prod (fun ck : Dev nD × Fin 7 => Φ ck.1 ck.2), ← bigSep_univ_prod (fun ck : Dev nD × Fin 7 => Φ (peer ck.1 ck.2) ck.2)]
  exact bigSep_univ_equiv (⟨fun ck => (peer ck.1 ck.2, ck.2), fun ck => (peer ck.1 ck.2.rev, ck.2), fun ck => Prod.ext (peer_rev' _ _) rfl,
    fun ck => Prod.ext (peer_rev _ _) rfl⟩ : Dev nD × Fin 7 ≃ Dev nD × Fin 7) _

/-- The tokens of the duties a device pays. -/
def Duties (c : Dev nD) : sProp 𝕄 :=
  iprop(bigSep Finset.univ (fun k : Fin 7 => dutyTok ER (barC (peer c k)) 0 k) ∗ tokCred (F := F) c
    ∗ bigSep Finset.univ (fun k : Fin 7 => dutyTok ER (ksC c k) 0 0) ∗ bigSep Finset.univ (fun k : Fin 7 => dutyTok ER (krC (peer c k) k.castSucc) 0 0)
    ∗ bigSep Finset.univ (fun k : Fin 7 => dutyTok ER (vsC c k) 0 0) ∗ bigSep Finset.univ (fun k : Fin 7 => dutyTok ER (vrC (peer c k) k.castSucc) 0 0)
    ∗ tokPs (F := F) c ∗ tokPr (F := F) c ∗ dutyTok ER (krC c 7) 0 0 ∗ dutyTok ER (vrC c 7) 0 0)

theorem deal_tokens : bigSep tokens (fun x => (dutyTok ER x.1 x.2.1 x.2.2 : sProp 𝕄)) ⊢ bigSep Finset.univ (Duties (F := F)) := by
  have h8 : bigSep Finset.univ (fun c : Dev nD => tok (F := F) c 8) ⊢ bigSep Finset.univ fun c : Dev nD => dutyTok ER (krC c 7) 0 0 :=
    bigSep_mono fun _ _ => bigSep_elim (Finset.mem_univ (0 : Fin 7))
  have h9 : bigSep Finset.univ (fun c : Dev nD => tok (F := F) c 9) ⊢ bigSep Finset.univ fun c : Dev nD => dutyTok ER (vrC c 7) 0 0 :=
    bigSep_mono fun _ _ => bigSep_elim (Finset.mem_univ (0 : Fin 7))
  rw [tokens_eq]
  simp only [fin10, bigSep_sep']
  unfold Duties
  simp only [bigSep_sep']
  have e0 : bigSep Finset.univ (fun c : Dev nD => tok (F := F) c 0) = bigSep Finset.univ fun c => bigSep Finset.univ (fun k : Fin 7 => (dutyTok ER (barC (peer c k)) 0 k : sProp 𝕄)) :=
    handed fun c k => dutyTok ER (barC c) 0 k
  have e1 : bigSep Finset.univ (fun c : Dev nD => tok (F := F) c 1) = bigSep Finset.univ fun c => tokCred (F := F) c :=
    handed fun c k => dutyTok ER (credC c) 0 k
  have e3 : bigSep Finset.univ (fun c : Dev nD => tok (F := F) c 3) = bigSep Finset.univ fun c => bigSep Finset.univ (fun k : Fin 7 => (dutyTok ER (krC (peer c k) k.castSucc) 0 0 : sProp 𝕄)) :=
    handed fun c k => dutyTok ER (krC c k.castSucc) 0 0
  have e5 : bigSep Finset.univ (fun c : Dev nD => tok (F := F) c 5) = bigSep Finset.univ fun c => bigSep Finset.univ (fun k : Fin 7 => (dutyTok ER (vrC (peer c k) k.castSucc) 0 0 : sProp 𝕄)) :=
    handed fun c k => dutyTok ER (vrC c k.castSucc) 0 0
  have e7 : bigSep Finset.univ (fun c : Dev nD => tok (F := F) c 7) = bigSep Finset.univ fun c => tokPr (F := F) c :=
    handed fun c k => dutyTok ER (vrC c k.castSucc) 1 0
  rw [e0, e1, e3, e5, e7]
  iintro ⟨H0, H1, H2, H3, H4, H5, H6, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply h8 $$ H8
  iapply h9 $$ H9

/-! ## The credit -/

abbrev O₀ (c : Dev nD) : CellTallies nD τ sig Ix := due c 0 0 0 0 0

theorem rest_all (f : Fin 7 → CellTallies nD τ sig Ix) : rest f 0 = ∑ k, f k := by
  unfold rest; rw [show (Finset.univ.filter fun k : Fin 7 => 0 ≤ k.val) = Finset.univ by decide]

/-- Each device owing its `k`-th peer `n` on the semaphore `sm k`, each is credited with `n` on each of its own. -/
theorem credit_each (sm : Fin 7 → SemLoc sig) (i : Ix) (n : ℕ) :
    (Pipeline.launchCred (fun d => rest (fun k => tallyAt (((peer d k : Dev nD) : Thread nD τ), sm k) i n) 0) c : sProp 𝕄)
      ⊢ bigSep Finset.univ fun k => cred (tallyAt ((c : Thread nD τ), sm k) i n) := by
  simp only [rest_all]
  rw [Pipeline.launchCred_sum]
  exact bigSep_mono fun k _ => Pipeline.launchCred_tallyAt (sm k) (fun d => peer d k) (fun d => peer d k.rev) (fun c => peer_rev c k) (fun c => peer_rev' c k) i n c

/-- Seven units on one cell are a credit of seven. -/
theorem seven (g : GSem nD τ sig) : (bigSep Finset.univ fun _ : Fin 7 => (cred (tallyAt g 0 1) : sProp 𝕄)) = cred (tallyAt g 0 7) := by
  rw [← Pipeline.cred_finsetSum]
  congr 1
  simp only [Fin.sum_univ_succ, Fin.sum_univ_zero, tallyAt_add, add_zero]

/-- What a device waits for, credited at launch. -/
def Credits : sProp 𝕄 :=
  iprop(cred (tallyAt (barC c) 0 7) ∗ crKr (F := F) c ∗ crVr (F := F) c ∗ cred (tallyAt (credC c) 0 7) ∗ crPr (F := F) c)

theorem credits : (Pipeline.launchCred O₀ c : sProp 𝕄) ⊢ Credits (F := F) c := by
  have hB : (Pipeline.launchCred (fun d => rest (oB d) 0) c : sProp 𝕄) ⊢ cred (tallyAt (barC c) 0 7) := (credit_each (F := F) c (fun _ => .reg barS) 0 1).trans (Entails.of_eq (seven _))
  have hK : (Pipeline.launchCred (fun d => rest (oK d) 0) c : sProp 𝕄) ⊢ crKr (F := F) c := credit_each (F := F) c (fun k => .dma (krS k.castSucc)) 0 N
  have hV : (Pipeline.launchCred (fun d => rest (oV d) 0) c : sProp 𝕄) ⊢ crVr (F := F) c := credit_each (F := F) c (fun k => .dma (vrS k.castSucc)) 0 N
  have hC : (Pipeline.launchCred (fun d => rest (oC d) 0) c : sProp 𝕄) ⊢ cred (tallyAt (credC c) 0 7) := (credit_each (F := F) c (fun _ => .reg credS) 0 1).trans (Entails.of_eq (seven _))
  have hP : (Pipeline.launchCred (fun d => rest (oP d) 0) c : sProp 𝕄) ⊢ crPr (F := F) c := credit_each (F := F) c (fun k => .dma (vrS k.castSucc)) 1 N
  unfold O₀ due
  rw [Pipeline.launchCred_add, Pipeline.launchCred_add, Pipeline.launchCred_add, Pipeline.launchCred_add]
  unfold Credits
  iintro ⟨⟨⟨⟨H1, H2⟩, H3⟩, H4⟩, H5⟩
  isplitl [H1]; · iapply hB $$ H1
  isplitl [H2]; · iapply hK $$ H2
  isplitl [H3]; · iapply hV $$ H3
  isplitl [H4]; · iapply hC $$ H4
  iapply hP $$ H5

end Cert.Proof.Attn
end
-- ==== Proof.Region.lean ====
/- The kernel's region: the contents its buffers have when it is entered, what its body finds and leaves, and the body's
   obligation. -/
module

public import proofs.«01_k».proof.Proof.Deal
public import proofs.«01_k».proof.Proof.Gen.KernelIdeal.Frame

@[expose] public section

noncomputable section

namespace Cert.Proof.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Ix (Elt F) ℕ UU ℕ

attribute [local irreducible] accTrip denTrip trip3 heads blocks

/-! ## Contents at the region's entry -/

variable (m : (ℓ : Loc nD τ sig) → Buf (Elt F) ℓ)

/-- Every device's keys and values, heads outermost. -/
def keysAt (c : Dev nD) : Seq F := V m c main_v2
def valsAt (c : Dev nD) : Seq F := V m c main_v4
/-- Every device's activations, query columns and output rows. -/
def actsAt (c : Dev nD) : Vec F S1x1024x1024 .bf16 := iblk m c 0 t0_0
def colsAt (c : Dev nD) : Vec F S1024x1024 .bf16 := iblk m c 1 t0_0
def rowsAt (c : Dev nD) : Vec F S1024x1024 .bf16 := iblk m c 2 t0_0
/-- The partial products. -/
def partsAt : Dev nD → Par F := par (keysAt m) (valsAt m) (actsAt m) (colsAt m) (rowsAt m)
/-- What device `c`'s output block holds in the end. -/
def resultAt (c : Dev nD) : Vec F S1x1024x1024 .f32 := outOf (keysAt m) (valsAt m) (actsAt m) (colsAt m) (rowsAt m) c

abbrev InvAt (κ : GSem nD τ sig → ℕ) : sProp 𝕄 := Inv (keysAt m) (valsAt m) (partsAt m) κ

/-! ## What the body finds and leaves -/

variable (c : Dev nD)

/-- All that the protocol gives a device besides the rights to its own scoped cells. -/
def Share : sProp 𝕄 := iprop(atPos ER (barC c) 0 ∅ 0 ∗ (bigSep Finset.univ fun k : Fin 7 => reached ER (barC (peer c k)) 0) ∗ Duties c ∗ Credits c)

/-- The region's operands that the body copies from itself. -/
def Operands : sProp 𝕄 := iprop(khPt c Finset.univ (keysAt m c) ∗ vhPt c Finset.univ (valsAt m c))

def Found : sProp 𝕄 :=
  iprop((∃ κ, InvAt m κ ∗ Opened c ∗ Share c) ∗ Spent c ∗ Operands m c ∗ ∃ r, prngReg c r)
def Left : sProp 𝕄 :=
  iprop((Pipeline.ownSems0 osem c ∗ semVal (barC c) 0) ∗ Spent c ∗ Operands m c ∗ ∃ r, prngReg c r)

/-! ## From what is found to the body's start -/

/-- The first round of a device's cells has begun, family by family. -/
def begun : sProp 𝕄 :=
  iprop((((bigSep Finset.univ fun k => reached ER (ksC c k) 0) ∗ (bigSep Finset.univ fun k : Fin 7 => reached ER (krC c k.castSucc) 0))
    ∗ ((bigSep Finset.univ fun k => reached ER (vsC c k) 0) ∗ (bigSep Finset.univ fun k : Fin 7 => reached ER (vrC c k.castSucc) 0)))
    ∗ reached ER (krC c 7) 0 ∗ reached ER (vrC c 7) 0 ∗ reached ER (credC c) 0)

instance : BI.Persistent (begun (F := F) c) := by unfold begun; infer_instance

theorem opened_eq : Opened (F := F) c = iprop(((((atKs c 0 ∗ atKr c 0) ∗ (atVs c 0 ∗ atVr c 0)) ∗ atPos ER (krC c 7) 0 ∅ 0 ∗ atPos ER (vrC c 7) 0 ∅ 0 ∗ atPos ER (credC c) 0 ∅ 0)) ∗ begun c) := by
  unfold Opened begun atKs atKr atVs atVr
  rw [both, own_split_at c (fun g => atPos ER g 0 ∅ 0), own_split_at c (fun g => reached ER g 0)]

theorem rev_slots : (bigSep Finset.univ fun k : Fin 7 => iprop(∃ f, kgPt (F := F) c (slotSet (peer c k.rev)) f)) = bigSep Finset.univ fun k : Fin 7 => iprop(∃ f, kgPt (F := F) c (slotSet (peer c k)) f) :=
  rev_all fun k => iprop(∃ f, kgPt (F := F) c (slotSet (peer c k)) f)

theorem rev_slots' : (bigSep Finset.univ fun k : Fin 7 => iprop(∃ f, vgPt (F := F) c (slotSet (peer c k.rev)) f)) = bigSep Finset.univ fun k : Fin 7 => iprop(∃ f, vgPt (F := F) c (slotSet (peer c k)) f) :=
  rev_all fun k => iprop(∃ f, vgPt (F := F) c (slotSet (peer c k)) f)

/-- What a device hands over with its barrier signals. -/
theorem signals_start (f g : Gat F) : iprop(begun (F := F) c ∗ (bigSep Finset.univ fun k : Fin 7 => dutyTok ER (barC (peer c k)) 0 k) ∗ (bigSep Finset.univ fun k : Fin 7 => reached ER (barC (peer c k)) 0)
      ∗ (bigSep Finset.univ fun k : Fin 7 => kgPt c (slotSet (peer c k.rev)) f) ∗ (bigSep Finset.univ fun k : Fin 7 => vgPt c (slotSet (peer c k.rev)) g))
    ⊢ Fam 0 (sigItem (F := F) c) (fun _ => iprop(emp)) := by
  rw [← Fam_start]
  have e : sigItem (F := F) c = fun k : Fin 7 => iprop(dutyTok ER (barC (peer c k)) 0 k ∗ reached ER (barC (peer c k)) 0 ∗ (∃ f, kgPt c (slotSet (peer c k)) f) ∗ (∃ f, vgPt c (slotSet (peer c k)) f)
    ∗ reached ER (krC c k.rev.castSucc) 0 ∗ reached ER (vrC c k.rev.castSucc) 0 ∗ reached ER (credC c) 0) := rfl
  have r₁ : bigSep Finset.univ (fun k : Fin 7 => reached ER (krC c k.rev.castSucc) 0) = (_ : sProp 𝕄) := rev_all (fun k => reached ER (krC c k.castSucc) 0)
  have r₂ : bigSep Finset.univ (fun k : Fin 7 => reached ER (vrC c k.rev.castSucc) 0) = (_ : sProp 𝕄) := rev_all (fun k => reached ER (vrC c k.castSucc) 0)
  rw [e, sep_all, sep_all, sep_all, sep_all, sep_all, sep_all, r₁, r₂, ← rev_slots c, ← rev_slots' c]
  have h₁ := some_each (fun (k : Fin 7) f => kgPt (F := F) c (slotSet (peer c k.rev)) f) f
  have h₂ := some_each (fun (k : Fin 7) f => vgPt (F := F) c (slotSet (peer c k.rev)) f) g
  have h₃ : reached ER (credC c) 0 ⊢ bigSep Finset.univ fun _ : Fin 7 => (reached ER (credC c) 0 : sProp 𝕄) := by
    refine BIBase.Entails.trans ?_ (bigSep_with_persistent (S := (Finset.univ : Finset (Fin 7))) (Φ := fun _ => (BI.emp : sProp 𝕄)) (R := reached ER (credC c) 0) fun i _ => ?_)
    · rw [BI.bigSep_emp_const]
      change (_ : sProp 𝕄) ⊢ (_ : sProp 𝕄)
      iintro H
      isplitl [H]; · iexact H
      iempintro
    · change (_ : sProp 𝕄) ⊢ (_ : sProp 𝕄)
      iintro ⟨H, -⟩; iexact H
  unfold begun
  iintro ⟨⟨⟨⟨-, #Hkr⟩, -, #Hvr⟩, -, -, #Hc⟩, Ht, Hb, Hk, Hv⟩
  isplitl [Ht]; · iexact Ht
  isplitl [Hb]; · iexact Hb
  isplitl [Hk]; · iapply h₁ $$ Hk
  isplitl [Hv]; · iapply h₂ $$ Hv
  isplitr; · iexact Hkr
  isplitr; · iexact Hvr
  iapply h₃; iexact Hc

/-- What a device copies from. -/
theorem copies_start (f : Seq F) (XK : Dev nD → Seq F) (e : f = XK c) : iprop(begun (F := F) c ∗ (bigSep Finset.univ fun k => khPt c (blockSet (peer c k)) f) ∗ (bigSep Finset.univ fun k => dutyTok ER (ksC c k) 0 0) ∗ (bigSep Finset.univ fun k : Fin 7 => dutyTok ER (krC (peer c k) k.castSucc) 0 0))
    ⊢ bigSep Finset.univ (kOwn XK c) := by
  subst e
  have e : kOwn XK c = fun k : Fin 7 => iprop(khPt c (blockSet (peer c k)) (XK c) ∗ dutyTok ER (ksC c k) 0 0 ∗ reached ER (ksC c k) 0 ∗ dutyTok ER (krC (peer c k) k.castSucc) 0 0) := rfl
  rw [e, sep_all, sep_all, sep_all]
  unfold begun
  iintro ⟨⟨⟨⟨#Hr, -⟩, -⟩, -⟩, Hp, H1, H2⟩
  isplitl [Hp]; · iexact Hp
  isplitl [H1]; · iexact H1
  isplitr; · iexact Hr
  iexact H2
theorem copies_start' (f : Seq F) (XV : Dev nD → Seq F) (e : f = XV c) : iprop(begun (F := F) c ∗ (bigSep Finset.univ fun k => vhPt c (blockSet (peer c k)) f) ∗ (bigSep Finset.univ fun k => dutyTok ER (vsC c k) 0 0) ∗ (bigSep Finset.univ fun k : Fin 7 => dutyTok ER (vrC (peer c k) k.castSucc) 0 0))
    ⊢ bigSep Finset.univ (vOwn XV c) := by
  subst e
  have e : vOwn XV c = fun k : Fin 7 => iprop(vhPt c (blockSet (peer c k)) (XV c) ∗ dutyTok ER (vsC c k) 0 0 ∗ reached ER (vsC c k) 0 ∗ dutyTok ER (vrC (peer c k) k.castSucc) 0 0) := rfl
  rw [e, sep_all, sep_all, sep_all]
  unfold begun
  iintro ⟨⟨⟨-, #Hr, -⟩, -⟩, Hp, H1, H2⟩
  isplitl [Hp]; · iexact Hp
  isplitl [H1]; · iexact H1
  isplitr; · iexact Hr
  iexact H2

/-- All that the body starts from, put together. -/
theorem start_intro (B : Bufs) (XK XV : Dev nD → Seq F) (X : Dev nD → Vec F S1x1024x1024 .bf16) (WQ WO : Dev nD → Vec F S1024x1024 .bf16) :
    iprop(Opened c ∗ Share c ∗ Ow c (O₀ c) ∗ Spent c ∗ (khPt c Finset.univ (XK c) ∗ vhPt c Finset.univ (XV c)) ∗ xSt B c (X c) ∗ wSt B c (WQ c) ∗ oSt B c (WO c) ∗ (∃ f, B.a5.view.loc (c : Thread nD τ) ↦[Finset.univ]{fullShare} f))
      ⊢ iprop(∃ f, Start c B XK XV X WQ WO f) := by
  rw [opened_eq, kh_whole, vh_whole]
  unfold Share Spent Duties Credits
  iintro ⟨⟨⟨⟨⟨Hks, Hkr⟩, Hvs, Hvr⟩, Hk7, Hv7, Hcd⟩, #Hb⟩, ⟨Hbar, HbR, ⟨T1, T2, T3, T4, T5, T6, T7, T8, T9, T10⟩, C1, C2, C3, C4, C5⟩, HO, ⟨⟨%fk, Kg⟩, ⟨%fv, Vg⟩, ⟨%fq, Qs⟩, Ps, Ac, L⟩, ⟨⟨Kh, Khs⟩, Vh, Vhs⟩, Hx, Hw, Ho, H5⟩
  iexists fq
  ihave Kg' := (Entails.of_eq (kg_whole c fk)) $$ Kg
  ihave Vg' := (Entails.of_eq (vg_whole c fv)) $$ Vg
  icases Kg' with ⟨Kg, Kgs⟩
  icases Vg' with ⟨Vg, Vgs⟩
  unfold Start
  isplitl [HO T1 HbR Kgs Vgs]
  · unfold SigSt
    isplitl [HO]; · iexact HO
    iapply (signals_start c fk fv)
    isplitr; · iexact Hb
    isplitl [T1]; · iexact T1
    isplitl [HbR]; · iexact HbR
    isplitl [Kgs] <;> iassumption
  isplitl [Hbar C1 Khs T3 T4 Vhs T5 T6]
  · isplitl [Hbar C1]
    · unfold barSt
      isplitl [C1] <;> iassumption
    isplitl [Khs T3 T4]
    · iapply (copies_start c (XK c) XK rfl)
      isplitr; · iexact Hb
      isplitl [Khs]; · iexact Khs
      isplitl [T3] <;> iassumption
    · iapply (copies_start' c (XV c) XV rfl)
      isplitr; · iexact Hb
      isplitl [Vhs]; · iexact Vhs
      isplitl [T5] <;> iassumption
  unfold begun
  icases Hb with ⟨-, #Hb7, #Hv7', #Hc⟩
  isplitl [Kh Kg T9]
  · unfold kLoc
    isplitl [Kh]; · iexact Kh
    isplitl [Kg]; · iexists fk; iexact Kg
    isplitl [T9]; · iexact T9
    iexact Hb7
  isplitl [Vh Vg T10]
  · unfold vLoc
    isplitl [Vh]; · iexact Vh
    isplitl [Vg]; · iexists fv; iexact Vg
    isplitl [T10]; · iexact T10
    iexact Hv7'
  isplitl [Hx Hw Qs]
  · unfold QSt
    rw [qsUpto_zero]
    isplitl [Hx]; · iexact Hx
    isplitl [Hw] <;> iassumption
  isplitl [Ac L]
  · unfold ZSt
    isplitl [Ac] <;> iassumption
  isplitl [C2 C3 Hkr Hvr Hk7 Hv7 Hks Hvs]
  · unfold Mid
    isplitl [C2 C3 Hkr Hvr]
    · isplitl [C2]; · iexact C2
      isplitl [C3]; · iexact C3
      isplitl [Hkr] <;> iassumption
    isplitl [Hk7 Hv7]
    · isplitl [Hk7] <;> iassumption
    isplitl [Hks] <;> iassumption
  isplitl [Hcd C4 T2 T7 T8 C5]
  · unfold Late credSt
    isplitl [Hcd C4]
    · isplitl [C4] <;> iassumption
    isplitl [T2]; · iexact T2
    isplitl [T7]; · iexact T7
    isplitl [T8] <;> iassumption
  unfold Room
  isplitl [Ps]; · iexact Ps
  isplitl [Ho] <;> iassumption

end Cert.Proof.Attn

end
-- ==== Proof.Launch.lean ====
/- The launch: the region as a segment of the program, what every device is given at launch, and the whole program's run. -/
module

public import proofs.«01_k».proof.Proof.Region

@[expose] public section

noncomputable section

namespace Cert.Proof.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Ix (Elt F) ℕ UU ℕ

attribute [local irreducible] accTrip denTrip trip3 heads blocks

variable (m : (ℓ : Loc nD τ sig) → Buf (Elt F) ℓ) (c : Dev nD)

/-! ## The region's data -/

/-- The windows' contents: each input block stays, the output block is the result. -/
def leaves (w : Fin cfg0.W) (t : Fin cfg0.N) : (cfg0.win w).block.Idx → Elt F (cfg0.win w).elt :=
  match w with
  | 0 => iblk m c 0 t
  | 1 => iblk m c 1 t
  | 2 => iblk m c 2 t
  | 3 => resultAt m c
  | ⟨_ + 4, h⟩ => absurd h (Nat.not_lt.2 (Nat.le_add_left _ _))

def dat : Dat τ (Elt F) Ix ℕ UU ℕ cfg0 c where
  A w := V m c (Pipeline.arrRef spec0 w)
  after := leaves m c
  Φ t := if t.val = 0 then Found m c else Left m c
  q _ := fullShare
  owed t := if t.val = 0 then O₀ c else 0

/-- An input window's staging buffer holds its block when the body starts. -/
theorem before_0 (d) : (dat m c).before 0 t0_0 d = iblk m c 0 t0_0 :=
  ((dat m c).before_in_eq_fetched 0 rfl (fun _ => rfl) (fun _ _ _ => rfl) (fun _ => rfl) t0_0 d).trans rfl
theorem before_1 (d) : (dat m c).before 1 t0_0 d = iblk m c 1 t0_0 :=
  ((dat m c).before_in_eq_fetched 1 rfl (fun _ => rfl) (fun _ _ _ => rfl) (fun _ => rfl) t0_0 d).trans rfl
theorem before_2 (d) : (dat m c).before 2 t0_0 d = iblk m c 2 t0_0 :=
  ((dat m c).before_in_eq_fetched 2 rfl (fun _ => rfl) (fun _ _ _ => rfl) (fun _ => rfl) t0_0 d).trans rfl

/-- Nothing but the shape is asked of the waits recorded. -/
theorem owes_in (t : Fin (cfg0.N + 1)) {O : CellTallies nD τ sig Ix} (h : (dat m c).owed t = O) : Ow c O ⊢ ((dat m c).owesAt 0 t : sProp 𝕄) := by
  unfold Dat.owesAt Pipeline.owesWithin Dat.bound Ow
  rw [h]
  iintro ⟨%W, HO⟩
  iexists W
  isplitr; · ipureintro; exact fun _ _ => Or.inl trivial
  iexact HO
theorem owes_out (t : Fin (cfg0.N + 1)) {O : CellTallies nD τ sig Ix} (h : (dat m c).owed t = O) : ((dat m c).owesAt 0 t : sProp 𝕄) ⊢ Ow c O := by
  unfold Dat.owesAt Pipeline.owesWithin Ow
  rw [h]
  iintro ⟨%W, -, HO⟩
  iexists W; iexact HO

theorem owed_zero (t : Fin (cfg0.N + 1)) (h : t.val = 0) : (dat m c).owed t = O₀ c := by
  show (if t.val = 0 then O₀ c else 0) = O₀ c; exact if_pos h
theorem owed_after (t : Fin (cfg0.N + 1)) (h : t.val ≠ 0) : (dat m c).owed t = 0 := by
  show (if t.val = 0 then O₀ c else 0) = 0; exact if_neg h
theorem holds_zero (t : Fin (cfg0.N + 1)) (h : t.val = 0) : (dat m c).Φ t = Found m c := by
  show (if t.val = 0 then Found m c else Left m c) = Found m c; exact if_pos h
theorem holds_after (t : Fin (cfg0.N + 1)) (h : t.val ≠ 0) : (dat m c).Φ t = Left m c := by
  show (if t.val = 0 then Found m c else Left m c) = Left m c; exact if_neg h
theorem last_ne : (Fin.last cfg0.N).val ≠ 0 := by
  rw [Fin.val_last, show cfg0.N = 1 from N_0]; decide

/-- The staging buffers the body works on. -/
def B₀ : Bufs := ⟨win0_0.stage (cfg0.slots t0_0 0), hstage0_0 0, win0_1.stage (cfg0.slots t0_0 1), hstage0_1 0, win0_2.stage (cfg0.slots t0_0 2), hstage0_2 0,
  win0_3.stage (cfg0.slots t0_0 3), hstage0_3 0⟩

theorem owns_whole {sp : Space} {s : Shape} {e : EltTy} (r : Memref sig .tc sp s e) (h : r.IsWhole) (X : s.Idx → Elt F e) :
    (owns c r fullShare X : sProp 𝕄) = iprop(∃ f, ⌜r.view.read (Elt F) f = X⌝ ∗ (r.view.loc (c : Thread nD τ) ↦[Finset.univ]{fullShare} f)) := by
  unfold owns; rw [h.set_eq_univ]

/-- A piece run on a part of what is held, with an update of what it leaves. -/
theorem finish {α : Type} {I S R : sProp 𝕄} [BI.Persistent I] {p : Prog (TpuEff nD τ sig (Elt F) Λ₀ .tc) α} {D Q : α → sProp 𝕄}
    (h : iprop(I ∗ S) ⊢ Wp c p D) (h' : ∀ v, iprop(I ∗ D v ∗ R) ⊢ |={Set.univ}=> Q v) : iprop(I ∗ S ∗ R) ⊢ Wp c p Q := by
  refine BIBase.Entails.trans ?_ (wp_fupd frame _ Set.univ p Q)
  refine BIBase.Entails.trans ?_ (wp_mono frame _ Set.univ h')
  have e : iprop(Wp c p D ∗ (I ∗ R)) ⊢ Wp c p (fun v => iprop(D v ∗ (I ∗ R))) := wp_frame_r frame _ Set.univ
  have e' : Wp c p (fun v => iprop(D v ∗ (I ∗ R))) ⊢ Wp c p (fun v => iprop(I ∗ D v ∗ R)) := wp_mono frame _ Set.univ fun v => Entails.of_eq (by ac_rfl)
  refine BIBase.Entails.trans ?_ e'
  refine BIBase.Entails.trans ?_ e
  change (_ : sProp 𝕄) ⊢ (_ : sProp 𝕄)
  iintro ⟨#HI, HS, HR⟩
  isplitl [HS]
  · iapply h
    isplitr; · iexact HI
    iexact HS
  isplitr; · iexact HI
  iexact HR

/-- From what the body leaves, with every cell closed. -/
theorem left_intro (κ : GSem nD τ sig → ℕ) : iprop(InvAt m κ ∗ Done c B₀ (keysAt m) (valsAt m) (actsAt m) (colsAt m) (rowsAt m) ∗ (∃ r, prngReg c r))
    ⊢ |={Set.univ}=> iprop(Left m c ∗ Ow c 0 ∗ xSt B₀ c (actsAt m c) ∗ wSt B₀ c (colsAt m c) ∗ oSt B₀ c (rowsAt m c) ∗ outSt c B₀ (resultAt m c)) := by
  unfold Done Left Operands
  iintro ⟨#HI, ⟨HO, ⟨Hx, Hw, Ho, Hr⟩, Hscr, Hkv, Hpl⟩, Hp⟩
  imod (close_all (keysAt m) (valsAt m) (partsAt m) κ c) $$ [Hpl] with ⟨Hs, Hb⟩
  · isplitr; · iexact HI
    iexact Hpl
  imodintro
  isplitl [Hscr Hkv Hp Hs Hb]
  · isplitl [Hs Hb]
    · isplitl [Hs] <;> iassumption
    isplitl [Hscr]; · iexact Hscr
    isplitl [Hkv] <;> iassumption
  isplitl [HO]; · iexact HO
  isplitl [Hx]; · iexact Hx
  isplitl [Hw]; · iexact Hw
  isplitl [Ho]; · iexact Ho
  unfold resultAt
  iexact Hr

/-- The body from what it finds to what it leaves. -/
theorem body_at : iprop(Found m c ∗ Ow c (O₀ c) ∗ (∃ _d : (cfg0.win 0).block.Idx → Elt F (cfg0.win 0).elt, owns c B₀.a0 fullShare (iblk m c 0 t0_0)) ∗ (∃ _d : (cfg0.win 1).block.Idx → Elt F (cfg0.win 1).elt, owns c B₀.a1 fullShare (iblk m c 1 t0_0))
      ∗ (∃ _d : (cfg0.win 2).block.Idx → Elt F (cfg0.win 2).elt, owns c B₀.a4 fullShare (iblk m c 2 t0_0)) ∗ (∃ d, owns c B₀.a5 fullShare ((dat m c).before 3 t0_0 d)))
    ⊢ Wp c (B₀.of cc0_body) fun _ => iprop(Left m c ∗ Ow c 0 ∗ owns c B₀.a0 fullShare (iblk m c 0 t0_0) ∗ owns c B₀.a1 fullShare (iblk m c 1 t0_0)
      ∗ owns c B₀.a4 fullShare (iblk m c 2 t0_0) ∗ owns c B₀.a5 fullShare (resultAt m c)) := by
  have e0 : (owns c B₀.a0 fullShare (iblk m c 0 t0_0) : sProp 𝕄) = xSt B₀ c (actsAt m c) := owns_whole c B₀.a0 B₀.h0 _
  have e1 : (owns c B₀.a1 fullShare (iblk m c 1 t0_0) : sProp 𝕄) = wSt B₀ c (colsAt m c) := owns_whole c B₀.a1 B₀.h1 _
  have e4 : (owns c B₀.a4 fullShare (iblk m c 2 t0_0) : sProp 𝕄) = oSt B₀ c (rowsAt m c) := owns_whole c B₀.a4 B₀.h4 _
  have e5 : (owns c B₀.a5 fullShare (resultAt m c) : sProp 𝕄) = outSt c B₀ (resultAt m c) := owns_whole c B₀.a5 B₀.h5 _
  have e5' : ∀ d, (owns c B₀.a5 fullShare ((dat m c).before 3 t0_0 d) : sProp 𝕄) = iprop(∃ f, ⌜B₀.a5.view.read (Elt F) f = (dat m c).before 3 t0_0 d⌝ ∗ (B₀.a5.view.loc (c : Thread nD τ) ↦[Finset.univ]{fullShare} f)) :=
    fun d => owns_whole c B₀.a5 B₀.h5 _
  rw [e0, e1, e4, e5, funext e5']
  unfold Found Operands
  iintro ⟨⟨⟨%κ, #HI, Hop, Hsh⟩, Hscr, Hkv, Hp⟩, HO, ⟨%d0, H0⟩, ⟨%d1, H1⟩, ⟨%d4, H4⟩, ⟨%d5, %f5, -, H5⟩⟩
  ihave HS := (start_intro c B₀ (keysAt m) (valsAt m) (actsAt m) (colsAt m) (rowsAt m)) $$ [Hop Hsh Hscr Hkv HO H0 H1 H4 H5]
  · isplitl [Hop]; · iexact Hop
    isplitl [Hsh]; · iexact Hsh
    isplitl [HO]; · iexact HO
    isplitl [Hscr]; · iexact Hscr
    isplitl [Hkv]; · iexact Hkv
    isplitl [H0]; · iexact H0
    isplitl [H1]; · iexact H1
    isplitl [H4]; · iexact H4
    iexists f5; iexact H5
  icases HS with ⟨%f, HS⟩
  iapply (finish c (R := iprop(∃ r, prngReg c r)) (body_run c B₀ (keysAt m) (valsAt m) κ (actsAt m) (colsAt m) (rowsAt m) f) fun _ => left_intro m c κ)
  isplitr; · iexact HI
  isplitl [HS]; · iexact HS
  iexact Hp

theorem body_ok : BodyObligation (dat m c) defs₀ 𝒱₀ (0 : Ix) Set.univ := fun t => by
  obtain rfl := fin_N0 t
  rw [bigSep_W0, bigSep_W0]
  change iprop((dat m c).Φ t0_0.castSucc ∗ (dat m c).owesAt 0 t0_0.castSucc ∗ (∃ d, owns c B₀.a0 fullShare ((dat m c).before 0 t0_0 d))
    ∗ (∃ d, owns c B₀.a1 fullShare ((dat m c).before 1 t0_0 d)) ∗ (∃ d, owns c B₀.a4 fullShare ((dat m c).before 2 t0_0 d)) ∗ (∃ d, owns c B₀.a5 fullShare ((dat m c).before 3 t0_0 d)))
    ⊢ Wp c (B₀.of cc0_body) fun _ => iprop((dat m c).Φ t0_0.succ ∗ (dat m c).owesAt 0 t0_0.succ ∗ owns c B₀.a0 fullShare (iblk m c 0 t0_0) ∗ owns c B₀.a1 fullShare (iblk m c 1 t0_0)
      ∗ owns c B₀.a4 fullShare (iblk m c 2 t0_0) ∗ owns c B₀.a5 fullShare (resultAt m c))
  rw [funext (before_0 m c), funext (before_1 m c), funext (before_2 m c)]
  rw [holds_zero m c t0_0.castSucc rfl, holds_after m c t0_0.succ (Nat.succ_ne_zero _)]
  refine BIBase.Entails.trans (sep_mono .rfl (sep_mono (owes_out m c _ (owed_zero m c _ rfl)) .rfl)) ?_
  refine BIBase.Entails.trans (body_at m c) (wp_mono frame _ Set.univ fun _ => ?_)
  exact sep_mono .rfl (sep_mono (owes_in m c _ (owed_after m c _ (Nat.succ_ne_zero _))) .rfl)

/-! ## The region as a segment -/

abbrev adm : (p : Fin 1) → (pcfgs (F := F) p).Adm := fun p => (cfgs p).toPCfg_adm
def pdats : (p : Fin 1) → (c : Dev nD) → Dat τ (Elt F) Ix ℕ UU ℕ (Pipeline.pin (pcfgs (F := F)) adm p) c := fun _ => dat m

/-- The buffers the launch and the host operations hold, and the two the body copies from itself. -/
abbrev bufs : Finset (DevRef τ sig) := Pipeline.ucRefs τ sig
abbrev others : Finset (DevRef τ sig) := bufs \ Pipeline.arrRefs spec0
abbrev copied : Finset (DevRef τ sig) := {Proc.devRef .tc main_v2, Proc.devRef .tc main_v4}

/-- The buffers' contents at launch, at the region's entry and at its end. -/
abbrev W₀ : Valuation τ sig (Elt F) := fun b => m (c, b)
abbrev W₁ : Valuation τ sig (Elt F) := StableHlo.after hostOps0 (W₀ m c)
def W₂ : Valuation τ sig (Elt F) := Function.update (W₁ m c) (Proc.devRef .tc main_v5) ((dat m c).arrAt 3 cfg0.N)

theorem W₂_of_ne {b : DevRef τ sig} (h : b ≠ Proc.devRef .tc main_v5) : W₂ m c b = W₁ m c b := Function.update_of_ne h _ _
theorem W₂_out : W₂ m c (Proc.devRef .tc main_v5) = (dat m c).arrAt 3 cfg0.N := Function.update_self _ _ _

theorem copied_sub : copied ⊆ others := by decide
theorem arr_sub : Pipeline.arrRefs (τ := τ) spec0 ⊆ bufs := Pipeline.arrRefs_sub_ucRefs spec0 (by decide)

def openAll : sProp 𝕄 := bigSep Finset.univ fun i : Fin 31 => openTok ER ((c : Thread nD τ), osem i)
/-- What the launch gives a device for the exchange; what the body finds of it; what it leaves. -/
def Tk : sProp 𝕄 := iprop(∃ κ, InvAt m κ ∗ openAll c ∗ Share c)
def Xk : sProp 𝕄 := iprop(∃ κ, InvAt m κ ∗ Opened c ∗ Share c)
def Yk : sProp 𝕄 := semVal (barC c) 0

theorem opening : iprop(Tk m c ∗ Pipeline.ownSems0 osem c ∗ levAts L lv) ⊢ (|={Set.univ}=> Xk m c : sProp 𝕄) := by
  unfold Tk Xk openAll
  iintro ⟨⟨%κ, #HI, Ho, Hs⟩, Hos, -⟩
  imod (open_own (keysAt m) (valsAt m) (partsAt m) κ c) $$ [Ho Hos] with H
  · isplitr; · iexact HI
    isplitl [Ho] <;> iassumption
  imodintro
  iexists κ
  isplitr; · iexact HI
  isplitl [H] <;> iassumption

theorem held_copied (V : Valuation τ sig (Elt F)) : (StableHlo.held (c : Thread nD τ) copied V : sProp 𝕄)
    = iprop(khPt c Finset.univ (V (Proc.devRef .tc main_v2)) ∗ vhPt c Finset.univ (V (Proc.devRef .tc main_v4))) := by
  unfold StableHlo.held
  rw [bigSep_eq_bigSepL_of_eq [Proc.devRef .tc main_v2, Proc.devRef .tc main_v4] (by decide) (by decide)]
  rfl

theorem entering : iprop(Pipeline.scopedRest spec0 c ∗ (∃ r, prngReg c r) ∗ StableHlo.held (c : Thread nD τ) copied (W₁ m c) ∗ Xk m c) ⊢ Found m c := by
  rw [scopedRest0_eq, held_copied]
  unfold Found Xk Spent Operands
  iintro ⟨Hs, Hp, Hk, Hx⟩
  isplitl [Hx]; · iexact Hx
  isplitl [Hs]; · iexact Hs
  isplitl [Hk]; · iexact Hk
  iexact Hp

theorem leaving : Left m c ⊢ iprop(Pipeline.scopedRest spec0 c ∗ (∃ r, prngReg c r) ∗ StableHlo.held (c : Thread nD τ) copied (W₂ m c) ∗ Pipeline.ownSems0 osem c ∗ Yk c) := by
  rw [scopedRest0_eq, held_copied, W₂_of_ne m c (show (Proc.devRef .tc main_v2 : DevRef τ sig) ≠ Proc.devRef .tc main_v5 by decide),
    W₂_of_ne m c (show (Proc.devRef .tc main_v4 : DevRef τ sig) ≠ Proc.devRef .tc main_v5 by decide)]
  unfold Left Yk Spent Operands
  iintro ⟨⟨Ho, Hb⟩, Hs, Hk, Hp⟩
  isplitl [Hs]; · iexact Hs
  isplitl [Hp]; · iexact Hp
  isplitl [Hk]; · iexact Hk
  isplitl [Ho] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem staging_low : ∀ (w : Fin 4) (s : Fin (spec0 w).nbuf), ((spec0 w).sem s).val < 11 := by decide

theorem cut : Pipeline.LevelCutOwed (pcfgs (F := F)) adm (pdats m) (0 : Ix) L lv 0 (fun _ => 0) where
  hι c _ _ := by rw [L_tc]; exact Finset.mem_univ _
  hιb _ w s := Nat.le_of_eq (if_pos (staging_low w s))
  hD c t g i h := by
    have e : (pdats m 0 c).owed t = if t.val = 0 then O₀ c else 0 := rfl
    rw [e] at h
    split at h
    · obtain ⟨h₁, h₂⟩ := due_pos h
      exact ⟨h₁, by omega⟩
    · exact absurd h (Nat.lt_irrefl 0)

theorem arr_start (w : Fin cfg0.W) : (dat m c).arrAt w 0 = W₁ m c (Proc.devRef .tc (Pipeline.arrRef spec0 w)) := rfl
theorem arr_end : (w : Fin cfg0.W) → (dat m c).arrAt w cfg0.N = W₂ m c (Proc.devRef .tc (Pipeline.arrRef spec0 w))
  | 0 => ((dat m c).arrAt_in 0 rfl _).trans (W₂_of_ne m c (show (Proc.devRef .tc main_arg0 : DevRef τ sig) ≠ Proc.devRef .tc main_v5 by decide)).symm
  | 1 => ((dat m c).arrAt_in 1 rfl _).trans (W₂_of_ne m c (show (Proc.devRef .tc main_arg1 : DevRef τ sig) ≠ Proc.devRef .tc main_v5 by decide)).symm
  | 2 => ((dat m c).arrAt_in 2 rfl _).trans (W₂_of_ne m c (show (Proc.devRef .tc main_arg4 : DevRef τ sig) ≠ Proc.devRef .tc main_v5 by decide)).symm
  | 3 => (W₂_out m c).symm
  | ⟨_ + 4, h⟩ => absurd h (Nat.not_lt.2 (Nat.le_add_left _ _))

theorem ne_out_of_other {b : DevRef τ sig} (h : b ∈ others) : b ≠ Proc.devRef .tc main_v5 := by
  rintro rfl
  exact (Finset.mem_sdiff.mp h).2 (by decide)

local notation "ℍ" => Pipeline.HostSeg (Name := ℕ) (U := UU) (pcfgs (F := F)) defs₀ 𝒱₀ L lv
local notation "ℝ𝕊" => Pipeline.RegionSeg (pcfgs (F := F)) adm (pdats m) (0 : Ix) defs₀ 𝒱₀ L lv

set_option backward.isDefEq.respectTransparency.types false in
/-- The region: from what the launch gave to the barrier's counter at zero. -/
def region : ℝ𝕊 0 :=
  Pipeline.RegionSeg.ofTalk (pcfgs (F := F)) adm (pdats m) (0 : Ix) defs₀ 𝒱₀ L lv 0 osem (by decide : Pipeline.OwnSemFacts spec0 osem)
    copied others copied_sub kitP rfl (fun c => (body_ok m c).loose)
    (fun _ => 0) O₀ (fun c => (owed_zero m c 0 rfl).trans (zero_add _).symm) (fun c => owed_after m c _ last_ne) (fun _ => rfl)
    (fun c w => by unfold Dat.share; split <;> rfl)
    (W₁ m) (W₂ m) (fun c b hb => W₂_of_ne m c (ne_out_of_other (Finset.mem_sdiff.mp hb).1))
    (Tk m) Yk (Xk m) Yk (opening m) (fun c => (entering m c).trans (Entails.of_eq (holds_zero m c 0 rfl).symm))
    (fun c => (Entails.of_eq (holds_after m c _ last_ne)).trans (leaving m c))
    (fun c => by iintro H; imodintro; iexact H)
    (fun _ => 0) (cut m) (fun _ => iprop(emp)) (arr_start m) (arr_end m)

/-- The host operations as a segment: what rides along is the device's share, the generator register and what it owes. -/
def riding : sProp 𝕄 := iprop(Tk m c ∗ (∃ r, prngReg c r) ∗ Ow c (O₀ c))

def host : ℍ :=
  Pipeline.HostSeg.ofOps _ _ _ _ _ bufs hostOps0 (fun op h => Pipeline.sub_ucRefs op (List.forall_iff_forall_mem.mp hostOps0_sub op h))
    (List.forall_iff_forall_mem.mp hostOps0_fresh) (W₀ m) (riding m)

theorem region_pre : iprop(StableHlo.held (c : Thread nD τ) bufs (W₁ m c) ∗ riding m c) ⊢ (region m).pre c := by
  show _ ⊢ iprop(StableHlo.held (c.tc : Thread nD τ) (Pipeline.arrRefs (τ := τ) spec0) (W₁ m c) ∗ (∃ r, prngReg c r)
    ∗ (StableHlo.held (c.tc : Thread nD τ) others (W₁ m c) ∗ emp) ∗ Tk m c ∗ ∃ Wd, owes (c : Thread nD τ) (0 + O₀ c) Wd)
  rw [StableHlo.held_sub_split (c : Thread nD τ) arr_sub, zero_add]
  unfold riding Ow
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem region_post : (region m).post c ⊢ iprop((StableHlo.held (c : Thread nD τ) bufs (W₂ m c) ∗ semVal (barC c) 0) ∗ ∃ W, owes (c : Thread nD τ) (0 : CellTallies nD τ sig Ix) W) := by
  show iprop(StableHlo.held (c.tc : Thread nD τ) (Pipeline.arrRefs (τ := τ) spec0) (W₂ m c) ∗ (∃ r, prngReg c r)
    ∗ (StableHlo.held (c.tc : Thread nD τ) others (W₂ m c) ∗ emp) ∗ Yk c ∗ ∃ Wd, owes (c : Thread nD τ) (0 : CellTallies nD τ sig Ix) Wd) ⊢ _
  rw [StableHlo.held_sub_split (c : Thread nD τ) arr_sub]
  unfold Yk
  iintro ⟨Ha, -, ⟨Ho, -⟩, Hb, HO⟩
  isplitl [Ha Ho Hb]
  · isplitl [Ha Ho]
    · isplitl [Ha] <;> iassumption
    iexact Hb
  iexact HO

def segs : List (Pipeline.Seg (pcfgs (F := F)) adm (pdats m) (0 : Ix) defs₀ 𝒱₀ L lv) := [.host (host m), .region (region m)]

theorem main_eq : main (F := F) c = Pipeline.Seg.run (segs m) := main_segs adm (pdats m) (0 : Ix) 𝒱₀ L lv (host m) (region m) rfl c

/-! ## The launch -/

theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- What the launch owns: the staging cells' start, and the exchange's. -/
def start : UU :=
  (initOf (Pipeline.cells (Pipeline.pin (pcfgs (F := F)) adm) cellOf_inj) (Pipeline.launchToks (Pipeline.pin (pcfgs (F := F)) adm) cellOf_inj),
    launchOf barCells ownCells tokens)

/-- All of a resource on the first device, to be dealt from there. -/
def parked (X : sProp 𝕄) : sProp 𝕄 := if c = 0 then X else iprop(emp)
theorem parked_all (X : sProp 𝕄) : bigSep Finset.univ (parked · X) = X := by
  rw [bigSep_univ_at _ (0 : Dev nD), bigSep_congr (s := Finset.univ.erase (0 : Dev nD)) (Φ := (parked · X)) (Ψ := fun _ => (BI.emp : sProp 𝕄)) fun c hc => if_neg (Finset.ne_of_mem_erase hc), BI.bigSep_emp_const]
  exact (BI.equiv_iff.mp sep_emp).trans (if_pos rfl)

/-- What every device may consult. -/
def records (κ : GSem nD τ sig → ℕ) : sProp 𝕄 := iprop(InvAt m κ ∗ bigSep Finset.univ fun c : Dev nD => reached ER (barC c) 0)
instance (κ : GSem nD τ sig → ℕ) : BI.Persistent (records m κ) := by unfold records; infer_instance

/-- What of the launch is not the exchange's ghost state. -/
def plain (ρ : Dev nD → PrngReg) : sProp 𝕄 := iprop(StableHlo.held (c : Thread nD τ) bufs (W₀ m c) ∗ Credits c ∗ Ow c (O₀ c) ∗ ∃ r, prngReg c r)

theorem peers_reached : (bigSep Finset.univ fun c : Dev nD => (reached ER (barC c) 0 : sProp 𝕄)) ⊢ bigSep Finset.univ fun k : Fin 7 => (reached ER (barC (peer c k)) 0 : sProp 𝕄) := by
  rw [peers c fun d : Dev nD => (reached ER (barC d) 0 : sProp 𝕄)]
  change (_ : sProp 𝕄) ⊢ (_ : sProp 𝕄)
  iintro ⟨-, H⟩; iexact H

theorem given (ρ : Dev nD → PrngReg) (κ : GSem nD τ sig → ℕ) : iprop(records m κ ∗ ((atPos ER (barC c) 0 ∅ 0 ∗ openAll c ∗ Duties c) ∗ plain m c ρ))
    ⊢ iprop(StableHlo.held (c : Thread nD τ) bufs (W₀ m c) ∗ riding m c) := by
  unfold records plain riding Tk Share
  iintro ⟨⟨#HI, #HR⟩, ⟨Hat, Ho, Hd⟩, Hh, Hc, HO, Hp⟩
  isplitl [Hh]; · iexact Hh
  isplitl [Hat Ho Hd Hc]
  · iexists κ
    isplitr; · iexact HI
    isplitl [Ho]; · iexact Ho
    isplitl [Hat]; · iexact Hat
    isplitr; · iapply (peers_reached c); iexact HR
    isplitl [Hd] <;> iassumption
  isplitl [Hp] <;> iassumption

end Cert.Proof.Attn

end
-- ==== Proof.Whole.lean ====
/- The whole program's run: what the launch owns, dealt to the devices, and what every final state satisfies. -/
module

public import proofs.«01_k».proof.Proof.Launch

@[expose] public section

noncomputable section

namespace Cert.Proof.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Ix (Elt F) ℕ UU ℕ

attribute [local irreducible] accTrip denTrip trip3 heads blocks

variable (m : (ℓ : Loc nD τ sig) → Buf (Elt F) ℓ) (ρ : Dev nD → PrngReg)

abbrev exchange : sProp 𝕄 := BI.own (ER (launchOf barCells ownCells tokens))

theorem counters_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- A device's launch holdings, sorted. -/
theorem sorted (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ parked c exchange)
    ⊢ (iprop(plain m c ρ ∗ (semVal (barC c) 0 ∗ parked c exchange)) : sProp 𝕄) := by
  rw [show unscopedBufs c (fun b => m ((c : Thread nD τ).loc b)) = StableHlo.held (c : Thread nD τ) bufs (W₀ m c) from Pipeline.unscopedBufs_held c (W₀ m c), counters_eq]
  unfold plain Ow
  iintro ⟨Hh, Hs, HO, Hc, Hp, HG⟩
  isplitl [Hh HO Hc Hp]
  · isplitl [Hh]; · iexact Hh
    isplitl [Hc]; · iapply (credits c) $$ Hc
    isplitl [HO]; · iexists ∅; iexact HO
    iexists (ρ c); iexact Hp
  isplitl [Hs] <;> iassumption

theorem over_bar (Φ : GSem nD τ sig → sProp 𝕄) : bigSep barCells Φ = bigSep Finset.univ fun c : Dev nD => Φ (barC c) := bigSep_map (s := Finset.univ) barEmb (Φ := Φ)
theorem over_own : (bigSep ownCells fun g => openTok ER g : sProp 𝕄) = bigSep Finset.univ openAll := by
  rw [bigSep_map, bigSep_univ_prod]; rfl

/-- The launch's deal. -/
theorem deal : iprop((bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ parked c exchange)) ∗ levAts L lv)
    ⊢ (|={Set.univ}=> bigSep Finset.univ fun c : Dev nD => iprop(StableHlo.held (c : Thread nD τ) bufs (W₀ m c) ∗ riding m c) : sProp 𝕄) := by
  have hsort : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ parked c exchange))
      ⊢ (iprop((bigSep Finset.univ fun c => plain m c ρ) ∗ (bigSep barCells fun g => semVal g 0) ∗ exchange) : sProp 𝕄) := by
    refine BIBase.Entails.trans (bigSep_mono fun c _ => sorted m ρ c) ?_
    rw [both, both, parked_all, over_bar]
  have hat : (bigSep barCells fun g => (atPos ER g 0 ∅ 0 : sProp 𝕄)) ⊢ bigSep Finset.univ fun c : Dev nD => (atPos ER (barC c) 0 ∅ 0 : sProp 𝕄) :=
    Entails.of_eq (over_bar fun g => (atPos ER g 0 ∅ 0 : sProp 𝕄))
  have hr : (bigSep barCells fun g => (reached ER g 0 : sProp 𝕄)) ⊢ bigSep Finset.univ fun c : Dev nD => (reached ER (barC c) 0 : sProp 𝕄) :=
    Entails.of_eq (over_bar fun g => (reached ER g 0 : sProp 𝕄))
  have ho : (bigSep ownCells fun g => openTok ER g : sProp 𝕄) ⊢ bigSep Finset.univ openAll := Entails.of_eq over_own
  iintro ⟨H, #Hlev⟩
  ihave H' := hsort $$ H
  icases H' with ⟨HP, Hv, Hu⟩
  imod (Rounds.fund_launch ER (Rd (keysAt m) (valsAt m) (partsAt m)) disjoint_cells (fun g _ h => h) tokens) $$ [Hv Hu] with ⟨%κ, -, #Hinv, #Hr, Hat, Hopen, Htok⟩
  · isplitl [Hv]; · iexact Hv
    iexact Hu
  imodintro
  iapply (bigSep_with_persistent (R := records m κ) (Φ := fun c => iprop((atPos ER (barC c) 0 ∅ 0 ∗ openAll c ∗ Duties c) ∗ plain m c ρ)) fun c _ => given m c ρ κ)
  isplitr
  · unfold records InvAt Inv
    isplitr
    · isplitr; · iexact Hinv
      iexact Hlev
    iapply hr; iexact Hr
  rw [both, both, both]
  isplitr [HP]
  · isplitl [Hat]; · iapply hat $$ Hat
    isplitl [Hopen]; · iapply ho $$ Hopen
    iapply deal_tokens $$ Htok
  iexact HP

/-! ## The run -/

/-- What every device's memory is in the end. -/
def Ends (c : Dev nD) (s : MemSt nD τ sig (Elt F)) : Prop :=
  (s.mem ((c : Thread nD τ).loc main_arg0) = W₂ m c (Proc.devRef .tc main_arg0) ∧ s.mem ((c : Thread nD τ).loc main_arg1) = W₂ m c (Proc.devRef .tc main_arg1)
    ∧ s.mem ((c : Thread nD τ).loc main_arg2) = W₂ m c (Proc.devRef .tc main_arg2) ∧ s.mem ((c : Thread nD τ).loc main_arg3) = W₂ m c (Proc.devRef .tc main_arg3)
    ∧ s.mem ((c : Thread nD τ).loc main_arg4) = W₂ m c (Proc.devRef .tc main_arg4) ∧ s.mem ((c : Thread nD τ).loc main_v5) = W₂ m c (Proc.devRef .tc main_v5))
  ∧ s.sem (barC c) = 0

theorem bufs_eq (c : Dev nD) (V : Valuation τ sig (Elt F)) : (StableHlo.held (c : Thread nD τ) bufs V : sProp 𝕄)
    = iprop(((c : Thread nD τ).loc main_arg0 ↦{fullShare} V main_arg0) ∗ ((c : Thread nD τ).loc main_arg1 ↦{fullShare} V main_arg1) ∗ ((c : Thread nD τ).loc main_arg2 ↦{fullShare} V main_arg2)
      ∗ ((c : Thread nD τ).loc main_arg3 ↦{fullShare} V main_arg3) ∗ ((c : Thread nD τ).loc main_arg4 ↦{fullShare} V main_arg4) ∗ ((c : Thread nD τ).loc main_v5 ↦{fullShare} V main_v5)
      ∗ ((c : Thread nD τ).loc main_v1 ↦{fullShare} V main_v1) ∗ ((c : Thread nD τ).loc main_v2 ↦{fullShare} V main_v2) ∗ ((c : Thread nD τ).loc main_v3 ↦{fullShare} V main_v3) ∗ ((c : Thread nD τ).loc main_v4 ↦{fullShare} V main_v4)) := by
  unfold StableHlo.held
  rw [bigSep_eq_bigSepL_of_eq ([main_arg0, main_arg1, main_arg2, main_arg3, main_arg4, main_v5, main_v1, main_v2, main_v3, main_v4].map (Proc.devRef .tc)) (by decide) (by decide)]
  rfl

theorem ends (c : Dev nD) (s' : Phys nD τ sig (Elt F)) : iprop((StableHlo.held (c : Thread nD τ) bufs (W₂ m c) ∗ semVal (barC c) 0) ∗ SI s')
    ⊢ (|={Set.univ}=> iprop(⌜Ends m c s'.mem⌝ ∗ SI s') : sProp 𝕄) := by
  rw [bufs_eq]
  iintro ⟨⟨⟨H0, H1, H2, H3, H4, H5, -⟩, Hb⟩, HSI⟩
  icombine HSI H0 gives %h0
  icombine HSI H1 gives %h1
  icombine HSI H2 gives %h2
  icombine HSI H3 gives %h3
  icombine HSI H4 gives %h4
  icombine HSI H5 gives %h5
  icombine HSI Hb gives %hb
  imodintro
  isplitr
  · ipureintro
    exact ⟨⟨Buf.eq_of_forall_mem_univ h0, Buf.eq_of_forall_mem_univ h1, Buf.eq_of_forall_mem_univ h2, Buf.eq_of_forall_mem_univ h3, Buf.eq_of_forall_mem_univ h4, Buf.eq_of_forall_mem_univ h5⟩, by simpa using hb⟩
  iexact HSI

theorem unscoped_eq : ∀ sm : SemLoc sig, sm.isScoped .tc = false → sm = .reg barS := by decide

set_option backward.isDefEq.respectTransparency.types false in
/-- From any memory with every counter at zero, every weakly fair execution on the eight devices terminates, and every final
    state has each device's buffers as `W₂` and every counter at zero. -/
theorem run_main : θ_run defs (onTc (τ := τ) (main (F := F))) (s₀ m ρ) (fun r => (∀ c, Ends m c r.2) ∧ r.2.sem = fun _ => 0) :=
  Pipeline.θ_run_regions_kit_sems (pcfgs (F := F)) adm (pdats m) (0 : Ix) cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := (parked · exchange)) (u₀ := start)
    (hu₀ := by
      unfold start
      iintro Hu
      ihave H := (ownU_pair _ _) $$ Hu
      icases H with ⟨HP, HX⟩
      imodintro
      isplitl [HP]; · iexact HP
      rw [parked_all]; iexact HX)
    (T₀ := fun c => iprop(StableHlo.held (c : Thread nD τ) bufs (W₀ m c) ∗ riding m c))
    (Tₙ := fun c => iprop(StableHlo.held (c : Thread nD τ) bufs (W₂ m c) ∗ semVal (barC c) 0))
    (hch := ⟨fun c => .rfl, region_pre m, region_post m⟩)
    (hinit := deal m ρ) (QY := Ends m) (hfin := ends m)
    (hQ := fun s h hs => ⟨h, sem_eq_zero hs fun c sm hsm => by
      obtain rfl := unscoped_eq sm hsm
      exact (h c).2⟩)

end Cert.Proof.Attn

end
-- ==== Proof.Frames.lean ====
/- The kernel's frames: it terminates without fault, its arguments end unchanged and every semaphore counter ends at zero. -/
module

public import proofs.«01_k».proof.Defs
public import proofs.«01_k».proof.Proof.Whole
public import proofs.«01_k».proof.Proof.Gen.Kernel

@[expose] public section

noncomputable section

namespace Cert.Proof.Attn

open Cert.KernelIdeal Cert.KernelIdeal.Gen
open Idealize.ShloMosaic Idealize.ShloMosaic.TcCoe
open Idealize.SL.Sem

variable {F : FTy → Type} [FloatOps F] [Named F]

attribute [local irreducible] accTrip denTrip trip3 heads blocks

/-- The arguments of device `c` as in `m`. -/
abbrev Kept (m : (ℓ : Loc nD τ sig) → Buf (Elt F) ℓ) (s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)

/-- What the run leaves of a device's arguments is what it was launched with. -/
theorem kept_of_ends (m : (ℓ : Loc nD τ sig) → Buf (Elt F) ℓ) (c : Dev nD) {s : MemSt nD τ sig (Elt F)} (h : Ends m c s) : Kept m s.mem c := by
  obtain ⟨⟨h0, h1, h2, h3, h4, -⟩, -⟩ := h
  exact ⟨h0.trans ((W₂_of_ne m c (by decide)).trans (V_main_arg0 m c)), h1.trans ((W₂_of_ne m c (by decide)).trans (V_main_arg1 m c)),
    h2.trans ((W₂_of_ne m c (by decide)).trans (V_main_arg2 m c)), h3.trans ((W₂_of_ne m c (by decide)).trans (V_main_arg3 m c)),
    h4.trans ((W₂_of_ne m c (by decide)).trans (V_main_arg4 m c))⟩

/-- The frame of the kernel at any float type that reads its named constant. -/
def Framed (F : FTy → Type) [FloatOps F] [Named F] : Prop := ∀ (m : (ℓ : Loc nD τ sig) → Buf (Elt F) ℓ) (g : Dev nD → PrngReg), True →
  θ_run (defs (F := F)) (onTc (τ := τ) (main (F := F))) ⟨m, fun _ => 0, g⟩ (fun r => (∀ c : Dev nD, Kept m r.2.mem c) ∧ r.2.sem = fun _ => 0)

theorem framed : Framed F := fun m g _ =>
  (θ_run defs _ _).mono (fun _ h => ⟨fun c => kept_of_ends m c (h.1 c), h.2⟩) (run_main m g)

/-- The frame of the kernel with its mask's constant named. -/
theorem frame_ideal : Cert.quiescent_KernelIdeal := framed (F := Ideal)

/-- At the machine's own floats the named constant is the bit pattern printed. -/
local instance namedBits : Named Bits := ⟨fun _ _ φ bits => Scalar.ofBits φ bits⟩

theorem framed_bits_eq : Framed Bits = Cert.quiescent_Kernel := by
  sl_kernel_rfl

/-- The frame of the kernel as printed. -/
theorem frame_kernel : Cert.quiescent_Kernel := framed_bits_eq ▸ framed (F := Bits)

end Cert.Proof.Attn

end
-- ==== Proof.Host.lean ====
/- The reference's frame, and the named constant of the mask. -/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof.Attn

open Idealize.ShloMosaic Idealize.SL.Sem

/-- The reference terminates without fault and leaves its arguments; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The table gives the name of the mask's constant the value −∞. -/
theorem preserves : Cert.preserves_Kernel_KernelIdeal :=
  IdealRules.named_const.statement Cert.KernelIdeal.κ "mask" .f32 0xCE6E6B28#32 ⊥ rfl

end Cert.Proof.Attn

end
-- ==== Proof.Softmax.lean ====
/- The mathematics of the value claim: a softmax with and without its running maximum, over the extended reals. -/
module

public import Idealize.ShloMosaic.PureOps.Ideal

@[expose] public section

noncomputable section

namespace Cert.Proof.Softmax

open Idealize.ShloMosaic

/-- A value that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} {s : Finset ι} {f : ι → EReal} (h : ∀ j, IsReal (f j)) : IsReal (∑ j ∈ s, f j) := by
  refine Finset.sum_induction f IsReal ?_ ⟨0, rfl⟩ (fun j _ => h j)
  rintro _ _ ⟨a, rfl⟩ ⟨b, rfl⟩
  exact ⟨a + b, (EReal.coe_add a b).symm⟩

/-- A sum over `a * b` places, as `a` runs of `b`. -/
theorem sum_split {a b n : ℕ} (h : a * b = n) (f : Fin n → EReal) :
    ∑ J : Fin n, f J = ∑ s : Fin a, ∑ j : Fin b, f ⟨b * s.val + j.val, by
      have h1 : b * s.val + b ≤ b * a := by rw [← Nat.mul_succ]; exact Nat.mul_le_mul_left b s.isLt
      have h2 := j.isLt
      rw [← h, Nat.mul_comm a b]; omega⟩ := by
  subst h
  rw [← finProdFinEquiv.sum_comp, Fintype.sum_prod_type]
  refine Finset.sum_congr rfl fun s _ => Finset.sum_congr rfl fun j _ => congrArg f (Fin.ext ?_)
  exact Nat.add_comm _ _

/-- A factor that is a nonnegative real goes into a sum. -/
theorem sum_mul_real {ι : Type} (s : Finset ι) (f : ι → EReal) {r : ℝ} (hr : 0 ≤ r) : (∑ j ∈ s, f j) * (r : EReal) = ∑ j ∈ s, f j * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

variable {ι : Type} [Fintype ι] (a : ι → ℝ) (b : ι → Bool)

/-- The exponential of a score, 0 outside the mask. -/
def expo (j : ι) : ℝ := if b j then Real.exp (a j) else 0

theorem expo_nonneg (j : ι) : 0 ≤ expo a b j := by
  unfold expo
  split
  · exact (Real.exp_pos _).le
  · exact le_rfl

theorem expo_sum_pos {j₀ : ι} (h : b j₀ = true) : 0 < ∑ j, expo a b j := by
  refine Finset.sum_pos' (fun j _ => expo_nonneg a b j) ⟨j₀, Finset.mem_univ _, ?_⟩
  unfold expo
  rw [if_pos h]
  exact Real.exp_pos _

/-- Adding 0 or −∞ to a score before the exponential. -/
theorem exp_bias (j : ι) : Ideal.exp ((a j : EReal) + if b j then 0 else ⊥) = (expo a b j : EReal) := by
  unfold expo
  cases b j
  · simp
  · simp

/-- A score, −∞ outside the mask. -/
abbrev masked (j : ι) : EReal := if b j then (a j : EReal) else ⊥

/-- The largest of them is a real number. -/
theorem max_real {j₀ : ι} (h : b j₀ = true) : IsReal (Finset.univ.fold max ⊥ (masked a b)) := by
  have h1 : Finset.univ.fold max ⊥ (masked a b) < ⊤ := by
    refine (Finset.fold_max_lt _).2 ⟨bot_lt_top, fun j _ => ?_⟩
    unfold masked
    split
    · exact EReal.coe_lt_top _
    · exact bot_lt_top
  have h2 : ⊥ < Finset.univ.fold max ⊥ (masked a b) := by
    refine (Finset.lt_fold_max _).2 (Or.inr ⟨j₀, Finset.mem_univ _, ?_⟩)
    unfold masked
    rw [if_pos h]
    exact EReal.bot_lt_coe _
  exact ⟨_, (EReal.coe_toReal h1.ne h2.ne').symm⟩

/-- The exponential of a score over the maximum. -/
theorem exp_masked (μ : ℝ) (j : ι) : Ideal.exp (masked a b j - (μ : EReal)) = ((expo a b j * Real.exp (-μ) : ℝ) : EReal) := by
  unfold expo masked
  cases b j
  · simp
  · simp only [if_true, ← EReal.coe_sub, Ideal.exp_coe]
    rw [sub_eq_add_neg, Real.exp_add]

/-- Subtracting the maximum changes no weight. -/
theorem weight_eq {j₀ : ι} (h : b j₀ = true) (j : ι) :
    Ideal.div (Ideal.exp (masked a b j - Finset.univ.fold max ⊥ (masked a b))) (∑ j', Ideal.exp (masked a b j' - Finset.univ.fold max ⊥ (masked a b)))
      = ((expo a b j * (1 / ∑ j', expo a b j') : ℝ) : EReal) := by
  obtain ⟨μ, hμ⟩ := max_real a b h
  have hp := expo_sum_pos a b h
  have he := Real.exp_pos (-μ)
  rw [hμ]
  simp only [exp_masked]
  rw [← coe_sum, ← Finset.sum_mul, Ideal.div_coe (mul_pos hp he).ne', ← EReal.coe_mul]
  congr 1
  field_simp

/-- The weighted sum of values, with the weights divided before or after. -/
theorem attend_eq {j₀ : ι} (h : b j₀ = true) (v : ι → EReal) :
    Ideal.div (∑ j, Ideal.exp ((a j : EReal) + if b j then 0 else ⊥) * v j) (∑ j, Ideal.exp ((a j : EReal) + if b j then 0 else ⊥))
      = ∑ j, v j * Ideal.div (Ideal.exp (masked a b j - Finset.univ.fold max ⊥ (masked a b))) (∑ j', Ideal.exp (masked a b j' - Finset.univ.fold max ⊥ (masked a b))) := by
  have hp := expo_sum_pos a b h
  simp only [weight_eq a b h, exp_bias]
  rw [← coe_sum, Ideal.div_coe hp.ne', sum_mul_real _ _ (by positivity)]
  refine Finset.sum_congr rfl fun j _ => ?_
  rw [EReal.coe_mul, mul_comm (expo a b j : EReal) (v j), mul_assoc]

end Cert.Proof.Softmax

end
-- ==== Proof.Pre.lean ====
/- The precondition: what it says of a device's blocks, element by element. -/
module

public import proofs.«01_k».proof.Proof.Softmax
public import proofs.«01_k».proof.Pre_finite_KernelIdeal
public import proofs.«01_k».proof.Pre_finite_ReferenceIdeal
public import Idealize.ShloMosaic.Lib.Pointwise
public import Idealize.ShloMosaic.Lib.ReduceAll

@[expose] public section

set_option maxRecDepth 16384

noncomputable section

namespace Cert.Proof.Attn

open Idealize.ShloMosaic

instance pre_kernel_facts : Cert.Pre_finite_KernelIdeal.Facts where
  bitsLt_bf16_f32 := by decide
  bcast_S_S1x1024x1024 := by decide
  reducesTo_S1x1024x1024_S_d0_1_2 := by decide
  h_S_ := by decide
  bcast_S_S1024x1024 := by decide
  reducesTo_S1024x1024_S_d0_1 := by decide
  bcast_S_S1x1024x64x128 := by decide
  reducesTo_S1x1024x64x128_S_d0_1_2_3 := by decide

instance pre_reference_facts : Cert.Pre_finite_ReferenceIdeal.Facts where
  bitsLt_bf16_f32 := by decide
  bcast_S_S1x1024x1024 := by decide
  reducesTo_S1x1024x1024_S_d0_1_2 := by decide
  h_S_ := by decide
  bcast_S_S1024x8192 := by decide
  reducesTo_S1024x8192_S_d0_1 := by decide
  bcast_S_S1x8192x64x128 := by decide
  reducesTo_S1x8192x64x128_S_d0_1_2_3 := by decide

open Cert.Pre_finite_KernelIdeal
open Cert.Proof.Softmax (IsReal)

theorem and_one : ∀ a b : BitVec 1, IntOp.andi a b = 1#1 → a = 1#1 ∧ b = 1#1 := by decide

/-- An element whose magnitude is below ∞ is a real number. -/
theorem real_of_lt {S : Shape} (hb : S_.BroadcastsInDim S (![] : Fin 0 → Fin S.rank)) (hl : FTy.bits .bf16 < FTy.bits .f32) (x : Vec Ideal S .bf16) (i : S.Idx)
    (h : (cmpf .olt (Host.absf (extf .f32 (x : FVec Ideal S .bf16) hl)) (broadcastInDim S ![] hb (constant (F := Ideal) S_ .f32 0x7F800000#32)) : IVec S 1) i = 1#1) :
    IsReal (x i) := by
  have h' : BitVec.ofBool (decide (max (x i : EReal) (-(x i : EReal)) < Ideal.ofBits .f32 0x7F800000#32)) = 1#1 := h
  have htop : Ideal.ofBits .f32 0x7F800000#32 = (⊤ : EReal) := by simp [Ideal.ofBits, Ideal.ieee]
  rw [htop] at h'
  have hlt : max (x i : EReal) (-(x i : EReal)) < ⊤ := by
    by_contra hn
    rw [decide_eq_false hn] at h'
    exact absurd h' (by decide)
  obtain ⟨h1, h2⟩ := max_lt_iff.1 hlt
  refine ⟨(x i : EReal).toReal, (EReal.coe_toReal h1.ne fun hb => ?_).symm⟩
  rw [hb] at h2
  exact absurd h2 (by simp)

/-- What the precondition says: the activations, the query weights and the keys are real numbers. -/
theorem finite_of_pre (x : Vec Ideal S1x1024x1024 .bf16) (w : Vec Ideal S1024x1024 .bf16) (k v : Vec Ideal S1x1024x64x128 .bf16) (o : Vec Ideal S1024x1024 .bf16)
    (h : Cert.Pre_finite_KernelIdeal.fn (F := Ideal) x w k v o = fun _ => 1#1) :
    (∀ i, IsReal (x i)) ∧ (∀ i, IsReal (w i)) ∧ (∀ i, IsReal (k i)) := by
  have : Subsingleton S_.Idx := ⟨fun _ _ => funext fun a => a.elim0⟩
  obtain ⟨h12, h3⟩ := and_one _ _ (congrFun h ix0)
  obtain ⟨h1, h2⟩ := and_one _ _ h12
  exact ⟨fun i => real_of_lt Facts.bcast_S_S1x1024x1024 Facts.bitsLt_bf16_f32 x i (Host.reduce_andi_all _ _ _ _ _ h1 i),
    fun i => real_of_lt Facts.bcast_S_S1024x1024 Facts.bitsLt_bf16_f32 w i (Host.reduce_andi_all _ _ _ _ _ h2 i),
    fun i => real_of_lt Facts.bcast_S_S1x1024x64x128 Facts.bitsLt_bf16_f32 k i (Host.reduce_andi_all _ _ _ _ _ h3 i)⟩

end Cert.Proof.Attn

end
-- ==== Proof.Payloads.lean ====
/- The kernel's values at an index, over the extended reals. -/
module

public import proofs.«01_k».proof.Proof.Gen.KernelIdeal.Skeleton
public import Idealize.ShloMosaic.Lib.Pointwise
public import Idealize.ShloMosaic.PureOps.Ideal

@[expose] public section

set_option maxRecDepth 16384

noncomputable section

namespace Cert.Proof.AttnValue

open Cert.KernelIdeal Cert.KernelIdeal.Gen
open Idealize.ShloMosaic

/-- The factor that scales the scores. -/
def scale : EReal := Ideal.ofBits .f32 0x3DB504F3#32

/-- A query: a row of the activations against a column of the weights. -/
theorem query_apply (x : Vec Ideal S1x1024x1024 .bf16) (w : Vec Ideal S1024x128 .bf16) (i : Fin 1024) (d : Fin 128) :
    (k0_pay9 x w (ix3 0 i d) : EReal) = ∑ k : Fin 1024, (x (ix3 0 i k) : EReal) * (w (ix2 k d) : EReal) := by
  pointwise [k0_pay9]

/-- The exponential of a scaled score and its bias. -/
theorem weight_apply (b : FVec Ideal S256x1024 .f32) (q : Vec Ideal S1x256x128 .bf16) (k : Vec Ideal S1x1x1024x128 .bf16) (r : Fin 256) (j : Fin 1024) :
    (k0_pay2 b q k (ix2 r j) : EReal) = Ideal.exp ((∑ e : Fin 128, (q (ix3 0 r e) : EReal) * (k (ix4 0 0 j e) : EReal)) * scale + (b (ix2 r j) : EReal)) := by
  unfold scale
  pointwise [k0_pay2]

/-- One step of the weighted sum of the values. -/
theorem acc_apply (b : FVec Ideal S256x1024 .f32) (q : Vec Ideal S1x256x128 .bf16) (k v : Vec Ideal S1x1x1024x128 .bf16) (a : Vec Ideal S1x256x128 .f32)
    (r : Fin 256) (d : Fin 128) :
    (k0_pay3 b q k v a (ix3 0 r d) : EReal) = (a (ix3 0 r d) : EReal) + ∑ j : Fin 1024, (k0_pay2 b q k (ix2 r j) : EReal) * (v (ix4 0 0 j d) : EReal) := by
  pointwise [k0_pay3]

/-- One step of the sum of the weights. -/
theorem den_apply (b : FVec Ideal S256x1024 .f32) (q : Vec Ideal S1x256x128 .bf16) (k : Vec Ideal S1x1x1024x128 .bf16) (l : Vec Ideal S1x1x2x128x1 .bf16)
    (u : Fin 2) (w : Fin 128) :
    (k0_pay23 (k0_pay4 b q k l) (ix5 0 0 u w 0) : EReal) = (l (ix5 0 0 u w 0) : EReal) + ∑ j : Fin 1024, (k0_pay2 b q k (ix2 ⟨u.val * 128 + w.val, by omega⟩ j) : EReal) := by
  pointwise [k0_pay23, k0_pay4]

/-- One head's part of the projected output. -/
theorem product_apply (o : FVec Ideal S1024x1024 .f32) (a : Vec Ideal S1x1024x128 .f32) (l : Vec Ideal S1x4x2x128x1 .bf16) (w : Vec Ideal S128x1024 .bf16)
    (i : Fin 1024) (j : Fin 1024) :
    (k0_pay25 o a l w (ix2 i j) : EReal) = (o (ix2 i j) : EReal) + ∑ d : Fin 128, Ideal.div (a (ix3 0 i d)) (l (ix5 0 ⟨i.val / 256, by omega⟩ ⟨i.val / 128 % 2, by omega⟩ ⟨i.val % 128, by omega⟩ 0)) * (w (ix2 d j) : EReal) := by
  pointwise [k0_pay25]

end Cert.Proof.AttnValue

end
-- ==== Proof.Mask.lean ====
/- The block-sparse mask: which key positions a query position sees, and that the kernel's bias is 0 there and −∞ elsewhere. -/
module

public import proofs.«01_k».proof.Proof.Payloads
public import proofs.«01_k».proof.Proof.Contents

@[expose] public section

set_option maxRecDepth 16384

noncomputable section

namespace Cert.Proof.AttnValue

open Cert.KernelIdeal Cert.KernelIdeal.Gen
open Idealize.ShloMosaic
open Cert.Proof.Attn (biasAt kcW meW)

/-- Query position `i` sees key position `j`: the same block of 64, the first block, or block numbers that add up to a multiple of 3. -/
def seen (i j : ℕ) : Bool := decide (i / 64 = j / 64) || decide (j / 64 = 0) || decide ((i / 64 + j / 64) % 3 = 0)

/-- The number of a position's block, as the kernel computes it on words. -/
abbrev blockWord (w : BitVec 32) : BitVec 32 :=
  Scalar.select (IntOp.andi (IntOp.cmpi .ne (IntOp.subi (BitVec.setWidth 32 (IntOp.cmpi .sgt w 0#32)) (BitVec.setWidth 32 (IntOp.cmpi .slt w 0#32)))
      (Scalar.subi (Scalar.extui (Scalar.cmpi .sgt 64#32 0#32)) (Scalar.extui (Scalar.cmpi .slt 64#32 0#32))))
      (IntOp.cmpi .ne (IntOp.remsi ArithUnit.vector w 64#32) 0#32))
    (IntOp.subi (IntOp.divsi ArithUnit.vector w 64#32) 1#32) (IntOp.divsi ArithUnit.vector w 64#32)

/-- The mask's bit of two block numbers, as the kernel computes it. -/
abbrev seenWord (a b : BitVec 32) : BitVec 1 :=
  IntOp.ori (IntOp.ori (IntOp.cmpi .eq a b) (IntOp.cmpi .eq b 0#32)) (IntOp.cmpi .eq (IntOp.remsi ArithUnit.vector (IntOp.addi a b) 3#32) 0#32)

theorem blockWord_eq : ∀ n : Fin 8192, blockWord (BitVec.ofNat 32 n.val) = BitVec.ofNat 32 (n.val / 64) := by decide +kernel

theorem seenWord_eq : ∀ (a : Fin 16) (b : Fin 128), seenWord (BitVec.ofNat 32 a.val) (BitVec.ofNat 32 b.val)
    = BitVec.ofBool (decide (a.val = b.val) || decide (b.val = 0) || decide ((a.val + b.val) % 3 = 0)) := by decide +kernel

theorem seenWord_seen (i : Fin 1024) (j : Fin 8192) :
    seenWord (BitVec.ofNat 32 (i.val / 64)) (BitVec.ofNat 32 (j.val / 64)) = BitVec.ofBool (seen i.val j.val) :=
  seenWord_eq ⟨i.val / 64, by omega⟩ ⟨j.val / 64, by omega⟩

theorem kcW_eq : ∀ (c : Dev nD) (t1 : Fin k0_t1_loop.trips), kcW c t1 = BitVec.ofNat 32 ((c.val + 8 - t1.val) % 8) := by decide +kernel

theorem rowWord_eq : ∀ (t2 : Fin k0_t2_loop.trips) (r : Fin 256),
    IntOp.addi (Scalar.muli (Scf.iv 0#32 1#32 t2.val) 256#32) (BitVec.ofNat 32 r.val) = BitVec.ofNat 32 (256 * t2.val + r.val) := by decide +kernel

theorem colWord_eq : ∀ (k : Fin 8) (j : Fin 1024),
    IntOp.addi (Scalar.muli (BitVec.ofNat 32 k.val) 1024#32) (BitVec.ofNat 32 j.val) = BitVec.ofNat 32 (1024 * k.val + j.val) := by decide +kernel

theorem trips2 : k0_t2_loop.trips = 4 := by decide

/-- The kernel's bias in the round in which the device attends to chunk `(c + 8 - t1) % 8`. -/
theorem bias_apply (c : Dev nD) (t1 : Fin k0_t1_loop.trips) (t2 : Fin k0_t2_loop.trips) (r : Fin 256) (j : Fin 1024) :
    (biasAt (F := Ideal) c t1 t2 (ix2 r j) : EReal) = if seen (256 * t2.val + r.val) (1024 * ((c.val + 8 - t1.val) % 8) + j.val) then 0 else ⊥ := by
  have h2 : t2.val < 4 := trips2 ▸ t2.isLt
  have hk : (c.val + 8 - t1.val) % 8 < 8 := Nat.mod_lt _ (by decide)
  unfold biasAt
  rw [kcW_eq]
  pointwise [k0_pay22, k0_pay5, k0_pay6, k0_pay7, k0_pay8]
  rw [rowWord_eq, colWord_eq ⟨(c.val + 8 - t1.val) % 8, hk⟩ j]
  change Scalar.select (seenWord (blockWord _) (blockWord _)) _ _ = _
  rw [blockWord_eq ⟨256 * t2.val + r.val, by omega⟩, blockWord_eq ⟨1024 * ((c.val + 8 - t1.val) % 8) + j.val, by omega⟩]
  rw [seenWord_seen ⟨256 * t2.val + r.val, by omega⟩ ⟨1024 * ((c.val + 8 - t1.val) % 8) + j.val, by omega⟩]
  show Scalar.select (BitVec.ofBool (seen (256 * t2.val + r.val) (1024 * ((c.val + 8 - t1.val) % 8) + j.val))) _ _ = _
  generalize seen (256 * t2.val + r.val) (1024 * ((c.val + 8 - t1.val) % 8) + j.val) = b
  cases b
  · rfl
  · rfl

end Cert.Proof.AttnValue

end
-- ==== Proof.Trips.lean ====
/- One trip of the kernel's inner loop at an index: it adds one chunk's weighted values, and one chunk's weights. -/
module

public import proofs.«01_k».proof.Proof.Mask

@[expose] public section

set_option maxRecDepth 16384

noncomputable section

namespace Cert.Proof.AttnValue

open Cert.KernelIdeal Cert.KernelIdeal.Gen
open Idealize.ShloMosaic
open Cert.Proof.Attn (biasAt kcW meW Seq Par gathered qsOf qHead wqCols qAt kAt vAt accTrip denTrip trip3 acM lM qsM kgM vgM rowsR slotR denR Act Den)

theorem trips1 : k0_t1_loop.trips = 8 := by decide
theorem trips3 : k0_t3_loop.trips = 8 := by decide
theorem lt1 (t : Fin k0_t1_loop.trips) : t.val < 8 := trips1 ▸ t.isLt
theorem lt2 (t : Fin k0_t2_loop.trips) : t.val < 4 := trips2 ▸ t.isLt
theorem lt3 (t : Fin k0_t3_loop.trips) : t.val < 8 := trips3 ▸ t.isLt

/-- The chunk that device `c` attends to in round `t`. -/
def chunk (c : Dev nD) (t : ℕ) : Dev nD := ⟨(c.val + 8 - t) % 8, Nat.mod_lt _ (by decide)⟩

/-- Head `h` of device `c`, among all heads. -/
def headAt (c : Dev nD) (h : Fin 8) : Fin 64 := ⟨8 * c.val + h.val, by have : c.val < 8 := c.isLt; omega⟩

variable (XK XV : Dev nD → Seq Ideal) (X : Dev nD → Vec Ideal S1x1024x1024 .bf16) (WQ WO : Dev nD → Vec Ideal S1024x1024 .bf16)

/-- A query's coordinate. -/
def qry (c : Dev nD) (h : Fin 8) (i : Fin 1024) (e : Fin 128) : EReal :=
  ∑ k : Fin 1024, (X c (ix3 0 i k) : EReal) * (WQ c (ix2 k ⟨128 * h.val + e.val, by omega⟩) : EReal)

/-- The weight of key `j` of chunk `s` for query `i` of head `h` of device `c`. -/
def wgt (c : Dev nD) (h : Fin 8) (i : Fin 1024) (s : Dev nD) (j : Fin 1024) : EReal :=
  Ideal.exp ((∑ e : Fin 128, qry X WQ c h i e * (XK s (ix3 (headAt c h) j e) : EReal)) * scale
    + if seen i.val (1024 * s.val + j.val) then 0 else ⊥)

theorem qs_apply (x : Vec Ideal S1x1024x1024 .bf16) (w : Vec Ideal S1024x1024 .bf16) (h : Fin 8) (i : Fin 1024) (e : Fin 128) :
    (qsOf x w (ix3 h i e) : EReal) = ∑ k : Fin 1024, (x (ix3 0 i k) : EReal) * (w (ix2 k ⟨128 * h.val + e.val, by omega⟩) : EReal) := by
  refine Eq.trans (congrArg (qHead x w h) (?_ : _ = ix3 0 i e)) ((query_apply x (wqCols w h) i e).trans (Finset.sum_congr rfl fun k _ => congrArg (_ * ·) (congrArg w ?_)))
  · funext a; match a with | ⟨0, _⟩ => rfl | ⟨1, _⟩ => rfl | ⟨2, _⟩ => rfl
  · funext a; match a with | ⟨0, _⟩ => rfl | ⟨1, _⟩ => rfl

theorem q_read (c : Dev nD) (t2 : Fin k0_t2_loop.trips) (t3 : Fin k0_t3_loop.trips) (r : Fin 256) (e : Fin 128) :
    (qAt X WQ c t2 t3 (ix3 0 r e) : EReal)
      = qry X WQ c ⟨t3.val, lt3 t3⟩ ⟨256 * t2.val + r.val, by have := lt2 t2; omega⟩ e := by
  refine Eq.trans ?_ (qs_apply (X c) (WQ c) _ _ e)
  refine congrArg (qsOf (X c) (WQ c)) (funext fun a => Fin.ext ?_)
  show k0_off6 t2 t3 a + 1 * (ix3 0 r e a).val = _
  rw [k0_off6_eq, Nat.one_mul]
  match a with | ⟨0, _⟩ => rfl | ⟨1, _⟩ => rfl | ⟨2, _⟩ => exact Nat.zero_add _

theorem gathered_apply (Y : Dev nD → Seq Ideal) (c : Dev nD) (h s : Fin 8) (j : Fin 1024) (e : Fin 128) :
    (gathered Y c (ix4 h s j e) : EReal) = Y s (ix3 (headAt c h) j e) := by
  refine congrArg (Y s) (funext fun a => Fin.ext ?_)
  match a with | ⟨0, _⟩ => rfl | ⟨1, _⟩ => rfl | ⟨2, _⟩ => rfl

theorem k_read (c : Dev nD) (t1 : Fin k0_t1_loop.trips) (t3 : Fin k0_t3_loop.trips) (j : Fin 1024) (e : Fin 128) :
    (kAt XK c t1 t3 (ix4 0 0 j e) : EReal) = XK (chunk c t1.val) (ix3 (headAt c ⟨t3.val, lt3 t3⟩) j e) := by
  refine Eq.trans ?_ (gathered_apply XK c ⟨t3.val, lt3 t3⟩ (chunk c t1.val) j e)
  refine congrArg (gathered XK c) (funext fun a => Fin.ext ?_)
  show k0_off7 c t1 t3 a + 1 * ((ix4 0 0 j e : S1x1x1024x128.Idx) a).val = _
  rw [k0_off7_eq, Nat.one_mul]
  match a with | ⟨0, _⟩ => rfl | ⟨1, _⟩ => rfl | ⟨2, _⟩ => exact Nat.zero_add _ | ⟨3, _⟩ => exact Nat.zero_add _

theorem v_read (c : Dev nD) (t1 : Fin k0_t1_loop.trips) (t3 : Fin k0_t3_loop.trips) (j : Fin 1024) (e : Fin 128) :
    (vAt XV c t1 t3 (ix4 0 0 j e) : EReal) = XV (chunk c t1.val) (ix3 (headAt c ⟨t3.val, lt3 t3⟩) j e) := k_read XV c t1 t3 j e

theorem pay2_read (c : Dev nD) (t1 : Fin k0_t1_loop.trips) (t2 : Fin k0_t2_loop.trips) (t3 : Fin k0_t3_loop.trips) (r : Fin 256) (j : Fin 1024) :
    (k0_pay2 (biasAt c t1 t2) (qAt X WQ c t2 t3) (kAt XK c t1 t3) (ix2 r j) : EReal)
      = wgt XK X WQ c ⟨t3.val, lt3 t3⟩ ⟨256 * t2.val + r.val, by have := lt2 t2; omega⟩ (chunk c t1.val) j := by
  rw [weight_apply, bias_apply]
  unfold wgt
  refine congrArg Ideal.exp (congrArg₂ (· + ·) (congrArg (· * scale) (Finset.sum_congr rfl fun e _ => ?_)) rfl)
  rw [q_read, k_read]

/-- The weighted values that round `t1` adds. -/
def accPart (c : Dev nD) (t : ℕ) (h : Fin 8) (i : Fin 1024) (d : Fin 128) : EReal :=
  ∑ j : Fin 1024, wgt XK X WQ c h i (chunk c t) j * (XV (chunk c t) (ix3 (headAt c h) j d) : EReal)
/-- The weights that round `t1` adds. -/
def denPart (c : Dev nD) (t : ℕ) (h : Fin 8) (i : Fin 1024) : EReal :=
  ∑ j : Fin 1024, wgt XK X WQ c h i (chunk c t) j

/-- A trip adds to the rows of its head and its block, and to nothing else. -/
theorem accTrip_apply (c : Dev nD) (t1 : Fin k0_t1_loop.trips) (t2 : Fin k0_t2_loop.trips) (t3 : Fin k0_t3_loop.trips) (s : Act Ideal × Den Ideal)
    (h : Fin 8) (i : Fin 1024) (d : Fin 128) :
    (accTrip XK XV X WQ c t1 t2 t3 s (ix3 h i d) : EReal)
      = (s.1 (ix3 h i d) : EReal) + if t3.val = h.val then (if t2.val = i.val / 256 then accPart XK XV X WQ c t1.val h i d else 0) else 0 := by
  have hv : ∀ (x : S1x256x128.Idx) (a : Fin 3), ((acM.access (rowsR t2 t3)).emb x a).val = ![t3.val, 256 * t2.val, 0] a + (x a).val := by
    intro x a
    show k0_off6 t2 t3 a + 1 * (x a).val = _
    rw [k0_off6_eq, Nat.one_mul]
  have h3 := lt3 t3
  have h2 := lt2 t2
  unfold accTrip
  by_cases hc : t3.val = h.val ∧ t2.val = i.val / 256
  · rw [if_pos hc.1, if_pos hc.2]
    have hr : i.val % 256 < 256 := Nat.mod_lt _ (by decide)
    have e : (ix3 h i d : S8x1024x128.Idx) = (acM.access (rowsR t2 t3)).emb (ix3 0 ⟨i.val % 256, hr⟩ d : S1x256x128.Idx) := by
      funext a
      apply Fin.ext
      rw [hv]
      match a with
      | ⟨0, _⟩ => exact hc.1.symm
      | ⟨1, _⟩ => show i.val = 256 * t2.val + i.val % 256; omega
      | ⟨2, _⟩ => exact (Nat.zero_add _).symm
    have eh : (⟨t3.val, h3⟩ : Fin 8) = h := Fin.ext hc.1
    have ei : (⟨256 * t2.val + i.val % 256, by omega⟩ : Fin 1024) = i := Fin.ext (by show 256 * t2.val + i.val % 256 = i.val; omega)
    refine (congrArg _ e).trans ((View.write_emb_of_mem (v := acM.access (rowsR t2 t3)) _ _ (Finset.mem_univ _)).trans ((cast_eq _ _).trans ?_))
    refine (acc_apply _ _ _ _ _ ⟨i.val % 256, hr⟩ d).trans (congrArg₂ (· + ·) ?_ (Finset.sum_congr rfl fun j _ => congrArg₂ (· * ·) ?_ ?_))
    · exact congrArg s.1 e.symm
    · rw [pay2_read, eh, ei]
    · rw [v_read, eh]
  · rw [View.write_of_not_mem, ← ite_and, if_neg hc]
    · exact (add_zero _).symm
    · intro hm
      obtain ⟨x, -, hx⟩ := Finset.mem_map.mp hm
      apply hc
      have e0 := hv x 0
      have e1 := hv x 1
      rw [hx] at e0 e1
      have x0 : (x 0).val < 1 := (x 0).isLt
      have x1 : (x 1).val < 256 := (x 1).isLt
      change h.val = t3.val + (x 0).val at e0
      change i.val = 256 * t2.val + (x 1).val at e1
      omega

/-- The same for the sum of the weights. -/
theorem denTrip_apply (c : Dev nD) (t1 : Fin k0_t1_loop.trips) (t2 : Fin k0_t2_loop.trips) (t3 : Fin k0_t3_loop.trips) (s : Act Ideal × Den Ideal)
    (h : Fin 8) (b : Fin 4) (u : Fin 2) (w : Fin 128) :
    (denTrip XK X WQ c t1 t2 t3 s (ix5 h b u w 0) : EReal)
      = (s.2 (ix5 h b u w 0) : EReal) + if t3.val = h.val then (if t2.val = b.val then denPart XK X WQ c t1.val h ⟨256 * b.val + (u.val * 128 + w.val), by omega⟩ else 0) else 0 := by
  have hv : ∀ (x : S1x1x2x128x1.Idx) (a : Fin 5), ((lM.access (denR t2 t3)).emb x a).val = ![t3.val, t2.val, 0, 0, 0] a + (x a).val := by
    intro x a
    show k0_off8 t2 t3 a + 1 * (x a).val = _
    rw [k0_off8_eq, Nat.one_mul]
  have h3 := lt3 t3
  have h2 := lt2 t2
  unfold denTrip
  by_cases hc : t3.val = h.val ∧ t2.val = b.val
  · rw [if_pos hc.1, if_pos hc.2]
    have e : (ix5 h b u w 0 : S8x4x2x128x1.Idx) = (lM.access (denR t2 t3)).emb (ix5 0 0 u w 0 : S1x1x2x128x1.Idx) := by
      funext a
      apply Fin.ext
      rw [hv]
      match a with
      | ⟨0, _⟩ => exact hc.1.symm
      | ⟨1, _⟩ => exact hc.2.symm
      | ⟨2, _⟩ => exact (Nat.zero_add _).symm
      | ⟨3, _⟩ => exact (Nat.zero_add _).symm
      | ⟨4, _⟩ => rfl
    have eh : (⟨t3.val, h3⟩ : Fin 8) = h := Fin.ext hc.1
    refine (congrArg _ e).trans ((View.write_emb_of_mem (v := lM.access (denR t2 t3)) _ _ (Finset.mem_univ _)).trans ((cast_eq _ _).trans ?_))
    refine (den_apply _ _ _ _ u w).trans (congrArg₂ (· + ·) ?_ (Finset.sum_congr rfl fun j _ => ?_))
    · exact congrArg s.2 e.symm
    · rw [pay2_read, eh]
      exact congrArg (wgt XK X WQ c h · (chunk c t1.val) j) (Fin.ext (by show 256 * t2.val + (u.val * 128 + w.val) = 256 * b.val + (u.val * 128 + w.val); rw [hc.2]))
  · rw [View.write_of_not_mem, ← ite_and, if_neg hc]
    · exact (add_zero _).symm
    · intro hm
      obtain ⟨x, -, hx⟩ := Finset.mem_map.mp hm
      apply hc
      have e0 := hv x 0
      have e1 := hv x 1
      rw [hx] at e0 e1
      have x0 : (x 0).val < 1 := (x 0).isLt
      have x1 : (x 1).val < 1 := (x 1).isLt
      change h.val = t3.val + (x 0).val at e0
      change b.val = t2.val + (x 1).val at e1
      omega

end Cert.Proof.AttnValue

end
-- ==== Proof.Sums.lean ====
/- The kernel's loops summed up: what a device returns, as a sum over all devices, heads and keys. -/
module

public import proofs.«01_k».proof.Proof.Trips

@[expose] public section

set_option maxRecDepth 16384

noncomputable section

namespace Cert.Proof.AttnValue

open Cert.KernelIdeal Cert.KernelIdeal.Gen
open Idealize.ShloMosaic
open Cert.Proof.Attn (Seq Par it it_succ accTrip denTrip trip3 heads blocks rounds prodTrip prods prod par slabAt slabOf sums outOf peer acM lM vgM headR denHR woR Act Den)

/-- A loop whose every trip adds to a quantity adds the sum. -/
theorem it_sum {S : Type} {n : ℕ} (f : Fin n → S → S) (get : S → EReal) (add : ℕ → EReal) (h : ∀ (k : Fin n) s, get (f k s) = get s + add k.val) (s : S) :
    ∀ m, m ≤ n → get (it f s m) = get s + ∑ k ∈ Finset.range m, add k
  | 0, _ => by rw [Finset.range_zero, Finset.sum_empty]; exact (add_zero _).symm
  | m + 1, hm => by
    rw [it_succ f s ⟨m, hm⟩, h, it_sum f get add h s m (Nat.le_of_succ_le hm), Finset.sum_range_succ, add_assoc]

/-- A sum that has one term. -/
theorem sum_one (n a : ℕ) (h : a < n) (x : EReal) : (∑ k ∈ Finset.range n, if k = a then x else 0) = x := by
  rw [Finset.sum_ite_eq' (Finset.range n) a fun _ => x, if_pos (Finset.mem_range.mpr h)]

/-- The rounds go through all the chunks. -/
theorem sum_chunks (c : Dev nD) (g : Dev nD → EReal) : (∑ t ∈ Finset.range 8, g (chunk c t)) = ∑ s : Dev nD, g s := by
  rw [Finset.sum_range]
  exact Function.Bijective.sum_comp ((by decide : ∀ c : Dev nD, Function.Bijective fun t : Fin 8 => chunk c t.val) c) g

variable (XK XV : Dev nD → Seq Ideal) (X : Dev nD → Vec Ideal S1x1024x1024 .bf16) (WQ WO : Dev nD → Vec Ideal S1024x1024 .bf16)

attribute [local irreducible] accTrip denTrip

/-! ## The rounds -/

theorem heads_acc (c : Dev nD) (t1 : Fin k0_t1_loop.trips) (t2 : Fin k0_t2_loop.trips) (s : Act Ideal × Den Ideal) (h : Fin 8) (i : Fin 1024) (d : Fin 128) :
    ((heads XK XV X WQ c t1 t2 s k0_t3_loop.trips).1 (ix3 h i d) : EReal)
      = (s.1 (ix3 h i d) : EReal) + if t2.val = i.val / 256 then accPart XK XV X WQ c t1.val h i d else 0 := by
  unfold heads
  refine (it_sum (trip3 XK XV X WQ c t1 t2) (fun s => s.1 (ix3 h i d))
    (fun k => if k = h.val then (if t2.val = i.val / 256 then accPart XK XV X WQ c t1.val h i d else 0) else 0)
    (fun t3 s => accTrip_apply XK XV X WQ c t1 t2 t3 s h i d) s _ le_rfl).trans ?_
  rw [sum_one _ _ (trips3.symm ▸ h.isLt)]

theorem heads_den (c : Dev nD) (t1 : Fin k0_t1_loop.trips) (t2 : Fin k0_t2_loop.trips) (s : Act Ideal × Den Ideal) (h : Fin 8) (b : Fin 4) (u : Fin 2) (w : Fin 128) :
    ((heads XK XV X WQ c t1 t2 s k0_t3_loop.trips).2 (ix5 h b u w 0) : EReal)
      = (s.2 (ix5 h b u w 0) : EReal) + if t2.val = b.val then denPart XK X WQ c t1.val h ⟨256 * b.val + (u.val * 128 + w.val), by omega⟩ else 0 := by
  unfold heads
  refine (it_sum (trip3 XK XV X WQ c t1 t2) (fun s => s.2 (ix5 h b u w 0))
    (fun k => if k = h.val then (if t2.val = b.val then denPart XK X WQ c t1.val h ⟨256 * b.val + (u.val * 128 + w.val), by omega⟩ else 0) else 0)
    (fun t3 s => denTrip_apply XK X WQ c t1 t2 t3 s h b u w) s _ le_rfl).trans ?_
  rw [sum_one _ _ (trips3.symm ▸ h.isLt)]

theorem blocks_acc (c : Dev nD) (t1 : Fin k0_t1_loop.trips) (s : Act Ideal × Den Ideal) (h : Fin 8) (i : Fin 1024) (d : Fin 128) :
    ((blocks XK XV X WQ c t1 s k0_t2_loop.trips).1 (ix3 h i d) : EReal) = (s.1 (ix3 h i d) : EReal) + accPart XK XV X WQ c t1.val h i d := by
  unfold blocks
  refine (it_sum (fun t2 s => heads XK XV X WQ c t1 t2 s k0_t3_loop.trips) (fun s => s.1 (ix3 h i d))
    (fun k => if k = i.val / 256 then accPart XK XV X WQ c t1.val h i d else 0) (fun t2 s => heads_acc XK XV X WQ c t1 t2 s h i d) s _ le_rfl).trans ?_
  rw [sum_one _ _ (by rw [trips2]; omega)]

theorem blocks_den (c : Dev nD) (t1 : Fin k0_t1_loop.trips) (s : Act Ideal × Den Ideal) (h : Fin 8) (b : Fin 4) (u : Fin 2) (w : Fin 128) :
    ((blocks XK XV X WQ c t1 s k0_t2_loop.trips).2 (ix5 h b u w 0) : EReal)
      = (s.2 (ix5 h b u w 0) : EReal) + denPart XK X WQ c t1.val h ⟨256 * b.val + (u.val * 128 + w.val), by omega⟩ := by
  unfold blocks
  refine (it_sum (fun t2 s => heads XK XV X WQ c t1 t2 s k0_t3_loop.trips) (fun s => s.2 (ix5 h b u w 0))
    (fun k => if k = b.val then denPart XK X WQ c t1.val h ⟨256 * b.val + (u.val * 128 + w.val), by omega⟩ else 0)
    (fun t2 s => heads_den XK XV X WQ c t1 t2 s h b u w) s _ le_rfl).trans ?_
  rw [sum_one _ _ (trips2.symm ▸ b.isLt)]

/-- The weighted values of a query over all keys. -/
def accAll (c : Dev nD) (h : Fin 8) (i : Fin 1024) (d : Fin 128) : EReal :=
  ∑ s : Dev nD, ∑ j : Fin 1024, wgt XK X WQ c h i s j * (XV s (ix3 (headAt c h) j d) : EReal)
/-- The weights of a query over all keys. -/
def denAll (c : Dev nD) (h : Fin 8) (i : Fin 1024) : EReal := ∑ s : Dev nD, ∑ j : Fin 1024, wgt XK X WQ c h i s j

theorem rounds_acc (c : Dev nD) (h : Fin 8) (i : Fin 1024) (d : Fin 128) :
    ((rounds XK XV X WQ c k0_t1_loop.trips).1 (ix3 h i d) : EReal) = accAll XK XV X WQ c h i d := by
  unfold rounds
  refine (it_sum (fun t1 s => blocks XK XV X WQ c t1 s k0_t2_loop.trips) (fun s => s.1 (ix3 h i d))
    (fun k => accPart XK XV X WQ c k h i d) (fun t1 s => blocks_acc XK XV X WQ c t1 s h i d) _ _ le_rfl).trans ?_
  have h0 : (k0_pay19 (F := Ideal) (ix3 h i d) : EReal) = 0 := by pointwise [k0_pay19]
  refine (congrArg (· + _) h0).trans ((zero_add _).trans ?_)
  rw [trips1]
  exact sum_chunks c fun s => ∑ j : Fin 1024, wgt XK X WQ c h i s j * (XV s (ix3 (headAt c h) j d) : EReal)

theorem rounds_den (c : Dev nD) (h : Fin 8) (b : Fin 4) (u : Fin 2) (w : Fin 128) :
    ((rounds XK XV X WQ c k0_t1_loop.trips).2 (ix5 h b u w 0) : EReal) = denAll XK X WQ c h ⟨256 * b.val + (u.val * 128 + w.val), by omega⟩ := by
  unfold rounds
  refine (it_sum (fun t1 s => blocks XK XV X WQ c t1 s k0_t2_loop.trips) (fun s => s.2 (ix5 h b u w 0))
    (fun k => denPart XK X WQ c k h ⟨256 * b.val + (u.val * 128 + w.val), by omega⟩) (fun t1 s => blocks_den XK XV X WQ c t1 s h b u w) _ _ le_rfl).trans ?_
  have h0 : (k0_pay21 (k0_pay20 (F := Ideal)) (ix5 h b u w 0) : EReal) = 0 := by pointwise [k0_pay21, k0_pay20]
  refine (congrArg (· + _) h0).trans ((zero_add _).trans ?_)
  rw [trips1]
  exact sum_chunks c fun s => ∑ j : Fin 1024, wgt XK X WQ c h ⟨256 * b.val + (u.val * 128 + w.val), by omega⟩ s j

/-! ## The partial product -/

theorem trips4 : k0_t4_loop.trips = 8 := by decide
theorem lt4 (t : Fin k0_t4_loop.trips) : t.val < 8 := trips4 ▸ t.isLt

/-- What a device's head adds to its partial product. -/
def headPart (c : Dev nD) (h : Fin 8) (i m : Fin 1024) : EReal :=
  ∑ d : Fin 128, Ideal.div (accAll XK XV X WQ c h i d) (denAll XK X WQ c h i) * (WO c (ix2 ⟨128 * h.val + d.val, by omega⟩ m) : EReal)

theorem prodTrip_apply (c : Dev nD) (t4 : Fin k0_t4_loop.trips) (a : FVec Ideal S1024x1024 .f32) (i m : Fin 1024) :
    (prodTrip XK XV X WQ WO c t4 a (ix2 i m) : EReal) = (a (ix2 i m) : EReal) + headPart XK XV X WQ WO c ⟨t4.val, lt4 t4⟩ i m := by
  unfold prodTrip headPart
  refine (product_apply _ _ _ _ i m).trans (congrArg ((a (ix2 i m) : EReal) + ·) (Finset.sum_congr rfl fun d _ => congrArg₂ (· * ·) (congrArg₂ Ideal.div ?_ ?_) ?_))
  · refine Eq.trans ?_ (rounds_acc XK XV X WQ c ⟨t4.val, lt4 t4⟩ i d)
    refine congrArg (rounds XK XV X WQ c k0_t1_loop.trips).1 (funext fun x => Fin.ext ?_)
    show k0_off9 t4 x + 1 * ((ix3 0 i d : S1x1024x128.Idx) x).val = _
    rw [k0_off9_eq, Nat.one_mul]
    match x with | ⟨0, _⟩ => rfl | ⟨1, _⟩ => exact Nat.zero_add _ | ⟨2, _⟩ => exact Nat.zero_add _
  · refine Eq.trans ?_ ((rounds_den XK XV X WQ c ⟨t4.val, lt4 t4⟩ ⟨i.val / 256, by omega⟩ ⟨i.val / 128 % 2, by omega⟩ ⟨i.val % 128, by omega⟩).trans
      (congrArg (denAll XK X WQ c _) (Fin.ext (by show 256 * (i.val / 256) + (i.val / 128 % 2 * 128 + i.val % 128) = i.val; omega))))
    refine congrArg (rounds XK XV X WQ c k0_t1_loop.trips).2 (funext fun x => Fin.ext ?_)
    show k0_off10 t4 x + 1 * ((ix5 0 ⟨i.val / 256, by omega⟩ ⟨i.val / 128 % 2, by omega⟩ ⟨i.val % 128, by omega⟩ 0 : S1x4x2x128x1.Idx) x).val = _
    rw [k0_off10_eq, Nat.one_mul]
    match x with
    | ⟨0, _⟩ => rfl | ⟨1, _⟩ => exact Nat.zero_add _ | ⟨2, _⟩ => exact Nat.zero_add _ | ⟨3, _⟩ => exact Nat.zero_add _ | ⟨4, _⟩ => rfl
  · refine congrArg (WO c) (funext fun x => Fin.ext ?_)
    show k0_off11 t4 x + 1 * ((ix2 d m : S128x1024.Idx) x).val = _
    rw [k0_off11_eq, Nat.one_mul]
    match x with | ⟨0, _⟩ => rfl | ⟨1, _⟩ => exact Nat.zero_add _

/-- A device's partial product. -/
theorem prod_apply (c : Dev nD) (i m : Fin 1024) : (prod XK XV X WQ WO c (ix2 i m) : EReal) = ∑ h : Fin 8, headPart XK XV X WQ WO c h i m := by
  unfold prod prods
  refine (it_sum (prodTrip XK XV X WQ WO c) (fun a => a (ix2 i m)) (fun k => if hk : k < 8 then headPart XK XV X WQ WO c ⟨k, hk⟩ i m else 0)
    (fun t4 a => (prodTrip_apply XK XV X WQ WO c t4 a i m).trans (by rw [dif_pos (lt4 t4)])) _ _ le_rfl).trans ?_
  have h0 : (k0_pay24 (F := Ideal) (ix2 i m) : EReal) = 0 := by pointwise [k0_pay24]
  refine (congrArg (· + _) h0).trans ((zero_add _).trans ?_)
  rw [trips4, Finset.sum_range]
  exact Finset.sum_congr rfl fun h _ => dif_pos h.isLt

/-! ## The sum over the devices -/

theorem trips5 : k0_t5_loop.trips = 7 := by decide

/-- The sum of the devices' partial products. -/
def total : FVec Ideal S1024x1024 .f32 := fun z => ((∑ c : Dev nD, (prod XK XV X WQ WO c z : EReal)) : EReal)

theorem slab_apply (c : Dev nD) (t5 : Fin k0_t5_loop.trips) (a : FVec Ideal S8x1024x128 .f32) (y : S8x1024x128.Idx) :
    (Gen.k0_pay29 a (slabAt XK XV X WQ WO c t5) y : EReal) = (a y : EReal) + (k0_pay28 (prod XK XV X WQ WO (chunk c (t5.val + 1))) y : EReal) := by
  have hp : peer c (t5.cast trips5).rev = chunk c (t5.val + 1) :=
    (by decide : ∀ (c : Dev nD) (t5 : Fin k0_t5_loop.trips), peer c (t5.cast trips5).rev = chunk c (t5.val + 1)) c t5
  rw [eq_ix3 y]
  have hs : (slabAt XK XV X WQ WO c t5 (ix4 0 (y 0) (y 1) (y 2)) : EReal) = par XK XV X WQ WO (chunk c (t5.val + 1)) (ix3 (y 0) (y 1) (y 2)) := by
    unfold slabAt
    rw [hp]
    refine congrArg (par XK XV X WQ WO (chunk c (t5.val + 1))) (funext fun x => Fin.ext ?_)
    match x with
    | ⟨0, _⟩ =>
      show k0_off12 t5 1 + 1 * (y 0).val = (y 0).val
      rw [k0_off12_eq, Nat.one_mul]; exact Nat.zero_add _
    | ⟨1, _⟩ =>
      show k0_off12 t5 2 + 1 * (y 1).val = (y 1).val
      rw [k0_off12_eq, Nat.one_mul]; exact Nat.zero_add _
    | ⟨2, _⟩ =>
      show k0_off12 t5 3 + 1 * (y 2).val = (y 2).val
      rw [k0_off12_eq, Nat.one_mul]; exact Nat.zero_add _
  have h1 : (Gen.k0_pay29 a (slabAt XK XV X WQ WO c t5) (ix3 (y 0) (y 1) (y 2)) : EReal)
      = (a (ix3 (y 0) (y 1) (y 2)) : EReal) + (slabAt XK XV X WQ WO c t5 (ix4 0 (y 0) (y 1) (y 2)) : EReal) := by
    pointwise [Gen.k0_pay29]
  rw [h1, hs]
  unfold par
  refine congrArg ((a (ix3 (y 0) (y 1) (y 2)) : EReal) + ·) ?_
  pointwise [k0_pay26, k0_pay27, k0_pay28]

theorem sums_eq (c : Dev nD) : sums XK XV X WQ WO c k0_t5_loop.trips = k0_pay28 (total XK XV X WQ WO) := by
  funext y
  unfold sums
  refine (it_sum (fun t5 a => Gen.k0_pay29 a (slabAt XK XV X WQ WO c t5)) (fun a => a y) (fun k => (k0_pay28 (prod XK XV X WQ WO (chunk c (k + 1))) y : EReal))
    (fun t5 a => slab_apply XK XV X WQ WO c t5 a y) _ _ le_rfl).trans ?_
  have h0 : chunk c 0 = c := (by decide : ∀ c : Dev nD, chunk c 0 = c) c
  rw [trips5, add_comm]
  have e := Finset.sum_range_succ' (fun k => (k0_pay28 (prod XK XV X WQ WO (chunk c k)) y : EReal)) 7
  rw [h0] at e
  exact e.symm.trans (sum_chunks c fun s => (k0_pay28 (prod XK XV X WQ WO s) y : EReal))

/-- What a device returns. -/
theorem out_apply (c : Dev nD) (i m : Fin 1024) :
    (outOf XK XV X WQ WO c (ix3 0 i m) : EReal) = ∑ s : Dev nD, ∑ h : Fin 8, headPart XK XV X WQ WO s h i m := by
  unfold outOf
  rw [sums_eq]
  have h : (k0_pay1 (k0_pay28 (total XK XV X WQ WO)) (ix3 0 i m) : EReal) = total XK XV X WQ WO (ix2 i m) := by
    pointwise [k0_pay1, k0_pay28]
  rw [h]
  exact Finset.sum_congr rfl fun s _ => prod_apply XK XV X WQ WO s i m

end Cert.Proof.AttnValue

end
-- ==== Proof.Entry.lean ====
/- What the kernel reads of its arguments, and that its result is what its body leaves: the step from the arguments'
   arrays to the values that the body works on. -/
module

public import proofs.«01_k».proof.Proof.Whole
public import proofs.«01_k».proof.Proof.Sums
public import Idealize.ShloMosaic.Lib.StableHlo.Run
public import Idealize.ShloMosaic.Lib.Pipeline.ValueKit

@[expose] public section

set_option maxRecDepth 16384

noncomputable section

namespace Cert.Proof.AttnValue

open Cert.KernelIdeal Cert.KernelIdeal.Gen
open Idealize.ShloMosaic Idealize.ShloMosaic.TcCoe Idealize.ShloMosaic.Tactic
open Cert.Proof.Attn (Seq keysAt valsAt actsAt colsAt rowsAt resultAt dat W₂ W₂_out)

variable (m : (ℓ : Loc nD τ sig) → Buf (Elt Ideal) ℓ) (c : Dev nD)

/-- The heads outermost. -/
def headsFirst (y : Vec Ideal S1x1024x64x128 .bf16) : Seq Ideal :=
  transpose S64x1024x128 [1, 0, 2] (shapeCast S1024x64x128 y shapeCasts_S1x1024x64x128_S1024x64x128) transposes_S1024x64x128_S64x1024x128_1_0_2

theorem headsFirst_apply (y : Vec Ideal S1x1024x64x128 .bf16) (h : Fin 64) (j : Fin 1024) (e : Fin 128) :
    (headsFirst y (ix3 h j e) : EReal) = y (ix4 0 j h e) := by
  pointwise [headsFirst]

theorem keys_eq : keysAt m c = headsFirst (m ((c.tc : Thread nD τ).loc main_arg2)) := by
  unfold keysAt
  unfold_abbrev_sides
  after_results
  rfl

theorem vals_eq : valsAt m c = headsFirst (m ((c.tc : Thread nD τ).loc main_arg3)) := by
  unfold valsAt
  unfold_abbrev_sides
  after_results
  rfl

theorem acts_apply (i k : Fin 1024) : (actsAt m c (ix3 0 i k) : EReal) = (m ((c.tc : Thread nD τ).loc main_arg0) : Vec Ideal S1x1024x1024 .bf16) (ix3 0 i k) := by
  rw [← V_main_arg0 m c]
  refine congrArg (V m c main_arg0) (funext fun a => Fin.ext ?_)
  match a with | ⟨0, _⟩ => rfl | ⟨1, _⟩ => exact (Nat.zero_add _).trans (Nat.one_mul _) | ⟨2, _⟩ => exact (Nat.zero_add _).trans (Nat.one_mul _)

theorem cols_apply (i k : Fin 1024) : (colsAt m c (ix2 i k) : EReal) = (m ((c.tc : Thread nD τ).loc main_arg1) : Vec Ideal S1024x1024 .bf16) (ix2 i k) := by
  rw [← V_main_arg1 m c]
  refine congrArg (V m c main_arg1) (funext fun a => Fin.ext ?_)
  match a with | ⟨0, _⟩ => exact (Nat.zero_add _).trans (Nat.one_mul _) | ⟨1, _⟩ => exact (Nat.zero_add _).trans (Nat.one_mul _)

theorem rows_apply (i k : Fin 1024) : (rowsAt m c (ix2 i k) : EReal) = (m ((c.tc : Thread nD τ).loc main_arg4) : Vec Ideal S1024x1024 .bf16) (ix2 i k) := by
  rw [← V_main_arg4 m c]
  refine congrArg (V m c main_arg4) (funext fun a => Fin.ext ?_)
  match a with | ⟨0, _⟩ => exact (Nat.zero_add _).trans (Nat.one_mul _) | ⟨1, _⟩ => exact (Nat.zero_add _).trans (Nat.one_mul _)

/-- The result's array ends as what the body left of it. -/
theorem out_eq : (W₂ m c (Proc.devRef .tc main_v5) : Vec Ideal S1x1024x1024 .f32) = resultAt m c := by
  refine (W₂_out m c).trans ((dat m c).arrAt_eq_of_after_last 3 t0_0 (by decide +kernel) (resultAt m c) fun j => ?_)
  rfl

end Cert.Proof.AttnValue

end
-- ==== Proof.Reference.lean ====
/- The reference's value, step by step: its queries, scores, mask, weights and output, and each of them at an index. -/
module

public import proofs.«01_k».proof.Proof.Mask
public import proofs.«01_k».proof.Proof.Gen.ReferenceIdeal
public import proofs.«01_k».proof.Proof.Gen.ReferenceIdeal.Run
public import Idealize.ShloMosaic.Lib.Pointwise
public import Idealize.ShloMosaic.Lib.Routing.OpsOrder

@[expose] public section

set_option maxRecDepth 16384

noncomputable section

namespace Cert.Proof.AttnRef

open Cert.ReferenceIdeal Cert.ReferenceIdeal.Gen
open Idealize.ShloMosaic Idealize.ShloMosaic.TcCoe
open Cert.Proof.AttnValue (seen scale)

variable {F : FTy → Type} [FloatOps F]

/-- Floor division of an array of words by 64. -/
def floorDiv {T : Shape} (hb : S_.BroadcastsInDim T (![] : Fin 0 → Fin T.rank)) (x : IVec T 32) : IVec T 32 :=
  let k : IVec T 32 := broadcastInDim T ![] hb (constantI S_ 32 64#32)
  select (andi (cmpi .ne (signi x) (broadcastInDim T ![] hb (signi (constantI S_ 32 64#32))))
      (cmpi .ne (Host.remsi x k) (broadcastInDim T ![] hb (constantI S_ 32 0#32))))
    (subi (Host.divsi x k) (broadcastInDim T ![] hb (constantI S_ 32 1#32))) (Host.divsi x k)

/-- The block of each query position, and of each key position. -/
def rowBlocks : IVec S1024x1 32 := broadcastInDim S1024x1 ![0] bcast_S1024_S1024x1_0 (floorDiv bcast_S_S1024 (iotaInDim S1024 32 0))
def colBlocks : IVec S1x8192 32 := broadcastInDim S1x8192 ![1] bcast_S8192_S1x8192_1 (floorDiv bcast_S_S8192 (iotaInDim S8192 32 0))
def rowsWide : IVec S1024x8192 32 := broadcastInDim S1024x8192 ![0, 1] bcast_S1024x1_S1024x8192_0_1 rowBlocks
def colsWide : IVec S1024x8192 32 := broadcastInDim S1024x8192 ![0, 1] bcast_S1x8192_S1024x8192_0_1 colBlocks

/-- The divisor 3, behind its guard against zero. -/
def three : IVec S_ 32 := select (cmpi .eq (constantI S_ 32 3#32) (constantI S_ 32 0#32)) (constantI S_ 32 1#32) (constantI S_ 32 3#32)

/-- The remainder by 3. -/
def modThree (x : IVec S1024x8192 32) : IVec S1024x8192 32 :=
  let k : IVec S1024x8192 32 := broadcastInDim S1024x8192 ![] bcast_S_S1024x8192 three
  let z : IVec S1024x8192 32 := broadcastInDim S1024x8192 ![] bcast_S_S1024x8192 (constantI S_ 32 0#32)
  let r : IVec S1024x8192 32 := Host.remsi x k
  select (andi (cmpi .ne (cmpi .slt r z) (broadcastInDim S1024x8192 ![] bcast_S_S1024x8192 (cmpi .slt three (constantI S_ 32 0#32)))) (cmpi .ne r z)) (addi r k) r

/-- The mask. -/
def mask : IVec S1024x8192 1 :=
  ori (ori (cmpi .eq rowsWide colsWide)
      (broadcastInDim S1024x8192 ![0, 1] bcast_S1x8192_S1024x8192_0_1 (cmpi .eq colBlocks (broadcastInDim S1x8192 ![] bcast_S_S1x8192 (constantI S_ 32 0#32)))))
    (cmpi .eq (modThree (addi rowsWide colsWide)) (broadcastInDim S1024x8192 ![] bcast_S_S1024x8192 (constantI S_ 32 0#32)))

/-- The rows with a key to attend to. -/
def anyKey (mk : IVec S1024x8192 1) : IVec S1024 1 := Host.reduce IntOp.ori mk (constantI S_ 1 0#1) reducesTo_S1024x8192_S1024_d1 h_S_

/-- The queries. -/
def queries (x : FVec F S1x1024x1024 .bf16) (wq : FVec F S1024x8192 .bf16) : FVec F S1x1024x64x128 .f32 :=
  shapeCast S1x1024x64x128 (Host.dotGeneral dot_S1x1024x1024_S1024x8192_S1x1024x8192_2_0_01_1_n_n none (extf .f32 x bitsLt_bf16_f32) (extf .f32 wq bitsLt_bf16_f32))
    shapeCasts_S1x1024x8192_S1x1024x64x128

/-- The scaled scores, −∞ outside the mask. -/
def scores (mk : IVec S1024x8192 1) (q : FVec F S1x1024x64x128 .f32) (k : FVec F S1x8192x64x128 .bf16) : FVec F S1x64x1024x8192 .f32 :=
  select (broadcastInDim S1x64x1024x8192 ![0, 1, 2, 3] bcast_S1x1x1024x8192_S1x64x1024x8192_0_1_2_3 (broadcastInDim S1x1x1024x8192 ![2, 3] bcast_S1024x8192_S1x1x1024x8192_2_3 mk))
    (mulf (Host.dotGeneral dot_S1x1024x64x128_S1x8192x64x128_S1x64x1024x8192_3_3_1_1_02_02 none q (extf .f32 k bitsLt_bf16_f32))
      (broadcastInDim S1x64x1024x8192 ![] bcast_S_S1x64x1024x8192 (constant S_ .f32 0x3DB504F3#32)))
    (broadcastInDim S1x64x1024x8192 ![] bcast_S_S1x64x1024x8192 (constant S_ .f32 0xFF800000#32))

/-- A row's largest score. -/
def rowMax (s : FVec F S1x64x1024x8192 .f32) : FVec F S1x64x1024 .f32 :=
  Host.reduce FloatOps.maximumf s (constant S_ .f32 0xFF800000#32) reducesTo_S1x64x1024x8192_S1x64x1024_d3 h_S_

/-- The exponentials of the scores over the row's largest. -/
def exps (s : FVec F S1x64x1024x8192 .f32) : FVec F S1x64x1024x8192 .f32 :=
  Host.exp (subf s (broadcastInDim S1x64x1024x8192 ![0, 1, 2, 3] bcast_S1x64x1024x1_S1x64x1024x8192_0_1_2_3
    (broadcastInDim S1x64x1024x1 ![0, 1, 2] bcast_S1x64x1024_S1x64x1024x1_0_1_2 (rowMax s))))

/-- A row's sum of them. -/
def rowSum (a : IVec S1024 1) (e : FVec F S1x64x1024x8192 .f32) : FVec F S1x64x1024x1 .f32 :=
  select (broadcastInDim S1x64x1024x1 ![0, 1, 2, 3] bcast_S1x1x1024x1_S1x64x1024x1_0_1_2_3 (broadcastInDim S1x1x1024x1 ![2] bcast_S1024_S1x1x1024x1_2 a))
    (broadcastInDim S1x64x1024x1 ![0, 1, 2] bcast_S1x64x1024_S1x64x1024x1_0_1_2
      (Host.reduceAdd e (constant S_ .f32 0x00000000#32) reducesTo_S1x64x1024x8192_S1x64x1024_d3 h_S_))
    (broadcastInDim S1x64x1024x1 ![] bcast_S_S1x64x1024x1 (constant S_ .f32 0x3F800000#32))

/-- The attention weights. -/
def weights (a : IVec S1024 1) (e : FVec F S1x64x1024x8192 .f32) : FVec F S1x64x1024x8192 .f32 :=
  select (broadcastInDim S1x64x1024x8192 ![0, 1, 2, 3] bcast_S1x1x1024x1_S1x64x1024x8192_0_1_2_3 (broadcastInDim S1x1x1024x1 ![2] bcast_S1024_S1x1x1024x1_2 a))
    (Host.divf e (broadcastInDim S1x64x1024x8192 ![0, 1, 2, 3] bcast_S1x64x1024x1_S1x64x1024x8192_0_1_2_3 (rowSum a e)))
    (broadcastInDim S1x64x1024x8192 ![] bcast_S_S1x64x1024x8192 (constant S_ .f32 0x00000000#32))

/-- The attended values, the heads side by side. -/
def context (v : FVec F S1x8192x64x128 .bf16) (w : FVec F S1x64x1024x8192 .f32) : FVec F S1x1024x8192 .f32 :=
  shapeCast S1x1024x8192 (transpose S1x1024x64x128 [0, 3, 1, 2]
      (Host.dotGeneral dot_S1x8192x64x128_S1x64x1024x8192_S1x64x128x1024_1_3_3_2_02_01 none (extf .f32 v bitsLt_bf16_f32) w) transposes_S1x64x128x1024_S1x1024x64x128_0_3_1_2)
    shapeCasts_S1x1024x64x128_S1x1024x8192

/-- The output. -/
def output (t : FVec F S1x1024x8192 .f32) (wo : FVec F S8192x1024 .bf16) : FVec F S1x1024x1024 .f32 :=
  Host.dotGeneral dot_S1x1024x8192_S8192x1024_S1x1024x1024_2_0_01_1_n_n none t (extf .f32 wo bitsLt_bf16_f32)

set_option maxHeartbeats 2000000 in
/-- What the reference returns is these steps one after another. -/
theorem result_eq (m : (ℓ : Loc nD τ sig) → Buf (Elt F) ℓ) (c : Dev nD) :
    Value.res_main_v49 m c = output (context (m ((c.tc : Thread nD τ).loc main_arg3))
      (weights (anyKey mask) (exps (scores mask (queries (m ((c.tc : Thread nD τ).loc main_arg0)) (m ((c.tc : Thread nD τ).loc main_arg1))) (m ((c.tc : Thread nD τ).loc main_arg2))))))
      (m ((c.tc : Thread nD τ).loc main_arg4)) := by
  unfold Value.res_main_v49
  rfl

theorem refWord_eq : ∀ n : Fin 8192, Scalar.select
      (IntOp.andi
        (IntOp.cmpi .ne
          (if BitVec.ofNat 32 n.val = 0 then 0 else if (BitVec.ofNat 32 n.val).msb = true then -1 else 1 : BitVec 32)
          (if 64#32 = 0 then 0 else if (64#32).msb = true then -1 else 1 : BitVec 32))
        (IntOp.cmpi .ne (IntOp.remsi .host (BitVec.ofNat 32 n.val) 64#32) 0#32))
      (IntOp.subi (IntOp.divsi .host (BitVec.ofNat 32 n.val) 64#32) 1#32)
      (IntOp.divsi .host (BitVec.ofNat 32 n.val) 64#32) =
    BitVec.ofNat 32 (n.val / 64) := by decide +kernel

/-- The divisor, and the remainder by it, on words. -/
abbrev threeWord : BitVec 32 := Scalar.select (IntOp.cmpi .eq 3#32 0#32) 1#32 3#32
abbrev modWord (w : BitVec 32) : BitVec 32 :=
  Scalar.select (IntOp.andi (IntOp.cmpi .ne (IntOp.cmpi .slt (IntOp.remsi .host w threeWord) 0#32) (IntOp.cmpi .slt threeWord 0#32))
      (IntOp.cmpi .ne (IntOp.remsi .host w threeWord) 0#32))
    (IntOp.addi (IntOp.remsi .host w threeWord) threeWord) (IntOp.remsi .host w threeWord)

theorem maskWord_eq : ∀ (a : Fin 16) (b : Fin 128),
    IntOp.ori (IntOp.ori (IntOp.cmpi .eq (BitVec.ofNat 32 a.val) (BitVec.ofNat 32 b.val)) (IntOp.cmpi .eq (BitVec.ofNat 32 b.val) 0#32))
      (IntOp.cmpi .eq (modWord (IntOp.addi (BitVec.ofNat 32 a.val) (BitVec.ofNat 32 b.val))) 0#32)
    = BitVec.ofBool (decide (a.val = b.val) || decide (b.val = 0) || decide ((a.val + b.val) % 3 = 0)) := by decide +kernel

theorem rows_apply (i : Fin 1024) (j : Fin 8192) : rowsWide (ix2 i j) = BitVec.ofNat 32 (i.val / 64) := by
  pointwise [rowsWide, rowBlocks, floorDiv]
  exact refWord_eq ⟨i.val, by omega⟩

theorem colBlocks_apply (j : Fin 8192) : colBlocks (ix2 0 j) = BitVec.ofNat 32 (j.val / 64) := by
  pointwise [colBlocks, floorDiv]
  exact refWord_eq j

theorem cols_apply (i : Fin 1024) (j : Fin 8192) : colsWide (ix2 i j) = BitVec.ofNat 32 (j.val / 64) := by
  rw [← colBlocks_apply]
  pointwise [colsWide]

/-- The mask's bit says whether the position is seen. -/
theorem mask_apply (i : Fin 1024) (j : Fin 8192) : mask (ix2 i j) = BitVec.ofBool (seen i.val j.val) := by
  have h := maskWord_eq ⟨i.val / 64, by omega⟩ ⟨j.val / 64, by omega⟩
  pointwise [mask, modThree, three]
  rw [rows_apply, cols_apply, colBlocks_apply]
  exact h

/-- Every row has a key to attend to. -/
theorem any_apply (i : Fin 1024) : anyKey mask (ix1 i) = 1#1 := by
  have h := mask_apply i 0
  generalize mask = mk at h ⊢
  pointwise [anyKey]
  rw [Routing.fold_ori]
  refine ⟨0, Finset.mem_univ _, ?_⟩
  rw [h]
  simp [seen]

theorem queries_apply (x : FVec Ideal S1x1024x1024 .bf16) (w : FVec Ideal S1024x8192 .bf16) (i : Fin 1024) (h : Fin 64) (e : Fin 128) :
    (queries x w (ix4 0 i h e) : EReal) = ∑ k : Fin 1024, (x (ix3 0 i k) : EReal) * (w (ix2 k ⟨128 * h.val + e.val, by omega⟩) : EReal) := by
  have he : h.val * 128 + e.val = 128 * h.val + e.val := by omega
  pointwise [queries]
  simp only [he]

theorem bits_bot : Ideal.ofBits .f32 0xFF800000#32 = (⊥ : EReal) := by
  simp [Ideal.ofBits, Ideal.ieee]

theorem scores_apply (mk : IVec S1024x8192 1) (b : Bool) (q : FVec Ideal S1x1024x64x128 .f32) (k : FVec Ideal S1x8192x64x128 .bf16) (h : Fin 64) (i : Fin 1024) (j : Fin 8192)
    (hb : mk (ix2 i j) = BitVec.ofBool b) :
    (scores mk q k (ix4 0 h i j) : EReal) = if b then (∑ e : Fin 128, (q (ix4 0 i h e) : EReal) * (k (ix4 0 j h e) : EReal)) * scale else ⊥ := by
  pointwise [scores]
  rw [hb, bits_bot]
  cases b <;> rfl

theorem exps_apply (s : FVec Ideal S1x64x1024x8192 .f32) (h : Fin 64) (i : Fin 1024) (j : Fin 8192) :
    (exps s (ix4 0 h i j) : EReal) = Ideal.exp (s (ix4 0 h i j) - Finset.univ.fold max ⊥ fun j : Fin 8192 => (s (ix4 0 h i j) : EReal)) := by
  rw [← bits_bot]
  pointwise [exps, rowMax]

theorem weights_apply (a : IVec S1024 1) (e : FVec Ideal S1x64x1024x8192 .f32) (h : Fin 64) (i : Fin 1024) (j : Fin 8192) (ha : a (ix1 i) = 1#1) :
    (weights a e (ix4 0 h i j) : EReal) = Ideal.div (e (ix4 0 h i j)) (∑ j : Fin 8192, (e (ix4 0 h i j) : EReal)) := by
  pointwise [weights, rowSum]
  rw [ha]
  rfl

theorem context_apply (v : FVec Ideal S1x8192x64x128 .bf16) (w : FVec Ideal S1x64x1024x8192 .f32) (i : Fin 1024) (e : Fin 8192) :
    (context v w (ix3 0 i e) : EReal) = ∑ j : Fin 8192, (v (ix4 0 j ⟨e.val / 128, by omega⟩ ⟨e.val % 128, by omega⟩) : EReal) * (w (ix4 0 ⟨e.val / 128, by omega⟩ i j) : EReal) := by
  pointwise [context]

theorem output_apply (t : FVec Ideal S1x1024x8192 .f32) (w : FVec Ideal S8192x1024 .bf16) (i : Fin 1024) (n : Fin 1024) :
    (output t w (ix3 0 i n) : EReal) = ∑ e : Fin 8192, (t (ix3 0 i e) : EReal) * (w (ix2 e n) : EReal) := by
  pointwise [output]

end Cert.Proof.AttnRef

end
-- ==== Proof.Value.lean ====
/- The kernel's output is the reference's, as functions of the arrays: attention block by block, without the running
   maximum, against attention over the whole arrays. -/
module

public import proofs.«01_k».proof.Proof.Sums
public import proofs.«01_k».proof.Proof.Reference
public import proofs.«01_k».proof.Proof.Softmax

@[expose] public section

set_option maxRecDepth 16384

noncomputable section

namespace Cert.Proof.AttnValue

open Cert.KernelIdeal (nD S1x1024x1024 S1024x1024)
open Cert.ReferenceIdeal (S1024x8192 S1x8192x64x128 S8192x1024)
open Idealize.ShloMosaic
open Cert.Proof.Attn (Seq outOf)
open Cert.Proof.Softmax
open Cert.Proof.AttnRef

attribute [local irreducible] AttnRef.mask AttnRef.anyKey AttnRef.queries AttnRef.scores AttnRef.exps AttnRef.weights AttnRef.context AttnRef.output Cert.Proof.Attn.outOf

/-- Position `e` of device `c`'s block of 1024, in the whole array. -/
abbrev place (c : Dev nD) (e : Fin 1024) : Fin 8192 := ⟨1024 * c.val + e.val, by have : c.val < 8 := c.isLt; omega⟩

/-- What the reference returns. -/
def refOut (x : FVec Ideal S1x1024x1024 .bf16) (wq : FVec Ideal S1024x8192 .bf16) (k v : FVec Ideal S1x8192x64x128 .bf16) (wo : FVec Ideal S8192x1024 .bf16) : FVec Ideal S1x1024x1024 .f32 :=
  output (context v (weights (anyKey mask) (exps (scores mask (queries x wq) k)))) wo

/-- A scaled score, before the mask. -/
def score (x : FVec Ideal S1x1024x1024 .bf16) (wq : FVec Ideal S1024x8192 .bf16) (k : FVec Ideal S1x8192x64x128 .bf16) (h : Fin 64) (i : Fin 1024) (j : Fin 8192) : EReal :=
  (∑ e : Fin 128, (∑ l : Fin 1024, (x (ix3 0 i l) : EReal) * (wq (ix2 l ⟨128 * h.val + e.val, by omega⟩) : EReal)) * (k (ix4 0 j h e) : EReal)) * scale

theorem scale_real : IsReal scale := by
  unfold scale
  simp [Ideal.ofBits, Ideal.ieee]
  exact ⟨_, rfl⟩

theorem score_real (x : FVec Ideal S1x1024x1024 .bf16) (wq : FVec Ideal S1024x8192 .bf16) (k : FVec Ideal S1x8192x64x128 .bf16) (hx : ∀ z, IsReal (x z)) (hw : ∀ z, IsReal (wq z)) (hk : ∀ z, IsReal (k z))
    (h : Fin 64) (i : Fin 1024) (j : Fin 8192) : IsReal (score x wq k h i j) :=
  IsReal.mul (IsReal.sum fun _ => IsReal.mul (IsReal.sum fun _ => IsReal.mul (hx _) (hw _)) (hk _)) scale_real

variable (x : FVec Ideal S1x1024x1024 .bf16) (wq : FVec Ideal S1024x8192 .bf16) (k v : FVec Ideal S1x8192x64x128 .bf16) (wo : FVec Ideal S8192x1024 .bf16)
variable (a : Fin 64 → Fin 1024 → Fin 8192 → ℝ) (ha : ∀ h i j, score x wq k h i j = (a h i j : EReal))

/-- The positions that query `i` sees. -/
abbrev sees (i : Fin 1024) : Fin 8192 → Bool := fun j => seen i.val j.val

/-- The reference's weight of a key. -/
def weight (h : Fin 64) (i : Fin 1024) (j : Fin 8192) : EReal :=
  Ideal.div (Ideal.exp (masked (a h i) (sees i) j - Finset.univ.fold max ⊥ (masked (a h i) (sees i))))
    (∑ j', Ideal.exp (masked (a h i) (sees i) j' - Finset.univ.fold max ⊥ (masked (a h i) (sees i))))

include ha in
theorem ref_scores (h : Fin 64) (i : Fin 1024) (j : Fin 8192) : (scores mask (queries x wq) k (ix4 0 h i j) : EReal) = masked (a h i) (sees i) j := by
  rw [scores_apply mask (seen i.val j.val) _ k h i j (mask_apply i j)]
  simp only [queries_apply]
  unfold masked
  rw [← ha]
  rfl

include ha in
theorem ref_weights (h : Fin 64) (i : Fin 1024) (j : Fin 8192) :
    (weights (anyKey mask) (exps (scores mask (queries x wq) k)) (ix4 0 h i j) : EReal) = weight a h i j := by
  rw [weights_apply _ _ h i j (any_apply i)]
  simp only [exps_apply, ref_scores x wq k a ha]
  rfl

theorem context_at (v : FVec Ideal S1x8192x64x128 .bf16) (w : FVec Ideal Cert.ReferenceIdeal.S1x64x1024x8192 .f32) (i : Fin 1024) (e : Fin 8192) (h : Fin 64) (d : Fin 128)
    (he : e.val = 128 * h.val + d.val) : (context v w (ix3 0 i e) : EReal) = ∑ j : Fin 8192, (v (ix4 0 j h d) : EReal) * (w (ix4 0 h i j) : EReal) := by
  have hd := d.isLt
  have eh : (⟨e.val / 128, by omega⟩ : Fin 64) = h := Fin.ext (by show e.val / 128 = h.val; omega)
  have ed : (⟨e.val % 128, by omega⟩ : Fin 128) = d := Fin.ext (by show e.val % 128 = d.val; omega)
  rw [context_apply, eh, ed]

variable (XK XV : Dev nD → Seq Ideal) (X : Dev nD → Vec Ideal S1x1024x1024 .bf16) (WQ WO : Dev nD → Vec Ideal S1024x1024 .bf16)
variable (hX : ∀ c i l, (X c (ix3 0 i l) : EReal) = x (ix3 0 i l))
  (hWQ : ∀ (c : Dev nD) (l e : Fin 1024), (WQ c (ix2 l e) : EReal) = wq (ix2 l (place c e)))
  (hK : ∀ (s : Dev nD) (h : Fin 64) (j : Fin 1024) (e : Fin 128), (XK s (ix3 h j e) : EReal) = k (ix4 0 (place s j) h e))
  (hV : ∀ (s : Dev nD) (h : Fin 64) (j : Fin 1024) (e : Fin 128), (XV s (ix3 h j e) : EReal) = v (ix4 0 (place s j) h e))
  (hWO : ∀ (c : Dev nD) (e n : Fin 1024), (WO c (ix2 e n) : EReal) = wo (ix2 (place c e) n))

include hX hWQ hK ha in
theorem wgt_eq (c : Dev nD) (h : Fin 8) (i : Fin 1024) (s : Dev nD) (j : Fin 1024) :
    wgt XK X WQ c h i s j = Ideal.exp ((a (headAt c h) i (place s j) : EReal)
      + if sees i (place s j) then 0 else ⊥) := by
  unfold wgt qry
  rw [← ha]
  unfold score
  simp only [hX, hWQ, hK]
  have e1 : ∀ e : Fin 128, place c ⟨128 * h.val + e.val, by omega⟩ = ⟨128 * (headAt c h).val + e.val, by omega⟩ := fun e => Fin.ext (by
    show 1024 * c.val + (128 * h.val + e.val) = 128 * (8 * c.val + h.val) + e.val
    omega)
  simp only [e1]

include hX hWQ hK hV ha in
theorem attend (c : Dev nD) (h : Fin 8) (i : Fin 1024) (d : Fin 128) :
    Ideal.div (accAll XK XV X WQ c h i d) (denAll XK X WQ c h i) = ∑ j : Fin 8192, (v (ix4 0 j (headAt c h) d) : EReal) * weight a (headAt c h) i j := by
  have hs : sees i 0 = true := by simp [sees, seen]
  unfold accAll denAll
  simp only [wgt_eq x wq k a ha XK X WQ hX hWQ hK, hV]
  have e1 := sum_split (a := 8) (b := 1024) (n := 8192) rfl fun J => Ideal.exp ((a (headAt c h) i J : EReal) + if sees i J then 0 else ⊥) * (v (ix4 0 J (headAt c h) d) : EReal)
  have e2 := sum_split (a := 8) (b := 1024) (n := 8192) rfl fun J => Ideal.exp ((a (headAt c h) i J : EReal) + if sees i J then 0 else ⊥)
  exact (congrArg₂ Ideal.div e1.symm e2.symm).trans (attend_eq (a (headAt c h) i) (sees i) hs fun J => (v (ix4 0 J (headAt c h) d) : EReal))

include hX hWQ hK hV hWO ha in
/-- The kernel's output at an index. -/
theorem out_at (c : Dev nD) (i n : Fin 1024) : (outOf XK XV X WQ WO c (ix3 0 i n) : EReal) = refOut x wq k v wo (ix3 0 i n) := by
  unfold refOut
  rw [out_apply, output_apply, sum_split (a := 8) (b := 1024) (n := 8192) rfl]
  refine Finset.sum_congr rfl fun s _ => ?_
  rw [sum_split (a := 8) (b := 128) (n := 1024) rfl]
  refine Finset.sum_congr rfl fun h _ => ?_
  unfold headPart
  refine Finset.sum_congr rfl fun d _ => ?_
  have hs : s.val < 8 := s.isLt
  rw [attend x wq k v a ha XK XV X WQ hX hWQ hK hV, hWO, context_at v _ i _ (headAt s h) d (by show 1024 * s.val + (128 * h.val + d.val) = 128 * (8 * s.val + h.val) + d.val; omega)]
  simp only [ref_weights x wq k a ha]

end Cert.Proof.AttnValue

end
-- ==== Proof.Algebraic.lean ====
/- The value claim: every device ends with the reference's result. -/
module

public import proofs.«01_k».proof.Defs
public import proofs.«01_k».proof.Proof.Frames
public import proofs.«01_k».proof.Proof.Entry
public import proofs.«01_k».proof.Proof.Value
public import proofs.«01_k».proof.Proof.Pre
public import Idealize.ShloMosaic.Lib.LayoutAt

@[expose] public section

set_option maxRecDepth 16384

noncomputable section

namespace Cert.Proof.AttnValue

open Idealize.ShloMosaic Idealize.ShloMosaic.TcCoe Idealize.SL.Sem
open Cert.Proof.Attn (Seq keysAt valsAt actsAt colsAt rowsAt resultAt W₂ outOf)
open Cert.Proof.Softmax

attribute [local irreducible] Cert.Proof.Attn.outOf refOut

variable (m : (ℓ : Loc Cert.KernelIdeal.nD Cert.KernelIdeal.τ Cert.KernelIdeal.sig) → Buf (Elt Ideal) ℓ)

/-- The kernel's arguments on a device. -/
abbrev acts (c : Dev Cert.KernelIdeal.nD) : FVec Ideal Cert.KernelIdeal.S1x1024x1024 .bf16 := m ((c.tc : Thread Cert.KernelIdeal.nD Cert.KernelIdeal.τ).loc Cert.KernelIdeal.main_arg0)
abbrev cols (c : Dev Cert.KernelIdeal.nD) : FVec Ideal Cert.KernelIdeal.S1024x1024 .bf16 := m ((c.tc : Thread Cert.KernelIdeal.nD Cert.KernelIdeal.τ).loc Cert.KernelIdeal.main_arg1)
abbrev keys (c : Dev Cert.KernelIdeal.nD) : FVec Ideal Cert.KernelIdeal.S1x1024x64x128 .bf16 := m ((c.tc : Thread Cert.KernelIdeal.nD Cert.KernelIdeal.τ).loc Cert.KernelIdeal.main_arg2)
abbrev vals (c : Dev Cert.KernelIdeal.nD) : FVec Ideal Cert.KernelIdeal.S1x1024x64x128 .bf16 := m ((c.tc : Thread Cert.KernelIdeal.nD Cert.KernelIdeal.τ).loc Cert.KernelIdeal.main_arg3)
abbrev rows (c : Dev Cert.KernelIdeal.nD) : FVec Ideal Cert.KernelIdeal.S1024x1024 .bf16 := m ((c.tc : Thread Cert.KernelIdeal.nD Cert.KernelIdeal.τ).loc Cert.KernelIdeal.main_arg4)

/-- The whole arrays that the devices hold blocks of. -/
structure Whole (x : FVec Ideal Cert.KernelIdeal.S1x1024x1024 .bf16) (wq : FVec Ideal Cert.ReferenceIdeal.S1024x8192 .bf16) (k v : FVec Ideal Cert.ReferenceIdeal.S1x8192x64x128 .bf16)
    (wo : FVec Ideal Cert.ReferenceIdeal.S8192x1024 .bf16) : Prop where
  acts : ∀ c, acts m c = x
  cols : ∀ c, cols m c = Layout.block ⟨2, ![1024, 1024]⟩ ⟨2, ![1024, 8192]⟩ 1 8 c wq
  keys : ∀ c, keys m c = Layout.block ⟨4, ![1, 1024, 64, 128]⟩ ⟨4, ![1, 8192, 64, 128]⟩ 1 8 c k
  vals : ∀ c, vals m c = Layout.block ⟨4, ![1, 1024, 64, 128]⟩ ⟨4, ![1, 8192, 64, 128]⟩ 1 8 c v
  rows : ∀ c, rows m c = Layout.block ⟨2, ![1024, 1024]⟩ ⟨2, ![8192, 1024]⟩ 0 8 c wo

variable {m} {x : FVec Ideal Cert.KernelIdeal.S1x1024x1024 .bf16} {wq : FVec Ideal Cert.ReferenceIdeal.S1024x8192 .bf16} {k v : FVec Ideal Cert.ReferenceIdeal.S1x8192x64x128 .bf16}
  {wo : FVec Ideal Cert.ReferenceIdeal.S8192x1024 .bf16}

theorem block_cols (c : Fin 8) (w : FVec Ideal Cert.ReferenceIdeal.S1024x8192 .bf16) (l e : Fin 1024) :
    Layout.block ⟨2, ![1024, 1024]⟩ ⟨2, ![1024, 8192]⟩ 1 8 c w (by decide) (ix2 l e) = w (ix2 l (place c e)) := by
  refine congrArg w (funext fun b => Fin.ext ?_)
  match b with
  | ⟨0, _⟩ => rfl
  | ⟨1, _⟩ => exact congrArg (· + e.val) (Nat.mul_comm c.val 1024)

theorem block_rows (c : Fin 8) (w : FVec Ideal Cert.ReferenceIdeal.S8192x1024 .bf16) (e n : Fin 1024) :
    Layout.block ⟨2, ![1024, 1024]⟩ ⟨2, ![8192, 1024]⟩ 0 8 c w (by decide) (ix2 e n) = w (ix2 (place c e) n) := by
  refine congrArg w (funext fun b => Fin.ext ?_)
  match b with
  | ⟨0, _⟩ => exact congrArg (· + e.val) (Nat.mul_comm c.val 1024)
  | ⟨1, _⟩ => rfl

theorem block_seq (c : Fin 8) (w : FVec Ideal Cert.ReferenceIdeal.S1x8192x64x128 .bf16) (j : Fin 1024) (h : Fin 64) (e : Fin 128) :
    Layout.block ⟨4, ![1, 1024, 64, 128]⟩ ⟨4, ![1, 8192, 64, 128]⟩ 1 8 c w (by decide) (ix4 0 j h e) = w (ix4 0 (place c j) h e) := by
  refine congrArg w (funext fun b => Fin.ext ?_)
  match b with
  | ⟨0, _⟩ => rfl
  | ⟨1, _⟩ => exact congrArg (· + j.val) (Nat.mul_comm c.val 1024)
  | ⟨2, _⟩ => rfl
  | ⟨3, _⟩ => rfl

theorem cols_at (hb : Whole m x wq k v wo) (c : Dev Cert.KernelIdeal.nD) (l e : Fin 1024) : cols m c (ix2 l e) = wq (ix2 l (place c e)) :=
  (congrFun (hb.cols c) _).trans (block_cols c wq l e)
theorem keys_at (hb : Whole m x wq k v wo) (s : Dev Cert.KernelIdeal.nD) (j : Fin 1024) (h : Fin 64) (e : Fin 128) : keys m s (ix4 0 j h e) = k (ix4 0 (place s j) h e) :=
  (congrFun (hb.keys s) _).trans (block_seq s k j h e)
theorem vals_at (hb : Whole m x wq k v wo) (s : Dev Cert.KernelIdeal.nD) (j : Fin 1024) (h : Fin 64) (e : Fin 128) : vals m s (ix4 0 j h e) = v (ix4 0 (place s j) h e) :=
  (congrFun (hb.vals s) _).trans (block_seq s v j h e)
theorem rows_at (hb : Whole m x wq k v wo) (c : Dev Cert.KernelIdeal.nD) (e n : Fin 1024) : rows m c (ix2 e n) = wo (ix2 (place c e) n) :=
  (congrFun (hb.rows c) _).trans (block_rows c wo e n)

theorem place_of (J : Fin 8192) : place ⟨J.val / 1024, by show _ < 8; omega⟩ ⟨J.val % 1024, by omega⟩ = J := Fin.ext (Nat.div_add_mod _ _)

/-- A whole array of real numbers, from its blocks. -/
theorem whole_real (hb : Whole m x wq k v wo) (h : Cert.Pre_KernelIdeal_finite_KernelIdeal m) : (∀ z, IsReal (x z)) ∧ (∀ z, IsReal (wq z)) ∧ (∀ z, IsReal (k z)) := by
  have hf := fun c => Cert.Proof.Attn.finite_of_pre _ _ _ _ _ (h c)
  have hw : ∀ (l : Fin 1024) (J : Fin 8192), IsReal (wq (ix2 l J)) := fun l J => by
    have e := cols_at hb ⟨J.val / 1024, by show _ < 8; omega⟩ l ⟨J.val % 1024, by omega⟩
    rw [place_of] at e
    rw [← e]
    exact (hf _).2.1 _
  have hk : ∀ (J : Fin 8192) (n : Fin 64) (e : Fin 128), IsReal (k (ix4 0 J n e)) := fun J n e => by
    have e := keys_at hb ⟨J.val / 1024, by show _ < 8; omega⟩ ⟨J.val % 1024, by omega⟩ n e
    rw [place_of] at e
    rw [← e]
    exact (hf _).2.2 _
  refine ⟨fun z => ?_, fun z => ?_, fun z => ?_⟩
  · rw [← hb.acts 0]; exact (hf 0).1 z
  · rw [eq_ix2 z]; exact hw _ _
  · obtain ⟨J, n, e, rfl⟩ : ∃ (J : Fin 8192) (n : Fin 64) (e : Fin 128), z = ix4 0 J n e :=
      ⟨z 1, z 2, z 3, (eq_ix4 z).trans (congrArg (fun u : Fin 1 => ix4 u (z 1) (z 2) (z 3)) (Subsingleton.elim (α := Fin 1) _ _))⟩
    exact hk J n e

/-- The kernel's result on every device is the reference's. -/
theorem result_value (hb : Whole m x wq k v wo) (h : Cert.Pre_KernelIdeal_finite_KernelIdeal m) (c : Dev Cert.KernelIdeal.nD) : resultAt m c = refOut x wq k v wo := by
  obtain ⟨hx, hw, hk⟩ := whole_real hb h
  choose a ha using fun h i j => score_real x wq k hx hw hk h i j
  funext z
  obtain ⟨i, n, rfl⟩ : ∃ i n : Fin 1024, z = ix3 0 i n := ⟨z 1, z 2, (eq_ix3 z).trans (congrArg (fun u : Fin 1 => ix3 u (z 1) (z 2)) (Subsingleton.elim _ _))⟩
  unfold resultAt
  refine out_at x wq k v wo a ha (keysAt m) (valsAt m) (actsAt m) (colsAt m) (rowsAt m) (fun c' i' l => ?_) (fun c l e => ?_) (fun s h j e => ?_) (fun s h j e => ?_) (fun c e n => ?_) c i n
  · rw [acts_apply]; exact congrFun (hb.acts c') _
  · rw [cols_apply]; exact cols_at hb c l e
  · rw [keys_eq, headsFirst_apply]; exact keys_at hb s j h e
  · rw [vals_eq, headsFirst_apply]; exact vals_at hb s j h e
  · rw [rows_apply]; exact rows_at hb c e n

/-- The value claim. -/
theorem algebraic : Cert.algebraic_KernelIdeal_ReferenceIdeal_pre_finite_KernelIdeal := by
  intro m g m' g' hpre hargs
  have hb : Whole m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c => (hargs c).1, fun c => (hargs c).2.1, fun c => (hargs c).2.2.1, fun c => (hargs c).2.2.2.1, fun c => (hargs c).2.2.2.2⟩
  refine ⟨Cert.ReferenceIdeal.Value.res_main_v49 m' 0, ?_, ?_⟩
  · refine (θ_run Cert.KernelIdeal.defs _ _).mono (fun r hr c => ⟨?_, Cert.Proof.Attn.kept_of_ends m c (hr.1 c)⟩) (Cert.Proof.Attn.run_main m g)
    refine ((hr.1 c).1.2.2.2.2.2.trans (out_eq m c)).trans ((result_value hb hpre c).trans ?_)
    rw [Cert.Proof.AttnRef.result_eq]
    unfold refOut; rfl
  · exact (θ_run Cert.ReferenceIdeal.defs _ _).mono (fun r hr => hr 0) (Cert.ReferenceIdeal.Value.run m' g')

end Cert.Proof.AttnValue

end
-- ==== Proof.lean ====
/- The proof of the certificate's claim, put together from the modules under Proof/. -/
module

public import proofs.«01_k».proof.Defs
public import proofs.«01_k».proof.Proof.Frames
public import proofs.«01_k».proof.Proof.Host
public import proofs.«01_k».proof.Proof.Pre
public import proofs.«01_k».proof.Proof.Algebraic
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Attn.pre_kernel_facts, Attn.pre_reference_facts,
    Attn.frame_kernel, Attn.frame_ideal, fun m g _ => Attn.frame_ideal m g trivial, Attn.frame_reference, fun m g _ => Attn.frame_reference m g trivial,
    Attn.preserves, AttnValue.algebraic⟩

end Cert.Proof

end
